-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_pre_na [hPre_pre_na : Cert.Pre_pre_na.Facts] (m : (ℓ : Loc Cert.AttnIdeal.nD Cert.AttnIdeal.τ Cert.AttnIdeal.sig) → Buf (Elt Ideal) ℓ) : Prop :=
  ∀ c : Dev Cert.AttnIdeal.nD,
    (Cert.Pre_pre_na.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_pre_na [hPre_pre_na : Cert.Pre_pre_na.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_pre_na.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Experts [hPre_pre_ex : Cert.Pre_pre_ex.Facts] (m : (ℓ : Loc Cert.Experts.nD Cert.Experts.τ Cert.Experts.sig) → Buf (Elt Bits) ℓ) : Prop :=
  ∀ c : Dev Cert.Experts.nD,
    (Cert.Pre_pre_ex.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_pre_ex : Cert.Pre_pre_ex.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_pre_ex.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_pre_ex [hPre_pre_ex : Cert.Pre_pre_ex.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_pre_ex.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_pre_na [hAttnIdeal : Cert.AttnIdeal.Facts] [hPre_pre_na : Cert.Pre_pre_na.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_pre_na m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_pre_na [hAttnRefIdeal : Cert.AttnRefIdeal.Facts] [hPre_pre_na : Cert.Pre_pre_na.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_pre_na m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Experts [hExperts : Cert.Experts.Facts] [hPre_pre_ex : Cert.Pre_pre_ex.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_pre_ex : Cert.Pre_pre_ex.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_pre_ex [hExpertsRefIdeal : Cert.ExpertsRefIdeal.Facts] [hPre_pre_ex : Cert.Pre_pre_ex.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_pre_ex m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6)
      ∧ r.2.mem ((c.tc : Thread Cert.Outp.nD Cert.Outp.τ).loc Cert.Outp.main_arg7) = m ((c.tc : Thread Cert.Outp.nD Cert.Outp.τ).loc Cert.Outp.main_arg7))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
      ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m ((c.tc : Thread Cert.OutpRefIdeal.nD Cert.OutpRefIdeal.τ).loc Cert.OutpRefIdeal.main_arg6)
      ∧ r.2.mem ((c.tc : Thread Cert.OutpRefIdeal.nD Cert.OutpRefIdeal.τ).loc Cert.OutpRefIdeal.main_arg7) = m ((c.tc : Thread Cert.OutpRefIdeal.nD Cert.OutpRefIdeal.τ).loc Cert.OutpRefIdeal.main_arg7))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
      ∧ r.2.sem = fun _ => 0)

def preserves_Attn_AttnIdeal : Prop :=
  True

def algebraic_AttnIdeal_AttnRefIdeal_pre_pre_na [hAttnIdeal : Cert.AttnIdeal.Facts] [hAttnRefIdeal : Cert.AttnRefIdeal.Facts] [hPre_pre_na : Cert.Pre_pre_na.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_pre_na m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v22)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v22) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v145) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_pre_ex : Cert.Pre_pre_ex.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v63) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)
      ∧ m' ((c.tc : Thread Cert.OutpRefIdeal.nD Cert.OutpRefIdeal.τ).loc Cert.OutpRefIdeal.main_arg6) = m ((c.tc : Thread Cert.OutpIdeal.nD Cert.OutpIdeal.τ).loc Cert.OutpIdeal.main_arg6)
      ∧ m' ((c.tc : Thread Cert.OutpRefIdeal.nD Cert.OutpRefIdeal.τ).loc Cert.OutpRefIdeal.main_arg7) = m ((c.tc : Thread Cert.OutpIdeal.nD Cert.OutpIdeal.τ).loc Cert.OutpIdeal.main_arg7)) →
    ∃ (v0 : (c : Dev Cert.OutpIdeal.nD) → Buf (Elt Ideal) ((c.tc : Thread Cert.OutpIdeal.nD Cert.OutpIdeal.τ).loc Cert.OutpIdeal.main_v0_0)) (v1 : (c : Dev Cert.OutpIdeal.nD) → Buf (Elt Ideal) ((c.tc : Thread Cert.OutpIdeal.nD Cert.OutpIdeal.τ).loc Cert.OutpIdeal.main_v0_1)) (v2 : (c : Dev Cert.OutpIdeal.nD) → Buf (Elt Ideal) ((c.tc : Thread Cert.OutpIdeal.nD Cert.OutpIdeal.τ).loc Cert.OutpIdeal.main_v0_2)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v0_0) = v0 c
          ∧ r.2.mem ((c.tc : Thread Cert.OutpIdeal.nD Cert.OutpIdeal.τ).loc Cert.OutpIdeal.main_v0_1) = v1 c
          ∧ r.2.mem ((c.tc : Thread Cert.OutpIdeal.nD Cert.OutpIdeal.τ).loc Cert.OutpIdeal.main_v0_2) = v2 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
          ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v8) = v0 c
          ∧ r.2.mem ((c.tc : Thread Cert.OutpRefIdeal.nD Cert.OutpRefIdeal.τ).loc Cert.OutpRefIdeal.main_v30) = v1 c
          ∧ r.2.mem ((c.tc : Thread Cert.OutpRefIdeal.nD Cert.OutpRefIdeal.τ).loc Cert.OutpRefIdeal.main_v34) = v2 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
          ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6)
          ∧ r.2.mem ((c.tc : Thread Cert.OutpRefIdeal.nD Cert.OutpRefIdeal.τ).loc Cert.OutpRefIdeal.main_arg7) = m' ((c.tc : Thread Cert.OutpRefIdeal.nD Cert.OutpRefIdeal.τ).loc Cert.OutpRefIdeal.main_arg7))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v0)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v0) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v5) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hProj : Cert.Proj.Facts) (hProjIdeal : Cert.ProjIdeal.Facts) (hProjRefIdeal : Cert.ProjRefIdeal.Facts) (hOutp : Cert.Outp.Facts) (hOutpIdeal : Cert.OutpIdeal.Facts) (hOutpRefIdeal : Cert.OutpRefIdeal.Facts) (hModul : Cert.Modul.Facts) (hModulIdeal : Cert.ModulIdeal.Facts) (hModulRefIdeal : Cert.ModulRefIdeal.Facts) (hPre_pre_na : Cert.Pre_pre_na.Facts) (hPre_pre_ex : Cert.Pre_pre_ex.Facts),
    quiescent_Attn (hAttn := hAttn)
    ∧ quiescent_AttnIdeal (hAttnIdeal := hAttnIdeal)
    ∧ quiescent_AttnIdeal_pre_pre_na (hAttnIdeal := hAttnIdeal) (hPre_pre_na := hPre_pre_na)
    ∧ quiescent_AttnRefIdeal (hAttnRefIdeal := hAttnRefIdeal)
    ∧ quiescent_AttnRefIdeal_pre_pre_na (hAttnRefIdeal := hAttnRefIdeal) (hPre_pre_na := hPre_pre_na)
    ∧ quiescent_Experts (hExperts := hExperts) (hPre_pre_ex := hPre_pre_ex)
    ∧ quiescent_ExpertsIdeal (hExpertsIdeal := hExpertsIdeal) (hPre_pre_ex := hPre_pre_ex)
    ∧ quiescent_ExpertsRefIdeal (hExpertsRefIdeal := hExpertsRefIdeal)
    ∧ quiescent_ExpertsRefIdeal_pre_pre_ex (hExpertsRefIdeal := hExpertsRefIdeal) (hPre_pre_ex := hPre_pre_ex)
    ∧ quiescent_Proj (hProj := hProj)
    ∧ quiescent_ProjIdeal (hProjIdeal := hProjIdeal)
    ∧ quiescent_ProjRefIdeal (hProjRefIdeal := hProjRefIdeal)
    ∧ quiescent_Outp (hOutp := hOutp)
    ∧ quiescent_OutpIdeal (hOutpIdeal := hOutpIdeal)
    ∧ quiescent_OutpRefIdeal (hOutpRefIdeal := hOutpRefIdeal)
    ∧ quiescent_Modul (hModul := hModul)
    ∧ quiescent_ModulIdeal (hModulIdeal := hModulIdeal)
    ∧ quiescent_ModulRefIdeal (hModulRefIdeal := hModulRefIdeal)
    ∧ preserves_Attn_AttnIdeal
    ∧ algebraic_AttnIdeal_AttnRefIdeal_pre_pre_na (hAttnIdeal := hAttnIdeal) (hAttnRefIdeal := hAttnRefIdeal) (hPre_pre_na := hPre_pre_na)
    ∧ preserves_Experts_ExpertsIdeal
    ∧ algebraic_ExpertsIdeal_ExpertsRefIdeal (hExpertsIdeal := hExpertsIdeal) (hExpertsRefIdeal := hExpertsRefIdeal) (hPre_pre_ex := hPre_pre_ex)
    ∧ preserves_Proj_ProjIdeal
    ∧ algebraic_ProjIdeal_ProjRefIdeal (hProjIdeal := hProjIdeal) (hProjRefIdeal := hProjRefIdeal)
    ∧ preserves_Outp_OutpIdeal
    ∧ algebraic_OutpIdeal_OutpRefIdeal (hOutpIdeal := hOutpIdeal) (hOutpRefIdeal := hOutpRefIdeal)
    ∧ preserves_Modul_ModulIdeal
    ∧ algebraic_ModulIdeal_ModulRefIdeal (hModulIdeal := hModulIdeal) (hModulRefIdeal := hModulRefIdeal)
-- ==== Pre_pre_ex.lean ====
abbrev S448 : Shape := ⟨1, ![448]⟩
abbrev S1 : Shape := ⟨1, ![1]⟩
abbrev S114688x2048 : Shape := ⟨2, ![114688, 2048]⟩
abbrev S64x2048x512 : Shape := ⟨3, ![64, 2048, 512]⟩
abbrev S64x512x2048 : Shape := ⟨3, ![64, 512, 2048]⟩
abbrev S_ : Shape := ⟨0, ![]⟩

class Facts : Prop where
  bcast_S_S448 : S_.BroadcastsInDim S448 (![] : Fin 0 → Fin S448.rank)
  reducesTo_S448_S_d0 : S448.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S448 32) (main_arg1 : IVec S1 32) (main_arg2 : FVec F S114688x2048 .f32) (main_arg3 : FVec F S64x2048x512 .f32) (main_arg4 : FVec F S64x2048x512 .f32) (main_arg5 : FVec F S64x512x2048 .f32) : IVec S_ 1 :=
  let main_c : IVec S_ 32 := constantI S_ 32 0#32
  let main_v0 : IVec S448 32 := broadcastInDim S448 ![] bcast_S_S448 main_c
  let main_v1 : IVec S448 1 := cmpi .sge main_arg0 main_v0
  let main_c_0 : IVec S_ 32 := constantI S_ 32 64#32
  let main_v2 : IVec S448 32 := broadcastInDim S448 ![] bcast_S_S448 main_c_0
  let main_v3 : IVec S448 1 := cmpi .slt main_arg0 main_v2
  let main_v4 : IVec S448 1 := andi main_v1 main_v3
  let main_c_1 : IVec S_ 1 := constantI S_ 1 1#1
  let main_v5 : IVec S_ 1 := (fun x v => Host.reduce IntOp.andi x v reducesTo_S448_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 448#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_pre_na.lean ====
abbrev S4x52x4096x128 : Shape := ⟨4, ![4, 52, 4096, 128]⟩
abbrev S64 : Shape := ⟨1, ![64]⟩
abbrev S16x15x31 : Shape := ⟨3, ![16, 15, 31]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S4x52x4096x128 .bf16) (main_arg1 : FVec F S64 .f32) (main_arg2 : FVec F S64 .f32) (main_arg3 : FVec F S16x15x31 .f32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S16x15x31 .f32 := Host.absf main_arg3
  let main_cst_2 : FVec F S_ .f32 := constant S_ .f32 0x7F800000#32
  let main_v10 : FVec F S16x15x31 .f32 := broadcastInDim S16x15x31 ![] bcast_S_S16x15x31 main_cst_2
  let main_v11 : IVec S16x15x31 1 := cmpf .olt main_v9 main_v10
  let main_c_3 : IVec S_ 1 := constantI S_ 1 1#1
  let main_v12 : IVec S_ 1 := (fun x v => Host.reduce IntOp.andi x v reducesTo_S16x15x31_S_d0_1_2 h_S_) main_v11 main_c_3
  let main_v13 : IVec S_ 1 := andi main_v8 main_v12
  main_v13
-- ==== Attn.lean ====
abbrev S4x52x4096x128 : Shape := ⟨4, ![4, 52, 4096, 128]⟩
abbrev S64 : Shape := ⟨1, ![64]⟩
abbrev S16x15x31 : Shape := ⟨3, ![16, 15, 31]⟩
abbrev S128x128 : Shape := ⟨2, ![128, 128]⟩
abbrev S64x64 : Shape := ⟨2, ![64, 64]⟩
abbrev S8x8 : Shape := ⟨2, ![8, 8]⟩
abbrev S1x1x1x64x64 : Shape := ⟨5, ![1, 1, 1, 64, 64]⟩
abbrev S_ : Shape := ⟨0, ![]⟩
abbrev S64x64x1 : Shape := ⟨3, ![64, 64, 1]⟩
abbrev S16x15x64x64 : Shape := ⟨4, ![16, 15, 64, 64]⟩
abbrev S8x8x1 : Shape := ⟨3, ![8, 8, 1]⟩
abbrev S16x8x8x64x64 : Shape := ⟨5, ![16, 8, 8, 64, 64]⟩
abbrev S8x16x64x8x64 : Shape := ⟨5, ![8, 16, 64, 8, 64]⟩
abbrev S8x8x128x512 : Shape := ⟨4, ![8, 8, 128, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4x4096x1024 : Shape := ⟨3, ![4, 4096, 1024]⟩
abbrev S1x1x512x128 : Shape := ⟨4, ![1, 1, 512, 128]⟩
abbrev S1x1x4096x128 : Shape := ⟨4, ![1, 1, 4096, 128]⟩
abbrev S8x1x128x512 : Shape := ⟨4, ![8, 1, 128, 512]⟩
abbrev S1x512x128 : Shape := ⟨3, ![1, 512, 128]⟩
abbrev S4096x128 : Shape := ⟨2, ![4096, 128]⟩
abbrev S512x128 : Shape := ⟨2, ![512, 128]⟩
abbrev S64x128 : Shape := ⟨2, ![64, 128]⟩
abbrev S1x1x64x128 : Shape := ⟨4, ![1, 1, 64, 128]⟩
abbrev S128x512 : Shape := ⟨2, ![128, 512]⟩
abbrev S1x1x128x512 : Shape := ⟨4, ![1, 1, 128, 512]⟩
abbrev S128x1 : Shape := ⟨2, ![128, 1]⟩
abbrev S1x64x128 : Shape := ⟨3, ![1, 64, 128]⟩

abbrev nBuf : Space → Nat
  | .hbm => 39
  | .vmem => 14
  | .smem => 0
  | _ => 0

abbrev bufTy : (tb : Table) → Fin (tcTables nBuf tb) → BufTy
  | .hbm, ⟨0, _⟩ => ⟨S4x52x4096x128, .bf16⟩
  | .hbm, ⟨1, _⟩ => ⟨S64, .f32⟩
  | .hbm, ⟨2, _⟩ => ⟨S64, .f32⟩
  | .hbm, ⟨3, _⟩ => ⟨S16x15x31, .f32⟩
  | .hbm, ⟨4, _⟩ => ⟨S128x128, .f32⟩
  | .hbm, ⟨5, _⟩ => ⟨S64x64, .i32⟩
  | .hbm, ⟨6, _⟩ => ⟨S64x64, .i1⟩
  | .hbm, ⟨7, _⟩ => ⟨S8x8, .i32⟩
  | .hbm, ⟨8, _⟩ => ⟨S8x8, .i1⟩
  | .hbm, ⟨9, _⟩ => ⟨S64x64, .i1⟩
  | .hbm, ⟨10, _⟩ => ⟨S1x1x1x64x64, .i1⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64x1, .i32⟩
  | .hbm, ⟨16, _⟩ => ⟨S16x15x64x64, .f32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i32⟩
  | .hbm, ⟨21, _⟩ => ⟨S8x8x1, .i32⟩
  | .hbm, ⟨22, _⟩ => ⟨S16x8x8x64x64, .f32⟩
  | .hbm, ⟨23, _⟩ => ⟨S_, .f32⟩
  | .hbm, ⟨24, _⟩ => ⟨S_, .f32⟩
  | .hbm, ⟨25, _⟩ => ⟨S16x8x8x64x64, .i1⟩
  | .hbm, ⟨26, _⟩ => ⟨S16x8x8x64x64, .f32⟩
  | .hbm, ⟨27, _⟩ => ⟨S16x8x8x64x64, .f32⟩
  | .hbm, ⟨28, _⟩ => ⟨S8x16x64x8x64, .f32⟩
  | .hbm, ⟨29, _⟩ => ⟨S8x8x128x512, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S4x4096x1024, .bf16⟩
  | .local _ .vmem, ⟨0, _⟩ => ⟨S1x1x512x128, .bf16⟩
  | .local _ .vmem, ⟨1, _⟩ => ⟨S1x1x512x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S8x1x128x512, .f32⟩
  | .local _ .vmem, ⟨7, _⟩ => ⟨S8x1x128x512, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x512x128, .bf16⟩
  | .local _ .vmem, ⟨12, _⟩ => ⟨S1x512x128, .bf16⟩
  | .local _ .vmem, ⟨13, _⟩ => ⟨S4096x128, .bf16⟩
  | _, _ => ⟨S4x52x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_c_4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_6 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 8, 8], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_1 : BitVec 32 := 0#32
  let v3 : BitVec 1 := Scalar.cmpi .ne v2 c0_i32_1
  v3

@[reducible] def k0_t1_loop : Scf.Loop 32 :=
  let c0_i32_326 : BitVec 32 := 0#32
  let c8_i32_327 : BitVec 32 := 8#32
  let v736 : BitVec 32 := Scalar.addi c0_i32_326 c8_i32_327
  let c1_i32_328 : BitVec 32 := 1#32
  ⟨c0_i32_326, v736, c1_i32_328⟩
def k0_mult1 (k0_t1 : Fin k0_t1_loop.trips) : BitVec 32 :=
  let c0_i32_326 : BitVec 32 := 0#32
  let c1_i32_328 : BitVec 32 := 1#32
  let arg12 : BitVec 32 := Scf.iv c0_i32_326 c1_i32_328 k0_t1
  let c512_i32 : BitVec 32 := 512#32
  let v737 : BitVec 32 := Scalar.muli arg12 c512_i32
  v737
def k0_off1 (k0_t1 : Fin k0_t1_loop.trips) : Fin 4 → Nat :=
  let c0_330 : Index := 0#32
  let c0_331 : Index := 0#32
  let c0_i32_326 : BitVec 32 := 0#32
  let c1_i32_328 : BitVec 32 := 1#32
  let arg12 : BitVec 32 := Scf.iv c0_i32_326 c1_i32_328 k0_t1
  let c512_i32 : BitVec 32 := 512#32
  let v737 : BitVec 32 := Scalar.muli arg12 c512_i32
  let v738 : BitVec 32 := v737
  let v739 : Index := Scalar.indexCast v738
  let c0_332 : Index := 0#32
  ![0, 0, v739.toNat, 0]
def k0_off2 (k0_t1 : Fin k0_t1_loop.trips) : Fin 2 → Nat :=
  let c0_i32_326 : BitVec 32 := 0#32
  let c1_i32_328 : BitVec 32 := 1#32
  let arg12 : BitVec 32 := Scf.iv c0_i32_326 c1_i32_328 k0_t1
  let c512_i32 : BitVec 32 := 512#32
  let v737 : BitVec 32 := Scalar.muli arg12 c512_i32
  let v738 : BitVec 32 := v737
  let v756 : Index := Scalar.indexCast v738
  let c0_338 : Index := 0#32
  ![v756.toNat, 0]
def k0_mult2 (i : grid0.Coords) : BitVec 32 :=
  let c56_i32 : BitVec 32 := 56#32
  let c0_i32_15 : BitVec 32 := 0#32
  let arg2 : BitVec 32 := BitVec.ofNat 32 (i 2).val
  let c8_i32 : BitVec 32 := 8#32
  let v56 : BitVec 32 := Scalar.muli arg2 c8_i32
  let c0_i32_14 : BitVec 32 := 0#32
  let v57 : BitVec 32 := Scalar.addi v56 c0_i32_14
  let c4_i32 : BitVec 32 := 4#32
  let v58 : BitVec 32 := Scalar.subi v57 c4_i32
  let v59 : BitVec 32 := Scalar.maxsi c0_i32_15 v58
  let v60 : BitVec 32 := Scalar.minsi c56_i32 v59
  let c64_i32_28 : BitVec 32 := 64#32
  let v85 : BitVec 32 := Scalar.muli v60 c64_i32_28
  v85
def k0_off3 (i : grid0.Coords) (c0_i32_14 : BitVec 32) : Fin 2 → Nat :=
  let c56_i32 : BitVec 32 := 56#32
  let c0_i32_15 : BitVec 32 := 0#32
  let arg2 : BitVec 32 := BitVec.ofNat 32 (i 2).val
  let c8_i32 : BitVec 32 := 8#32
  let v56 : BitVec 32 := Scalar.muli arg2 c8_i32
  let v57 : BitVec 32 := Scalar.addi v56 c0_i32_14
  let c4_i32 : BitVec 32 := 4#32
  let v58 : BitVec 32 := Scalar.subi v57 c4_i32
  let v59 : BitVec 32 := Scalar.maxsi c0_i32_15 v58
  let v60 : BitVec 32 := Scalar.minsi c56_i32 v59
  let c64_i32_28 : BitVec 32 := 64#32
  let v85 : BitVec 32 := Scalar.muli v60 c64_i32_28
  let v86 : BitVec 32 := v85
  let v87 : Index := Scalar.indexCast v86
  let c0_29 : Index := 0#32
  ![v87.toNat, 0]
def k0_off4 (i : grid0.Coords) (c0_i32_14 : BitVec 32) : Fin 4 → Nat :=
  let c0_30 : Index := 0#32
  let c0_31 : Index := 0#32
  let c56_i32 : BitVec 32 := 56#32
  let c0_i32_15 : BitVec 32 := 0#32
  let arg2 : BitVec 32 := BitVec.ofNat 32 (i 2).val
  let c8_i32 : BitVec 32 := 8#32
  let v56 : BitVec 32 := Scalar.muli arg2 c8_i32
  let v57 : BitVec 32 := Scalar.addi v56 c0_i32_14
  let c4_i32 : BitVec 32 := 4#32
  let v58 : BitVec 32 := Scalar.subi v57 c4_i32
  let v59 : BitVec 32 := Scalar.maxsi c0_i32_15 v58
  let v60 : BitVec 32 := Scalar.minsi c56_i32 v59
  let c64_i32_28 : BitVec 32 := 64#32
  let v85 : BitVec 32 := Scalar.muli v60 c64_i32_28
  let v86 : BitVec 32 := v85
  let v89 : Index := Scalar.indexCast v86
  let c0_32 : Index := 0#32
  ![0, 0, v89.toNat, 0]
def k0_off5 (i : grid0.Coords) (c0_i32_14 : BitVec 32) : Fin 4 → Nat :=
  let c56_i32 : BitVec 32 := 56#32
  let c0_i32_15 : BitVec 32 := 0#32
  let arg2 : BitVec 32 := BitVec.ofNat 32 (i 2).val
  let c8_i32 : BitVec 32 := 8#32
  let v56 : BitVec 32 := Scalar.muli arg2 c8_i32
  let v57 : BitVec 32 := Scalar.addi v56 c0_i32_14
  let c4_i32 : BitVec 32 := 4#32
  let v58 : BitVec 32 := Scalar.subi v57 c4_i32
  let v59 : BitVec 32 := Scalar.maxsi c0_i32_15 v58
  let v60 : BitVec 32 := Scalar.minsi c56_i32 v59
  let v61 : BitVec 32 := Scalar.subi v60 v57
  let c8_i32_16 : BitVec 32 := 8#32
  let v62 : BitVec 32 := Scalar.addi v61 c8_i32_16
  let c1_i32_17 : BitVec 32 := 1#32
  let v63 : BitVec 32 := Scalar.subi v62 c1_i32_17
  let v93 : Index := Scalar.indexCast v63
  let c0_34 : Index := 0#32
  let c0_35 : Index := 0#32
  let c0_36 : Index := 0#32
  ![v93.toNat, 0, 0, 0]
def k0_mult3 (i : grid0.Coords) : BitVec 32 :=
  let c56_i32_55 : BitVec 32 := 56#32
  let c0_i32_54 : BitVec 32 := 0#32
  let arg2 : BitVec 32 := BitVec.ofNat 32 (i 2).val
  let c8_i32_51 : BitVec 32 := 8#32
  let v141 : BitVec 32 := Scalar.muli arg2 c8_i32_51
  let c1_i32_52 : BitVec 32 := 1#32
  let v142 : BitVec 32 := Scalar.addi v141 c1_i32_52
  let c4_i32_53 : BitVec 32 := 4#32
  let v143 : BitVec 32 := Scalar.subi v142 c4_i32_53
  let v144 : BitVec 32 := Scalar.maxsi c0_i32_54 v143
  let v145 : BitVec 32 := Scalar.minsi c56_i32_55 v144
  let c64_i32_68 : BitVec 32 := 64#32
  let v170 : BitVec 32 := Scalar.muli v145 c64_i32_68
  v170
def k0_mult4 (i : grid0.Coords) : BitVec 32 :=
  let c56_i32_94 : BitVec 32 := 56#32
  let c0_i32_93 : BitVec 32 := 0#32
  let arg2 : BitVec 32 := BitVec.ofNat 32 (i 2).val
  let c8_i32_91 : BitVec 32 := 8#32
  let v226 : BitVec 32 := Scalar.muli arg2 c8_i32_91
  let c2_i32 : BitVec 32 := 2#32
  let v227 : BitVec 32 := Scalar.addi v226 c2_i32
  let c4_i32_92 : BitVec 32 := 4#32
  let v228 : BitVec 32 := Scalar.subi v227 c4_i32_92
  let v229 : BitVec 32 := Scalar.maxsi c0_i32_93 v228
  let v230 : BitVec 32 := Scalar.minsi c56_i32_94 v229
  let c64_i32_107 : BitVec 32 := 64#32
  let v255 : BitVec 32 := Scalar.muli v230 c64_i32_107
  v255
def k0_mult5 (i : grid0.Coords) : BitVec 32 :=
  let c56_i32_133 : BitVec 32 := 56#32
  let c0_i32_132 : BitVec 32 := 0#32
  let arg2 : BitVec 32 := BitVec.ofNat 32 (i 2).val
  let c8_i32_130 : BitVec 32 := 8#32
  let v311 : BitVec 32 := Scalar.muli arg2 c8_i32_130
  let c3_i32 : BitVec 32 := 3#32
  let v312 : BitVec 32 := Scalar.addi v311 c3_i32
  let c4_i32_131 : BitVec 32 := 4#32
  let v313 : BitVec 32 := Scalar.subi v312 c4_i32_131
  let v314 : BitVec 32 := Scalar.maxsi c0_i32_132 v313
  let v315 : BitVec 32 := Scalar.minsi c56_i32_133 v314
  let c64_i32_146 : BitVec 32 := 64#32
  let v340 : BitVec 32 := Scalar.muli v315 c64_i32_146
  v340
def k0_mult6 (i : grid0.Coords) : BitVec 32 :=
  let c56_i32_173 : BitVec 32 := 56#32
  let c0_i32_172 : BitVec 32 := 0#32
  let arg2 : BitVec 32 := BitVec.ofNat 32 (i 2).val
  let c8_i32_169 : BitVec 32 := 8#32
  let v396 : BitVec 32 := Scalar.muli arg2 c8_i32_169
  let c4_i32_170 : BitVec 32 := 4#32
  let v397 : BitVec 32 := Scalar.addi v396 c4_i32_170
  let c4_i32_171 : BitVec 32 := 4#32
  let v398 : BitVec 32 := Scalar.subi v397 c4_i32_171
  let v399 : BitVec 32 := Scalar.maxsi c0_i32_172 v398
  let v400 : BitVec 32 := Scalar.minsi c56_i32_173 v399
  let c64_i32_186 : BitVec 32 := 64#32
  let v425 : BitVec 32 := Scalar.muli v400 c64_i32_186
  v425
def k0_mult7 (i : grid0.Coords) : BitVec 32 :=
  let c56_i32_212 : BitVec 32 := 56#32
  let c0_i32_211 : BitVec 32 := 0#32
  let arg2 : BitVec 32 := BitVec.ofNat 32 (i 2).val
  let c8_i32_209 : BitVec 32 := 8#32
  let v481 : BitVec 32 := Scalar.muli arg2 c8_i32_209
  let c5_i32 : BitVec 32 := 5#32
  let v482 : BitVec 32 := Scalar.addi v481 c5_i32
  let c4_i32_210 : BitVec 32 := 4#32
  let v483 : BitVec 32 := Scalar.subi v482 c4_i32_210
  let v484 : BitVec 32 := Scalar.maxsi c0_i32_211 v483
  let v485 : BitVec 32 := Scalar.minsi c56_i32_212 v484
  let c64_i32_225 : BitVec 32 := 64#32
  let v510 : BitVec 32 := Scalar.muli v485 c64_i32_225
  v510
def k0_mult8 (i : grid0.Coords) : BitVec 32 :=
  let c56_i32_251 : BitVec 32 := 56#32
  let c0_i32_250 : BitVec 32 := 0#32
  let arg2 : BitVec 32 := BitVec.ofNat 32 (i 2).val
  let c8_i32_248 : BitVec 32 := 8#32
  let v566 : BitVec 32 := Scalar.muli arg2 c8_i32_248
  let c6_i32 : BitVec 32 := 6#32
  let v567 : BitVec 32 := Scalar.addi v566 c6_i32
  let c4_i32_249 : BitVec 32 := 4#32
  let v568 : BitVec 32 := Scalar.subi v567 c4_i32_249
  let v569 : BitVec 32 := Scalar.maxsi c0_i32_250 v568
  let v570 : BitVec 32 := Scalar.minsi c56_i32_251 v569
  let c64_i32_264 : BitVec 32 := 64#32
  let v595 : BitVec 32 := Scalar.muli v570 c64_i32_264
  v595
def k0_mult9 (i : grid0.Coords) : BitVec 32 :=
  let c56_i32_290 : BitVec 32 := 56#32
  let c0_i32_289 : BitVec 32 := 0#32
  let arg2 : BitVec 32 := BitVec.ofNat 32 (i 2).val
  let c8_i32_287 : BitVec 32 := 8#32
  let v651 : BitVec 32 := Scalar.muli arg2 c8_i32_287
  let c7_i32 : BitVec 32 := 7#32
  let v652 : BitVec 32 := Scalar.addi v651 c7_i32
  let c4_i32_288 : BitVec 32 := 4#32
  let v653 : BitVec 32 := Scalar.subi v652 c4_i32_288
  let v654 : BitVec 32 := Scalar.maxsi c0_i32_289 v653
  let v655 : BitVec 32 := Scalar.minsi c56_i32_290 v654
  let c64_i32_303 : BitVec 32 := 64#32
  let v680 : BitVec 32 := Scalar.muli v655 c64_i32_303
  v680
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, v0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S4x52x4096x128 : Shape := ⟨4, ![4, 52, 4096, 128]⟩
abbrev S64 : Shape := ⟨1, ![64]⟩
abbrev S16x15x31 : Shape := ⟨3, ![16, 15, 31]⟩
abbrev S4x8x4096x128 : Shape := ⟨4, ![4, 8, 4096, 128]⟩
abbrev S4x8x4096x2x64 : Shape := ⟨5, ![4, 8, 4096, 2, 64]⟩
abbrev S4x8x2x4096x64 : Shape := ⟨5, ![4, 8, 2, 4096, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S1x1x1x64 : Shape := ⟨4, ![1, 1, 1, 64]⟩
abbrev S4x16x64x64x64 : Shape := ⟨5, ![4, 16, 64, 64, 64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S64x8x64 : Shape := ⟨3, ![64, 8, 64]⟩
abbrev S64x512 : Shape := ⟨2, ![64, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16x465 : Shape := ⟨2, ![16, 465]⟩
abbrev S64x1x512 : Shape := ⟨3, ![64, 1, 512]⟩
abbrev S1x64x512 : Shape := ⟨3, ![1, 64, 512]⟩
abbrev S64x64x512 : Shape := ⟨3, ![64, 64, 512]⟩
abbrev S64x64x512x1 : Shape := ⟨4, ![64, 64, 512, 1]⟩
abbrev S16x64x64x512 : Shape := ⟨4, ![16, 64, 64, 512]⟩
abbrev S64x512x1 : Shape := ⟨3, ![64, 512, 1]⟩
abbrev S4x16x64x512x64 : Shape := ⟨5, ![4, 16, 64, 512, 64]⟩
abbrev S4x16x64x64x512 : Shape := ⟨5, ![4, 16, 64, 64, 512]⟩
abbrev S1x16x64x64x512 : Shape := ⟨5, ![1, 16, 64, 64, 512]⟩
abbrev S4x16x64x64 : Shape := ⟨4, ![4, 16, 64, 64]⟩
abbrev S4x16x64x64x1 : Shape := ⟨5, ![4, 16, 64, 64, 1]⟩
abbrev S4x64x64x16x64 : Shape := ⟨5, ![4, 64, 64, 16, 64]⟩
abbrev S4x4096x1024 : Shape := ⟨3, ![4, 4096, 1024]⟩

abbrev nBuf : Space → Nat
  | .hbm => 200
  | .vmem => 0
  | .smem => 0
  | _ => 0

abbrev hbmTy0_0 (i : Nat) : BufTy := match i % 128 with
  | 0 => ⟨S4x52x4096x128, .bf16⟩
  | 1 => ⟨S64, .f32⟩
  | 2 => ⟨S64, .f32⟩
  | 3 => ⟨S16x15x31, .f32⟩
  | 4 => ⟨S4x8x4096x128, .bf16⟩
  | 5 => ⟨S4x8x4096x128, .f32⟩
  | 6 => ⟨S4x8x4096x2x64, .f32⟩
  | 7 => ⟨S4x8x2x4096x64, .f32⟩
  | 8 => ⟨S4x16x4096x64, .f32⟩
  | 9 => ⟨S4x16x4096x64, .f32⟩
  | 10 => ⟨S_, .f32⟩
  | 11 => ⟨S4x16x4096, .f32⟩
  | 12 => ⟨S4x16x4096x1, .f32⟩
  | 13 => ⟨S_, .f32⟩
  | 14 => ⟨S4x16x4096x1, .f32⟩
  | 15 => ⟨S4x16x4096x1, .f32⟩
  | 16 => ⟨S_, .f32⟩
  | 17 => ⟨S4x16x4096x1, .f32⟩
  | 18 => ⟨S4x16x4096x1, .f32⟩
  | 19 => ⟨S4x16x4096x1, .f32⟩
  | 20 => ⟨S4x16x4096x64, .f32⟩
  | 21 => ⟨S4x16x4096x64, .f32⟩
  | 22 => ⟨S1x1x1x64, .f32⟩
  | 23 => ⟨S4x16x4096x64, .f32⟩
  | 24 => ⟨S4x16x4096x64, .f32⟩
  | 25 => ⟨S_, .f32⟩
  | 26 => ⟨S4x16x4096x64, .f32⟩
  | 27 => ⟨S4x16x4096x64, .f32⟩
  | 28 => ⟨S4x8x4096x128, .bf16⟩
  | 29 => ⟨S4x8x4096x128, .f32⟩
  | 30 => ⟨S4x8x4096x2x64, .f32⟩
  | 31 => ⟨S4x8x2x4096x64, .f32⟩
  | 32 => ⟨S4x16x4096x64, .f32⟩
  | 33 => ⟨S4x16x4096x64, .f32⟩
  | 34 => ⟨S_, .f32⟩
  | 35 => ⟨S4x16x4096, .f32⟩
  | 36 => ⟨S4x16x4096x1, .f32⟩
  | 37 => ⟨S_, .f32⟩
  | 38 => ⟨S4x16x4096x1, .f32⟩
  | 39 => ⟨S4x16x4096x1, .f32⟩
  | 40 => ⟨S_, .f32⟩
  | 41 => ⟨S4x16x4096x1, .f32⟩
  | 42 => ⟨S4x16x4096x1, .f32⟩
  | 43 => ⟨S4x16x4096x1, .f32⟩
  | 44 => ⟨S4x16x4096x64, .f32⟩
  | 45 => ⟨S4x16x4096x64, .f32⟩
  | 46 => ⟨S1x1x1x64, .f32⟩
  | 47 => ⟨S4x16x4096x64, .f32⟩
  | 48 => ⟨S4x16x4096x64, .f32⟩
  | 49 => ⟨S4x8x4096x128, .bf16⟩
  | 50 => ⟨S4x8x4096x128, .f32⟩
  | 51 => ⟨S4x8x4096x2x64, .f32⟩
  | 52 => ⟨S4x8x2x4096x64, .f32⟩
  | 53 => ⟨S4x16x4096x64, .f32⟩
  | 54 => ⟨S4x16x64x64x64, .f32⟩
  | 55 => ⟨S64, .i32⟩
  | 56 => ⟨S64x1, .i32⟩
  | 57 => ⟨S64, .i32⟩
  | 58 => ⟨S64x1, .i32⟩
  | 59 => ⟨S_, .i32⟩
  | 60 => ⟨S64x1, .i32⟩
  | 61 => ⟨S64x1, .i32⟩
  | 62 => ⟨S_, .i32⟩
  | 63 => ⟨S_, .i32⟩
  | 64 => ⟨S_, .i32⟩
  | 65 => ⟨S64x1, .i32⟩
  | 66 => ⟨S64x1, .i32⟩
  | 67 => ⟨S_, .i32⟩
  | 68 => ⟨S64x1, .i32⟩
  | 69 => ⟨S64x1, .i32⟩
  | 70 => ⟨S8, .i32⟩
  | 71 => ⟨S1x8, .i32⟩
  | 72 => ⟨S64x8, .i32⟩
  | 73 => ⟨S64x8, .i32⟩
  | 74 => ⟨S64x8, .i32⟩
  | 75 => ⟨S64x8x1, .i32⟩
  | 76 => ⟨S64x8x64, .i32⟩
  | 77 => ⟨S64x512, .i32⟩
  | 78 => ⟨S64, .i32⟩
  | 79 => ⟨S1x64, .i32⟩
  | 80 => ⟨S8x64, .i32⟩
  | 81 => ⟨S512, .i32⟩
  | 82 => ⟨S_, .i32⟩
  | 83 => ⟨S64x512, .i32⟩
  | 84 => ⟨S64x512, .i32⟩
  | 85 => ⟨S1x512, .i32⟩
  | 86 => ⟨S64x512, .i32⟩
  | 87 => ⟨S64x512, .i32⟩
  | 88 => ⟨S_, .i32⟩
  | 89 => ⟨S64x1, .i32⟩
  | 90 => ⟨S64x1, .i32⟩
  | 91 => ⟨S_, .i32⟩
  | 92 => ⟨S_, .i32⟩
  | 93 => ⟨S_, .i32⟩
  | 94 => ⟨S64x1, .i32⟩
  | 95 => ⟨S64x1, .i32⟩
  | 96 => ⟨S_, .i32⟩
  | 97 => ⟨S64x1, .i32⟩
  | 98 => ⟨S64x1, .i32⟩
  | 99 => ⟨S1x512, .i32⟩
  | 100 => ⟨S64x512, .i32⟩
  | 101 => ⟨S64x512, .i32⟩
  | 102 => ⟨S64x512, .i1⟩
  | 103 => ⟨S_, .i32⟩
  | 104 => ⟨S64x1, .i32⟩
  | 105 => ⟨S64x1, .i32⟩
  | 106 => ⟨S1x512, .i32⟩
  | 107 => ⟨S64x512, .i32⟩
  | 108 => ⟨S64x512, .i32⟩
  | 109 => ⟨S64x512, .i1⟩
  | 110 => ⟨S64x512, .i1⟩
  | 111 => ⟨S64x512, .i32⟩
  | 112 => ⟨S64x512, .i32⟩
  | 113 => ⟨S_, .i32⟩
  | 114 => ⟨S64x512, .i32⟩
  | 115 => ⟨S64x512, .i32⟩
  | 116 => ⟨S_, .i32⟩
  | 117 => ⟨S64x512, .i32⟩
  | 118 => ⟨S64x512, .i32⟩
  | 119 => ⟨S1x512, .i32⟩
  | 120 => ⟨S64x512, .i32⟩
  | 121 => ⟨S64x512, .i32⟩
  | 122 => ⟨S64x512, .i32⟩
  | 123 => ⟨S_, .i32⟩
  | 124 => ⟨S64x512, .i32⟩
  | 125 => ⟨S64x512, .i32⟩
  | 126 => ⟨S_, .i32⟩
  | 127 => ⟨S64x512, .i32⟩
  | _ => ⟨S4x52x4096x128, .bf16⟩

abbrev hbmTy0_1 (i : Nat) : BufTy := match i % 128 with
  | 0 => ⟨S64x512, .i32⟩
  | 1 => ⟨S_, .i32⟩
  | 2 => ⟨S_, .i32⟩
  | 3 => ⟨S_, .i32⟩
  | 4 => ⟨S64x512, .i32⟩
  | 5 => ⟨S64x512, .i32⟩
  | 6 => ⟨S_, .i32⟩
  | 7 => ⟨S64x512, .i32⟩
  | 8 => ⟨S64x512, .i32⟩
  | 9 => ⟨S16x465, .f32⟩
  | 10 => ⟨S64x1x512, .i32⟩
  | 11 => ⟨S_, .i32⟩
  | 12 => ⟨S64x1x512, .i32⟩
  | 13 => ⟨S64x1x512, .i32⟩
  | 14 => ⟨S1x64x512, .i32⟩
  | 15 => ⟨S64x64x512, .i32⟩
  | 16 => ⟨S64x64x512, .i32⟩
  | 17 => ⟨S64x64x512, .i32⟩
  | 18 => ⟨S_, .i32⟩
  | 19 => ⟨S64x64x512, .i32⟩
  | 20 => ⟨S64x64x512, .i1⟩
  | 21 => ⟨S_, .i32⟩
  | 22 => ⟨S64x64x512, .i32⟩
  | 23 => ⟨S64x64x512, .i32⟩
  | 24 => ⟨S64x64x512, .i32⟩
  | 25 => ⟨S64x64x512x1, .i32⟩
  | 26 => ⟨S16x64x64x512, .f32⟩
  | 27 => ⟨S_, .i32⟩
  | 28 => ⟨S64x512, .i32⟩
  | 29 => ⟨S64x512, .i1⟩
  | 30 => ⟨S_, .i32⟩
  | 31 => ⟨S64x512, .i32⟩
  | 32 => ⟨S64x512, .i32⟩
  | 33 => ⟨S64x512, .i32⟩
  | 34 => ⟨S64x512x1, .i32⟩
  | 35 => ⟨S4x16x64x512x64, .f32⟩
  | 36 => ⟨S4x16x64x64x512, .f32⟩
  | 37 => ⟨S1x16x64x64x512, .f32⟩
  | 38 => ⟨S4x16x64x64x512, .f32⟩
  | 39 => ⟨S4x16x64x64x512, .f32⟩
  | 40 => ⟨S_, .f32⟩
  | 41 => ⟨S_, .f32⟩
  | 42 => ⟨S4x16x64x64x512, .i1⟩
  | 43 => ⟨S4x16x64x64x512, .f32⟩
  | 44 => ⟨S4x16x64x64x512, .f32⟩
  | 45 => ⟨S_, .f32⟩
  | 46 => ⟨S4x16x64x64, .f32⟩
  | 47 => ⟨S_, .f32⟩
  | 48 => ⟨S4x16x64x64, .f32⟩
  | 49 => ⟨S4x16x64x64, .f32⟩
  | 50 => ⟨S4x16x64x64x1, .f32⟩
  | 51 => ⟨S4x16x64x64x512, .f32⟩
  | 52 => ⟨S4x16x64x64x512, .f32⟩
  | 53 => ⟨S4x16x64x64x512, .f32⟩
  | 54 => ⟨S_, .f32⟩
  | 55 => ⟨S4x16x64x64, .f32⟩
  | 56 => ⟨S4x16x64x64x1, .f32⟩
  | 57 => ⟨S4x16x64x64x512, .f32⟩
  | 58 => ⟨S4x16x64x64x512, .f32⟩
  | 59 => ⟨S_, .i32⟩
  | 60 => ⟨S64x512, .i32⟩
  | 61 => ⟨S64x512, .i1⟩
  | 62 => ⟨S_, .i32⟩
  | 63 => ⟨S64x512, .i32⟩
  | 64 => ⟨S64x512, .i32⟩
  | 65 => ⟨S64x512, .i32⟩
  | 66 => ⟨S64x512x1, .i32⟩
  | 67 => ⟨S4x16x64x512x64, .f32⟩
  | 68 => ⟨S4x16x64x64x64, .f32⟩
  | 69 => ⟨S4x64x64x16x64, .f32⟩
  | 70 => ⟨S4x4096x1024, .f32⟩
  | 71 => ⟨S4x4096x1024, .bf16⟩
  | _ => ⟨S4x52x4096x128, .bf16⟩

abbrev hbmTy (i : Nat) : BufTy := match i / 128 with
  | 0 => hbmTy0_0 i
  | 1 => hbmTy0_1 i
  | _ => ⟨S4x52x4096x128, .bf16⟩

abbrev bufTy : (tb : Table) → Fin (tcTables nBuf tb) → BufTy
  | .hbm, ⟨i, _⟩ => hbmTy i
  | _, _ => ⟨S4x52x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_c_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_9 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_c_11 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_13 : Ref sig .tc := ⟨.hbm, 113, rfl⟩
abbrev main_v84 : Ref sig .tc := ⟨.hbm, 114, rfl⟩
abbrev main_v85 : Ref sig .tc := ⟨.hbm, 115, rfl⟩
abbrev main_c_14 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_15 : Ref sig .tc := ⟨.hbm, 123, rfl⟩
abbrev main_v92 : Ref sig .tc := ⟨.hbm, 124, rfl⟩
abbrev main_v93 : Ref sig .tc := ⟨.hbm, 125, rfl⟩
abbrev main_c_16 : Ref sig .tc := ⟨.hbm, 126, rfl⟩
abbrev main_v94 : Ref sig .tc := ⟨.hbm, 127, rfl⟩
abbrev main_v95 : Ref sig .tc := ⟨.hbm, 128, rfl⟩
abbrev main_c_17 : Ref sig .tc := ⟨.hbm, 129, rfl⟩
abbrev main_c_18 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_20 : Ref sig .tc := ⟨.hbm, 146, rfl⟩
abbrev main_v105 : Ref sig .tc := ⟨.hbm, 147, rfl⟩
abbrev main_v106 : Ref sig .tc := ⟨.hbm, 148, rfl⟩
abbrev main_c_21 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_22 : Ref sig .tc := ⟨.hbm, 155, rfl⟩
abbrev main_v112 : Ref sig .tc := ⟨.hbm, 156, rfl⟩
abbrev main_v113 : Ref sig .tc := ⟨.hbm, 157, rfl⟩
abbrev main_c_23 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_24 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v123 : Ref sig .tc := ⟨.hbm, 172, rfl⟩
abbrev main_cst_25 : Ref sig .tc := ⟨.hbm, 173, rfl⟩
abbrev main_v124 : Ref sig .tc := ⟨.hbm, 174, rfl⟩
abbrev main_cst_26 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_27 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_28 : Ref sig .tc := ⟨.hbm, 187, rfl⟩
abbrev main_v135 : Ref sig .tc := ⟨.hbm, 188, rfl⟩
abbrev main_v136 : Ref sig .tc := ⟨.hbm, 189, rfl⟩
abbrev main_c_29 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩

abbrev nD : Nat := 1
abbrev τ : Topo := Topo.v7x

variable {F : FTy → Type} [FloatOps F]
-- ==== Experts.lean ====
abbrev S448 : Shape := ⟨1, ![448]⟩
abbrev S1 : Shape := ⟨1, ![1]⟩
abbrev S114688x2048 : Shape := ⟨2, ![114688, 2048]⟩
abbrev S64x2048x512 : Shape := ⟨3, ![64, 2048, 512]⟩
abbrev S64x512x2048 : Shape := ⟨3, ![64, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S114688x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S114688x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S448, .i32⟩
  | .local _ .smem, ⟨1, _⟩ => ⟨S1, .i32⟩
  | _, _ => ⟨S114688x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![448], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S448 : Shape := ⟨1, ![448]⟩
abbrev S1 : Shape := ⟨1, ![1]⟩
abbrev S114688x2048 : Shape := ⟨2, ![114688, 2048]⟩
abbrev S64x2048x512 : Shape := ⟨3, ![64, 2048, 512]⟩
abbrev S64x512x2048 : Shape := ⟨3, ![64, 512, 2048]⟩
abbrev S448x256x2048 : Shape := ⟨3, ![448, 256, 2048]⟩
abbrev S_ : Shape := ⟨0, ![]⟩
abbrev S448x1 : Shape := ⟨2, ![448, 1]⟩
abbrev S448x3 : Shape := ⟨2, ![448, 3]⟩
abbrev S448x1x2048x512 : Shape := ⟨4, ![448, 1, 2048, 512]⟩
abbrev S448x2048x512 : Shape := ⟨3, ![448, 2048, 512]⟩
abbrev S448x1x512x2048 : Shape := ⟨4, ![448, 1, 512, 2048]⟩
abbrev S448x512x2048 : Shape := ⟨3, ![448, 512, 2048]⟩
abbrev S448x256x512 : Shape := ⟨3, ![448, 256, 512]⟩
abbrev S448x1x1 : Shape := ⟨3, ![448, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S448, .i32⟩
  | .hbm, ⟨1, _⟩ => ⟨S1, .i32⟩
  | .hbm, ⟨2, _⟩ => ⟨S114688x2048, .f32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S448x256x2048, .f32⟩
  | .hbm, ⟨7, _⟩ => ⟨S_, .i32⟩
  | .hbm, ⟨8, _⟩ => ⟨S448, .i32⟩
  | .hbm, ⟨9, _⟩ => ⟨S448, .i1⟩
  | .hbm, ⟨10, _⟩ => ⟨S_, .i32⟩
  | .hbm, ⟨11, _⟩ => ⟨S448, .i32⟩
  | .hbm, ⟨12, _⟩ => ⟨S448, .i32⟩
  | .hbm, ⟨13, _⟩ => ⟨S448, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S448x1, .i32⟩
  | .hbm, ⟨31, _⟩ => ⟨S448x1, .i32⟩
  | .hbm, ⟨32, _⟩ => ⟨S448x1, .i32⟩
  | .hbm, ⟨33, _⟩ => ⟨S448x3, .i32⟩
  | .hbm, ⟨34, _⟩ => ⟨S448x1x2048x512, .f32⟩
  | .hbm, ⟨35, _⟩ => ⟨S448x2048x512, .f32⟩
  | .hbm, ⟨36, _⟩ => ⟨S_, .i32⟩
  | .hbm, ⟨37, _⟩ => ⟨S448, .i32⟩
  | .hbm, ⟨38, _⟩ => ⟨S448, .i1⟩
  | .hbm, ⟨39, _⟩ => ⟨S_, .i32⟩
  | .hbm, ⟨40, _⟩ => ⟨S448, .i32⟩
  | .hbm, ⟨41, _⟩ => ⟨S448, .i32⟩
  | .hbm, ⟨42, _⟩ => ⟨S448, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S448x1, .i32⟩
  | .hbm, ⟨60, _⟩ => ⟨S448x1, .i32⟩
  | .hbm, ⟨61, _⟩ => ⟨S448x1, .i32⟩
  | .hbm, ⟨62, _⟩ => ⟨S448x3, .i32⟩
  | .hbm, ⟨63, _⟩ => ⟨S448x1x2048x512, .f32⟩
  | .hbm, ⟨64, _⟩ => ⟨S448x2048x512, .f32⟩
  | .hbm, ⟨65, _⟩ => ⟨S_, .i32⟩
  | .hbm, ⟨66, _⟩ => ⟨S448, .i32⟩
  | .hbm, ⟨67, _⟩ => ⟨S448, .i1⟩
  | .hbm, ⟨68, _⟩ => ⟨S_, .i32⟩
  | .hbm, ⟨69, _⟩ => ⟨S448, .i32⟩
  | .hbm, ⟨70, _⟩ => ⟨S448, .i32⟩
  | .hbm, ⟨71, _⟩ => ⟨S448, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S448x1, .i32⟩
  | .hbm, ⟨89, _⟩ => ⟨S448x1, .i32⟩
  | .hbm, ⟨90, _⟩ => ⟨S448x1, .i32⟩
  | .hbm, ⟨91, _⟩ => ⟨S448x3, .i32⟩
  | .hbm, ⟨92, _⟩ => ⟨S448x1x512x2048, .f32⟩
  | .hbm, ⟨93, _⟩ => ⟨S448x512x2048, .f32⟩
  | .hbm, ⟨94, _⟩ => ⟨S448x256x512, .f32⟩
  | .hbm, ⟨95, _⟩ => ⟨S448x256x512, .f32⟩
  | .hbm, ⟨96, _⟩ => ⟨S448x256x512, .f32⟩
  | .hbm, ⟨97, _⟩ => ⟨S_, .f32⟩
  | .hbm, ⟨98, _⟩ => ⟨S448x256x512, .f32⟩
  | .hbm, ⟨99, _⟩ => ⟨S448x256x512, .f32⟩
  | .hbm, ⟨100, _⟩ => ⟨S_, .f32⟩
  | .hbm, ⟨101, _⟩ => ⟨S448x256x512, .f32⟩
  | .hbm, ⟨102, _⟩ => ⟨S448x256x512, .f32⟩
  | .hbm, ⟨103, _⟩ => ⟨S448x256x512, .f32⟩
  | .hbm, ⟨104, _⟩ => ⟨S448x256x512, .f32⟩
  | .hbm, ⟨105, _⟩ => ⟨S448x256x512, .f32⟩
  | .hbm, ⟨106, _⟩ => ⟨S448x256x2048, .f32⟩
  | .hbm, ⟨107, _⟩ => ⟨S448, .i32⟩
  | .hbm, ⟨108, _⟩ => ⟨S448x1x1, .i32⟩
  | .hbm, ⟨109, _⟩ => ⟨S_, .i32⟩
  | .hbm, ⟨110, _⟩ => ⟨S448x1x1, .i32⟩
  | .hbm, ⟨111, _⟩ => ⟨S448x1x1, .i1⟩
  | .hbm, ⟨112, _⟩ => ⟨S_, .f32⟩
  | .hbm, ⟨113, _⟩ => ⟨S_, .f32⟩
  | .hbm, ⟨114, _⟩ => ⟨S448x256x2048, .i1⟩
  | .hbm, ⟨115, _⟩ => ⟨S448x256x2048, .f32⟩
  | .hbm, ⟨116, _⟩ => ⟨S448x256x2048, .f32⟩
  | .hbm, ⟨117, _⟩ => ⟨S114688x2048, .f32⟩
  | _, _ => ⟨S448, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_11 : Ref sig .tc := ⟨.hbm, 36, rfl⟩
abbrev main_v18 : Ref sig .tc := ⟨.hbm, 37, rfl⟩
abbrev main_v19 : Ref sig .tc := ⟨.hbm, 38, rfl⟩
abbrev main_c_12 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_13 : Ref sig .tc := ⟨.hbm, 43, rfl⟩
abbrev main_c_14 : Ref sig .tc := ⟨.hbm, 44, rfl⟩
abbrev main_v23 : Ref sig .tc := ⟨.hbm, 45, rfl⟩
abbrev main_c_15 : Ref sig .tc := ⟨.hbm, 46, rfl⟩
abbrev main_c_16 : Ref sig .tc := ⟨.hbm, 47, rfl⟩
abbrev main_v24 : Ref sig .tc := ⟨.hbm, 48, rfl⟩
abbrev main_c_17 : Ref sig .tc := ⟨.hbm, 49, rfl⟩
abbrev main_v25 : Ref sig .tc := ⟨.hbm, 50, rfl⟩
abbrev main_c_18 : Ref sig .tc := ⟨.hbm, 51, rfl⟩
abbrev main_c_19 : Ref sig .tc := ⟨.hbm, 52, rfl⟩
abbrev main_v26 : Ref sig .tc := ⟨.hbm, 53, rfl⟩
abbrev main_c_20 : Ref sig .tc := ⟨.hbm, 54, rfl⟩
abbrev main_c_21 : Ref sig .tc := ⟨.hbm, 55, rfl⟩
abbrev main_v27 : Ref sig .tc := ⟨.hbm, 56, rfl⟩
abbrev main_c_22 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_23 : Ref sig .tc := ⟨.hbm, 65, rfl⟩
abbrev main_v35 : Ref sig .tc := ⟨.hbm, 66, rfl⟩
abbrev main_v36 : Ref sig .tc := ⟨.hbm, 67, rfl⟩
abbrev main_c_24 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_25 : Ref sig .tc := ⟨.hbm, 72, rfl⟩
abbrev main_c_26 : Ref sig .tc := ⟨.hbm, 73, rfl⟩
abbrev main_v40 : Ref sig .tc := ⟨.hbm, 74, rfl⟩
abbrev main_c_27 : Ref sig .tc := ⟨.hbm, 75, rfl⟩
abbrev main_c_28 : Ref sig .tc := ⟨.hbm, 76, rfl⟩
abbrev main_v41 : Ref sig .tc := ⟨.hbm, 77, rfl⟩
abbrev main_c_29 : Ref sig .tc := ⟨.hbm, 78, rfl⟩
abbrev main_v42 : Ref sig .tc := ⟨.hbm, 79, rfl⟩
abbrev main_c_30 : Ref sig .tc := ⟨.hbm, 80, rfl⟩
abbrev main_c_31 : Ref sig .tc := ⟨.hbm, 81, rfl⟩
abbrev main_v43 : Ref sig .tc := ⟨.hbm, 82, rfl⟩
abbrev main_c_32 : Ref sig .tc := ⟨.hbm, 83, rfl⟩
abbrev main_c_33 : Ref sig .tc := ⟨.hbm, 84, rfl⟩
abbrev main_v44 : Ref sig .tc := ⟨.hbm, 85, rfl⟩
abbrev main_c_34 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]
-- ==== Proj.lean ====
abbrev S4x4096x2048 : Shape := ⟨3, ![4, 4096, 2048]⟩
abbrev S4x6x2048 : Shape := ⟨3, ![4, 6, 2048]⟩
abbrev S1x2048 : Shape := ⟨2, ![1, 2048]⟩
abbrev S2048x6656 : Shape := ⟨2, ![2048, 6656]⟩
abbrev S4x52x4096x128 : Shape := ⟨4, ![4, 52, 4096, 128]⟩
abbrev S1x512x2048 : Shape := ⟨3, ![1, 512, 2048]⟩
abbrev S1x6x2048 : Shape := ⟨3, ![1, 6, 2048]⟩
abbrev S2048x512 : Shape := ⟨2, ![2048, 512]⟩
abbrev S1x4x512x128 : Shape := ⟨4, ![1, 4, 512, 128]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S512x512 : Shape := ⟨2, ![512, 512]⟩
abbrev S512x128 : Shape := ⟨2, ![512, 128]⟩
abbrev S1x1x512x128 : Shape := ⟨4, ![1, 1, 512, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S1x2048, .f32⟩
  | .hbm, ⟨3, _⟩ => ⟨S2048x6656, .bf16⟩
  | .hbm, ⟨4, _⟩ => ⟨S4x52x4096x128, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x4x512x128, .bf16⟩
  | .local _ .vmem, ⟨8, _⟩ => ⟨S1x4x512x128, .bf16⟩
  | .local _ .vmem, ⟨9, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 13], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ProjRefIdeal.lean ====
abbrev S4x4096x2048 : Shape := ⟨3, ![4, 4096, 2048]⟩
abbrev S4x6x2048 : Shape := ⟨3, ![4, 6, 2048]⟩
abbrev S1x2048 : Shape := ⟨2, ![1, 2048]⟩
abbrev S2048x6656 : Shape := ⟨2, ![2048, 6656]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x6656 : Shape := ⟨3, ![4, 4096, 6656]⟩
abbrev S4x4096x52x128 : Shape := ⟨4, ![4, 4096, 52, 128]⟩
abbrev S4x52x4096x128 : Shape := ⟨4, ![4, 52, 4096, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S1x2048, .f32⟩
  | .hbm, ⟨3, _⟩ => ⟨S2048x6656, .bf16⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S2048x6656, .f32⟩
  | .hbm, ⟨31, _⟩ => ⟨S4x4096x6656, .f32⟩
  | .hbm, ⟨32, _⟩ => ⟨S4x4096x52x128, .f32⟩
  | .hbm, ⟨33, _⟩ => ⟨S4x52x4096x128, .f32⟩
  | .hbm, ⟨34, _⟩ => ⟨S4x52x4096x128, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Outp.lean ====
abbrev S4x4096x1024 : Shape := ⟨3, ![4, 4096, 1024]⟩
abbrev S4x4096x2048 : Shape := ⟨3, ![4, 4096, 2048]⟩
abbrev S4x6x2048 : Shape := ⟨3, ![4, 6, 2048]⟩
abbrev S1x2048 : Shape := ⟨2, ![1, 2048]⟩
abbrev S1024x2048 : Shape := ⟨2, ![1024, 2048]⟩
abbrev S64x2048 : Shape := ⟨2, ![64, 2048]⟩
abbrev S64x16384 : Shape := ⟨2, ![64, 16384]⟩
abbrev S1x256x1024 : Shape := ⟨3, ![1, 256, 1024]⟩
abbrev S1x256x2048 : Shape := ⟨3, ![1, 256, 2048]⟩
abbrev S1x6x2048 : Shape := ⟨3, ![1, 6, 2048]⟩
abbrev S64x256 : Shape := ⟨2, ![64, 256]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S4x6x2048, .f32⟩
  | .hbm, ⟨4, _⟩ => ⟨S1x2048, .f32⟩
  | .hbm, ⟨5, _⟩ => ⟨S1024x2048, .bf16⟩
  | .hbm, ⟨6, _⟩ => ⟨S1024x2048, .bf16⟩
  | .hbm, ⟨7, _⟩ => ⟨S64x2048, .f32⟩
  | .hbm, ⟨8, _⟩ => ⟨S4x4096x2048, .f32⟩
  | .hbm, ⟨9, _⟩ => ⟨S4x4096x2048, .f32⟩
  | .hbm, ⟨10, _⟩ => ⟨S64x16384, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .f32⟩
  | .local _ .vmem, ⟨5, _⟩ => ⟨S1x256x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1024x2048, .bf16⟩
  | .local _ .vmem, ⟨10, _⟩ => ⟨S1024x2048, .bf16⟩
  | .local _ .vmem, ⟨11, _⟩ => ⟨S64x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S64x256, .f32⟩
  | .local _ .vmem, ⟨17, _⟩ => ⟨S64x256, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutpRefIdeal.lean ====
abbrev S4x4096x1024 : Shape := ⟨3, ![4, 4096, 1024]⟩
abbrev S4x4096x2048 : Shape := ⟨3, ![4, 4096, 2048]⟩
abbrev S4x6x2048 : Shape := ⟨3, ![4, 6, 2048]⟩
abbrev S1x2048 : Shape := ⟨2, ![1, 2048]⟩
abbrev S1024x2048 : Shape := ⟨2, ![1024, 2048]⟩
abbrev S64x2048 : Shape := ⟨2, ![64, 2048]⟩
abbrev S2048x2048 : Shape := ⟨2, ![2048, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S2048x64 : Shape := ⟨2, ![2048, 64]⟩
abbrev S16384x64 : Shape := ⟨2, ![16384, 64]⟩
abbrev S64x16384 : Shape := ⟨2, ![64, 16384]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S4x6x2048, .f32⟩
  | .hbm, ⟨4, _⟩ => ⟨S1x2048, .f32⟩
  | .hbm, ⟨5, _⟩ => ⟨S1024x2048, .bf16⟩
  | .hbm, ⟨6, _⟩ => ⟨S1024x2048, .bf16⟩
  | .hbm, ⟨7, _⟩ => ⟨S64x2048, .f32⟩
  | .hbm, ⟨8, _⟩ => ⟨S2048x2048, .bf16⟩
  | .hbm, ⟨9, _⟩ => ⟨S2048x2048, .f32⟩
  | .hbm, ⟨10, _⟩ => ⟨S4x1x2048, .f32⟩
  | .hbm, ⟨11, _⟩ => ⟨S4x4096x2048, .bf16⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x1x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x1x2048, .f32⟩
  | .hbm, ⟨41, _⟩ => ⟨S4x4096x2048, .f32⟩
  | .hbm, ⟨42, _⟩ => ⟨S4x4096x2048, .f32⟩
  | .hbm, ⟨43, _⟩ => ⟨S16384x2048, .f32⟩
  | .hbm, ⟨44, _⟩ => ⟨S2048x64, .f32⟩
  | .hbm, ⟨45, _⟩ => ⟨S16384x64, .f32⟩
  | .hbm, ⟨46, _⟩ => ⟨S64x16384, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Modul.lean ====
abbrev S8x2048 : Shape := ⟨2, ![8, 2048]⟩
abbrev S2048x12288 : Shape := ⟨2, ![2048, 12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulRefIdeal.lean ====
abbrev S8x2048 : Shape := ⟨2, ![8, 2048]⟩
abbrev S2048x12288 : Shape := ⟨2, ![2048, 12288]⟩
abbrev S1x12288 : Shape := ⟨2, ![1, 12288]⟩
abbrev S_ : Shape := ⟨0, ![]⟩
abbrev S8x12288 : Shape := ⟨2, ![8, 12288]⟩
abbrev S12288 : Shape := ⟨1, ![12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S12288, .f32⟩
  | .hbm, ⟨14, _⟩ => ⟨S1x12288, .f32⟩
  | .hbm, ⟨15, _⟩ => ⟨S8x12288, .f32⟩
  | .hbm, ⟨16, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.ProjValue.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value

open Cert.ProjIdeal Cert.ProjIdeal.Gen
open Cert.ProjRefIdeal.Read

variable (m : (ℓ : Loc nD τ sig) → Buf (Elt Ideal) ℓ)

theorem idx_val : ∀ t : Fin cfg0.N, win0_0.index t = ![t.val / 104, t.val / 13 % 8, 0]
    ∧ win0_1.index t = ![t.val / 104, 0, 0]
    ∧ win0_2.index t = ![0, 0]
    ∧ win0_3.index t = ![0, t.val % 13]
    ∧ win0_4.index t = ![t.val / 104, t.val % 13, t.val / 13 % 8, 0] :=
  (by decide +kernel : ∀ t : Fin grid0.N, _)

/-- The modulated normalised activations (the reference's value before the product). -/
abbrev H (c : Dev nD) := val_main_v21 (F := Ideal) (m ((c : Thread nD τ).loc main_arg0)) (m ((c : Thread nD τ).loc main_arg1)) (m ((c : Thread nD τ).loc main_arg2))

/-- The part of them which point `n` works on. -/
def blkH (c : Dev nD) (n : ℕ) (hn : n < 416) : Vec Ideal S512x2048 .bf16 :=
  fun j => H m c (ix3 ⟨n / 104, by omega⟩ ⟨n / 13 % 8 * 512 + (j 0).val, by have := (j 0).isLt; simp at this; omega⟩ ⟨(j 1).val, (j 1).isLt⟩)

theorem scA (c : Dev nD) (t : Fin cfg0.N) (h0 : t.val % 13 = 0) :
    (outsAt0 m c t.val t.isLt).2 = blkH m c t.val (lt_of_lt_of_eq t.isLt N_0) := by
  rw [outsAt0_A m c t h0]
  dsimp only
  funext j
  frame_out
  unfold blkH H
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]
  blk_point [iblk, V, idx_val t]

theorem scB (c : Dev nD) (t : Fin cfg0.N) (h0 : ¬ t.val % 13 = 0) :
    (outsAt0 m c t.val t.isLt).2 = (outsAt0 m c (t.val - 1) (Nat.lt_of_le_of_lt (Nat.sub_le _ _) t.isLt)).2 := by
  rw [outsAt0_B m c t h0]
  dsimp only
  rfl

theorem sc (c : Dev nD) : ∀ (n : ℕ) (hn : n < cfg0.N), (outsAt0 m c n hn).2 = blkH m c n (lt_of_lt_of_eq hn N_0) := by
  intro n
  induction n with
  | zero => intro hn; exact scA m c ⟨0, hn⟩ rfl
  | succ n ih =>
    intro hn
    by_cases h : (n + 1) % 13 = 0
    · exact scA m c ⟨n + 1, hn⟩ h
    · refine (scB m c ⟨n + 1, hn⟩ h).trans ((ih (Nat.lt_of_succ_lt hn)).trans ?_)
      have e1 : n / 104 = (n + 1) / 104 := by omega
      have e2 : n / 13 = (n + 1) / 13 := by omega
      funext j
      unfold blkH
      congr 2 <;> (first | (apply Fin.ext; simp only [e1, e2]) | skip)

/-- The product at an entry of the block. -/
theorem core (c : Dev nD) (t : Fin cfg0.N) (y : S1x4x512x128.Idx) (i : S512x512.Idx) (j : Cert.ProjRefIdeal.S4x4096x6656.Idx)
    (hi0 : (i 0 : ℕ) = y 2) (hi1 : (i 1 : ℕ) = 128 * (y 1 : ℕ) + y 3)
    (hj0 : (j 0 : ℕ) = t.val / 104) (hj1 : (j 1 : ℕ) = t.val / 13 % 8 * 512 + y 2) (hj2 : (j 2 : ℕ) = 512 * (t.val % 13) + 128 * (y 1 : ℕ) + y 3) :
    k0_pay2 (F := Ideal) (blkH m c t.val (lt_of_lt_of_eq t.isLt N_0)) (iblk m c 3 t) i
      = val_main_v23 (F := Ideal) (m ((c : Thread nD τ).loc main_arg0)) (m ((c : Thread nD τ).loc main_arg1)) (m ((c : Thread nD τ).loc main_arg2)) (m ((c : Thread nD τ).loc main_arg3)) j := by
  pointwise [k0_pay2, blkH, H, val_main_v23, val_main_v22]
  blk_point [iblk, V, idx_val t]

abbrev OUT (c : Dev nD) := val_main_v26 (F := Ideal) (m ((c : Thread nD τ).loc main_arg0)) (m ((c : Thread nD τ).loc main_arg1)) (m ((c : Thread nD τ).loc main_arg2)) (m ((c : Thread nD τ).loc main_arg3))

theorem point (c : Dev nD) (t : Fin cfg0.N) (y) :
    (outsAt0 m c t.val t.isLt).1 y = OUT m c (((cfg0.win 4).blk t).view.emb y) := by
  have ht : t.val < 416 := lt_of_lt_of_eq t.isLt N_0
  obtain_idx i : S512x512 := [(y 2 : ℕ), 128 * (y 1 : ℕ) + (y 3 : ℕ)] with hi
  obtain_idx j : Cert.ProjRefIdeal.S4x4096x6656 := [t.val / 104, t.val / 13 % 8 * 512 + (y 2 : ℕ), 512 * (t.val % 13) + 128 * (y 1 : ℕ) + (y 3 : ℕ)] with hj
  refine Eq.trans (b := k0_pay2 (F := Ideal) (blkH m c t.val ht) (iblk m c 3 t) i) ?_ ((core m c t y i j hi0 hi1 hj0 hj1 hj2).trans ?_)
  · by_cases h0 : t.val % 13 = 0
    · have hs := sc m c t.val t.isLt
      rw [outsAt0_A m c t h0] at hs ⊢
      dsimp only at hs ⊢
      frame_out at hs
      frame_out
      first | rw [hs] | simp only [hs] | skip
      clear hs
      canon_tiles x h
      all_goals (open_payloads; pointwise; congr 1; blk_ext)
    · have hs := (scB m c t h0).symm.trans (sc m c t.val t.isLt)
      rw [outsAt0_B m c t h0]
      dsimp only
      rw [hs]
      clear hs
      frame_out
      canon_tiles x h
      all_goals (open_payloads; pointwise; rw [(Memref.isWhole_whole cc0_scratch0).read_unread]; congr 1; blk_ext)
  · unfold OUT
    pointwise [val_main_v26, val_main_v25, val_main_v24]
    blk_point [idx_val t]

theorem final (c : Dev nD) : (dats m 0 c).arrAt 4 (cfgs 0).N = OUT m c := by
  refine (dats m 0 c).arrAt_eq_of_covers 4 _ (by decide +kernel) fun t hf y => ?_
  blk_simp; rw [after0_4]
  exact point m c t y

end Cert.ProjIdeal.Value

end
-- ==== Proof.OutpValue.lean ====
module

public import proofs.«01_k».proof.Proof.Gen.OutpIdeal.Value
public import proofs.«01_k».proof.Proof.Gen.OutpRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutpIdeal.Value

open Cert.OutpIdeal Cert.OutpIdeal.Gen
open Cert.OutpRefIdeal.Read

variable (m : (ℓ : Loc nD τ sig) → Buf (Elt Ideal) ℓ)

theorem idx_val : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, 0, 0]
    ∧ win0_4.index t = ![0, 0]
    ∧ win0_5.index t = ![0, 0]
    ∧ win0_6.index t = ![0, 0]
    ∧ win0_7.index t = ![0, 0]
    ∧ win0_8.index t = ![t.val / 16, t.val % 16, 0]
    ∧ win0_9.index t = ![t.val / 16, t.val % 16, 0]
    ∧ win0_10.index t = ![0, (t.val / 16) * 16 + (t.val % 16)] :=
  (by decide +kernel : ∀ t : Fin grid0.N, _)

def X2 (c : Dev nD) := val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
def HH (c : Dev nD) := val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def LG (c : Dev nD) := val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- A point's rows of an array of activations. -/
def rowsOf (X : FVec Ideal Cert.OutpRefIdeal.S4x4096x2048 .f32) (t : Fin cfg0.N) : FVec Ideal S256x2048 .f32 :=
  fun j => X (ix3 ⟨t.val / 16, by have := lt_of_lt_of_eq t.isLt N_0; omega⟩ ⟨t.val % 16 * 256 + (j 0).val, by have := (j 0).isLt; simp at this; omega⟩ ⟨(j 1).val, (j 1).isLt⟩)

theorem x2_eq (c : Dev nD) (t : Fin cfg0.N) : k0_pay4 (F := Ideal) (iblk m c 0 t) (iblk m c 5 t) (iblk m c 1 t) (iblk m c 6 t) (iblk m c 2 t) (View.ld (iblk m c 3 t) r0_3) = rowsOf (X2 m c) t := by
  funext j
  unfold rowsOf X2
  pointwise [k0_pay4, val_main_v0, val_main_v1, val_main_v2, val_main_v3, val_main_v4, val_main_v5, val_main_v6, val_main_v7, val_main_v8]
  blk_point [iblk, V, idx_val t]

theorem h_eq (c : Dev nD) (t : Fin cfg0.N) : k0_pay1 (F := Ideal) (k0_pay8 (iblk m c 0 t) (iblk m c 1 t) (iblk m c 2 t) (iblk m c 3 t) (iblk m c 4 t) (iblk m c 5 t) (iblk m c 6 t) (iblk m c 7 t)) (k0_pay9 (iblk m c 0 t) (iblk m c 1 t) (iblk m c 2 t) (iblk m c 3 t) (iblk m c 4 t) (iblk m c 5 t) (iblk m c 6 t) (iblk m c 7 t)) (View.ld (iblk m c 3 t) r0_5) (View.ld (iblk m c 3 t) r0_6) = rowsOf (HH m c) t := by
  have e8 : k0_pay8 (F := Ideal) (iblk m c 0 t) (iblk m c 1 t) (iblk m c 2 t) (iblk m c 3 t) (iblk m c 4 t) (iblk m c 5 t) (iblk m c 6 t) (iblk m c 7 t) = k0_pay6 (iblk m c 0 t) (iblk m c 5 t) (iblk m c 1 t) (iblk m c 6 t) (iblk m c 2 t) (View.ld (iblk m c 3 t) r0_3) := by
    unfold k0_pay8
    rw [View.ld_unit_zero (by decide), View.ld_unit_zero (by decide), View.ld_unit_zero (by decide), View.ld_unit_zero (by decide), View.ld_unit_zero (by decide)]
    rfl
  have e9 : k0_pay9 (F := Ideal) (iblk m c 0 t) (iblk m c 1 t) (iblk m c 2 t) (iblk m c 3 t) (iblk m c 4 t) (iblk m c 5 t) (iblk m c 6 t) (iblk m c 7 t) = k0_pay7 (iblk m c 4 t) := by
    unfold k0_pay9
    rw [View.ld_unit_zero (by decide)]
  rw [e8, e9]
  unfold k0_pay6
  rw [x2_eq]
  funext j
  unfold rowsOf HH X2
  pointwise [k0_pay1, k0_pay7, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2]
  blk_point [iblk, V, idx_val t]

theorem point_8 (c : Dev nD) (t : Fin cfg0.N) (y) :
    k0_pay5 (iblk m c 0 t) (iblk m c 5 t) (iblk m c 1 t) (iblk m c 6 t) (iblk m c 2 t) (View.ld (iblk m c 3 t) r0_3) y = X2 m c (((cfg0.win 8).blk t).view.emb y) := by
  unfold k0_pay5
  rw [x2_eq]
  pointwise [rowsOf]
  blk_point [idx_val t]

theorem point_9 (c : Dev nD) (t : Fin cfg0.N) (y) :
    k0_pay2 (F := Ideal) (k0_pay8 (iblk m c 0 t) (iblk m c 1 t) (iblk m c 2 t) (iblk m c 3 t) (iblk m c 4 t) (iblk m c 5 t) (iblk m c 6 t) (iblk m c 7 t)) (k0_pay9 (iblk m c 0 t) (iblk m c 1 t) (iblk m c 2 t) (iblk m c 3 t) (iblk m c 4 t) (iblk m c 5 t) (iblk m c 6 t) (iblk m c 7 t)) (View.ld (iblk m c 3 t) r0_5) (View.ld (iblk m c 3 t) r0_6) y = HH m c (((cfg0.win 9).blk t).view.emb y) := by
  unfold k0_pay2
  rw [h_eq]
  pointwise [rowsOf]
  blk_point [idx_val t]

theorem point_10 (c : Dev nD) (t : Fin cfg0.N) (y) :
    k0_pay3 (F := Ideal) (k0_pay8 (iblk m c 0 t) (iblk m c 1 t) (iblk m c 2 t) (iblk m c 3 t) (iblk m c 4 t) (iblk m c 5 t) (iblk m c 6 t) (iblk m c 7 t)) (k0_pay9 (iblk m c 0 t) (iblk m c 1 t) (iblk m c 2 t) (iblk m c 3 t) (iblk m c 4 t) (iblk m c 5 t) (iblk m c 6 t) (iblk m c 7 t)) (View.ld (iblk m c 3 t) r0_5) (View.ld (iblk m c 3 t) r0_6) (iblk m c 7 t) y = LG m c (((cfg0.win 10).blk t).view.emb y) := by
  unfold k0_pay3
  rw [h_eq]
  unfold LG
  pointwise [rowsOf, val_main_v31, val_main_v32, val_main_v33, val_main_v34]
  refine Fin.sum_fin_congr fun x => ?_
  rw [mul_comm]
  unfold HH
  blk_point [iblk, V, idx_val t]

theorem final_8 (c : Dev nD) : (dats m 0 c).arrAt 8 (cfgs 0).N = X2 m c := by
  refine (dats m 0 c).arrAt_eq_of_covers 8 _ (by decide +kernel) fun t hf y => ?_
  blk_simp; rw [after0_8]
  frame_out
  exact point_8 m c t y

theorem final_9 (c : Dev nD) : (dats m 0 c).arrAt 9 (cfgs 0).N = HH m c := by
  refine (dats m 0 c).arrAt_eq_of_covers 9 _ (by decide +kernel) fun t hf y => ?_
  blk_simp; rw [after0_9]
  frame_out
  exact point_9 m c t y

theorem final_10 (c : Dev nD) : (dats m 0 c).arrAt 10 (cfgs 0).N = LG m c := by
  refine (dats m 0 c).arrAt_eq_of_covers 10 _ (by decide +kernel) fun t hf y => ?_
  blk_simp; rw [after0_10]
  frame_out
  exact point_10 m c t y

end Cert.OutpIdeal.Value

end
-- ==== Proof.DenseClaims.lean ====
module

public import proofs.«01_k».proof.Defs
public import proofs.«01_k».proof.Proof.Gen.Proj.Frame
public import proofs.«01_k».proof.Proof.Gen.Outp.Frame
public import proofs.«01_k».proof.Proof.Gen.ProjRefIdeal.Run
public import proofs.«01_k».proof.Proof.Gen.OutpRefIdeal.Run
public import proofs.«01_k».proof.Proof.Gen.OutpIdeal.Value
public import proofs.«01_k».proof.Proof.ProjValue
public import proofs.«01_k».proof.Proof.OutpValue

@[expose] public section

set_option maxRecDepth 16384

noncomputable section

open Idealize.ShloMosaic Idealize.SL.Sem

namespace Cert.Proof.Dense

theorem frame_proj : Cert.quiescent_Proj (hProj := Cert.Proj.Gen.facts) := fun m g _ => Cert.Proj.Gen.frame m g
theorem frame_proj_ideal : Cert.quiescent_ProjIdeal (hProjIdeal := Cert.ProjIdeal.Gen.facts) := fun m g _ => Cert.ProjIdeal.Gen.frame m g
theorem frame_outp : Cert.quiescent_Outp (hOutp := Cert.Outp.Gen.facts) := fun m g _ => Cert.Outp.Gen.frame m g
theorem frame_outp_ideal : Cert.quiescent_OutpIdeal (hOutpIdeal := Cert.OutpIdeal.Gen.facts) := fun m g _ => Cert.OutpIdeal.Gen.frame m g
theorem frame_proj_ref : Cert.quiescent_ProjRefIdeal (hProjRefIdeal := Cert.ProjRefIdeal.Gen.facts) := fun m g _ =>
  (θ_run Cert.ProjRefIdeal.defs _ _).mono (fun r h => ⟨fun c => (h c).2, Idealize.ShloMosaic.sem_eq_zero_of_no_sems (by decide) r.2⟩)
    (Cert.ProjRefIdeal.Value.run (F := Ideal) m g)
theorem frame_outp_ref : Cert.quiescent_OutpRefIdeal (hOutpRefIdeal := Cert.OutpRefIdeal.Gen.facts) := fun m g _ =>
  (θ_run Cert.OutpRefIdeal.defs _ _).mono (fun r h => ⟨fun c => (h c).2.2.2, Idealize.ShloMosaic.sem_eq_zero_of_no_sems (by decide) r.2⟩)
    (Cert.OutpRefIdeal.Value.run (F := Ideal) m g)

theorem algebraic_proj : Cert.algebraic_ProjIdeal_ProjRefIdeal (hProjIdeal := Cert.ProjIdeal.Gen.facts) (hProjRefIdeal := Cert.ProjRefIdeal.Gen.facts) := by
  pair_intro
  · run_from Cert.ProjIdeal.Value.run_blocks m g
  · run_from Cert.ProjRefIdeal.Value.run m' g'
    rw [Cert.ProjRefIdeal.Read.val_main_v26_eq]
    exact (Cert.ProjIdeal.Value.final m c).symm

/-- The reference's run with each result as its chain of operations. -/
theorem run_outp_ref (m' : (ℓ : Loc Cert.OutpRefIdeal.nD Cert.OutpRefIdeal.τ Cert.OutpRefIdeal.sig) → Buf (Elt Ideal) ℓ) (g' : Dev Cert.OutpRefIdeal.nD → PrngReg) :
    θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
      r.2.mem ((c.tc : Thread Cert.OutpRefIdeal.nD Cert.OutpRefIdeal.τ).loc Cert.OutpRefIdeal.main_v8) = Cert.OutpRefIdeal.Read.val_main_v8 (F := Ideal) (m' ((c.tc : Thread Cert.OutpRefIdeal.nD Cert.OutpRefIdeal.τ).loc Cert.OutpRefIdeal.main_arg0)) (m' ((c.tc : Thread Cert.OutpRefIdeal.nD Cert.OutpRefIdeal.τ).loc Cert.OutpRefIdeal.main_arg1)) (m' ((c.tc : Thread Cert.OutpRefIdeal.nD Cert.OutpRefIdeal.τ).loc Cert.OutpRefIdeal.main_arg2)) (m' ((c.tc : Thread Cert.OutpRefIdeal.nD Cert.OutpRefIdeal.τ).loc Cert.OutpRefIdeal.main_arg3)) (m' ((c.tc : Thread Cert.OutpRefIdeal.nD Cert.OutpRefIdeal.τ).loc Cert.OutpRefIdeal.main_arg5)) (m' ((c.tc : Thread Cert.OutpRefIdeal.nD Cert.OutpRefIdeal.τ).loc Cert.OutpRefIdeal.main_arg6))
      ∧ r.2.mem ((c.tc : Thread Cert.OutpRefIdeal.nD Cert.OutpRefIdeal.τ).loc Cert.OutpRefIdeal.main_v30) = Cert.OutpRefIdeal.Read.val_main_v30 (F := Ideal) (m' ((c.tc : Thread Cert.OutpRefIdeal.nD Cert.OutpRefIdeal.τ).loc Cert.OutpRefIdeal.main_arg0)) (m' ((c.tc : Thread Cert.OutpRefIdeal.nD Cert.OutpRefIdeal.τ).loc Cert.OutpRefIdeal.main_arg1)) (m' ((c.tc : Thread Cert.OutpRefIdeal.nD Cert.OutpRefIdeal.τ).loc Cert.OutpRefIdeal.main_arg2)) (m' ((c.tc : Thread Cert.OutpRefIdeal.nD Cert.OutpRefIdeal.τ).loc Cert.OutpRefIdeal.main_arg3)) (m' ((c.tc : Thread Cert.OutpRefIdeal.nD Cert.OutpRefIdeal.τ).loc Cert.OutpRefIdeal.main_arg4)) (m' ((c.tc : Thread Cert.OutpRefIdeal.nD Cert.OutpRefIdeal.τ).loc Cert.OutpRefIdeal.main_arg5)) (m' ((c.tc : Thread Cert.OutpRefIdeal.nD Cert.OutpRefIdeal.τ).loc Cert.OutpRefIdeal.main_arg6))
      ∧ r.2.mem ((c.tc : Thread Cert.OutpRefIdeal.nD Cert.OutpRefIdeal.τ).loc Cert.OutpRefIdeal.main_v34) = Cert.OutpRefIdeal.Read.val_main_v34 (F := Ideal) (m' ((c.tc : Thread Cert.OutpRefIdeal.nD Cert.OutpRefIdeal.τ).loc Cert.OutpRefIdeal.main_arg0)) (m' ((c.tc : Thread Cert.OutpRefIdeal.nD Cert.OutpRefIdeal.τ).loc Cert.OutpRefIdeal.main_arg1)) (m' ((c.tc : Thread Cert.OutpRefIdeal.nD Cert.OutpRefIdeal.τ).loc Cert.OutpRefIdeal.main_arg2)) (m' ((c.tc : Thread Cert.OutpRefIdeal.nD Cert.OutpRefIdeal.τ).loc Cert.OutpRefIdeal.main_arg3)) (m' ((c.tc : Thread Cert.OutpRefIdeal.nD Cert.OutpRefIdeal.τ).loc Cert.OutpRefIdeal.main_arg4)) (m' ((c.tc : Thread Cert.OutpRefIdeal.nD Cert.OutpRefIdeal.τ).loc Cert.OutpRefIdeal.main_arg5)) (m' ((c.tc : Thread Cert.OutpRefIdeal.nD Cert.OutpRefIdeal.τ).loc Cert.OutpRefIdeal.main_arg6)) (m' ((c.tc : Thread Cert.OutpRefIdeal.nD Cert.OutpRefIdeal.τ).loc Cert.OutpRefIdeal.main_arg7))
      ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6)
      ∧ r.2.mem ((c.tc : Thread Cert.OutpRefIdeal.nD Cert.OutpRefIdeal.τ).loc Cert.OutpRefIdeal.main_arg7) = m' ((c.tc : Thread Cert.OutpRefIdeal.nD Cert.OutpRefIdeal.τ).loc Cert.OutpRefIdeal.main_arg7)) :=
  (θ_run Cert.OutpRefIdeal.defs _ _).mono (fun r h c => ⟨(h c).1.trans (Cert.OutpRefIdeal.Read.val_main_v8_eq _ _ _ _ _ _), (h c).2.1.trans (Cert.OutpRefIdeal.Read.val_main_v30_eq _ _ _ _ _ _ _), (h c).2.2.1.trans (Cert.OutpRefIdeal.Read.val_main_v34_eq _ _ _ _ _ _ _ _), (h c).2.2.2⟩)
    (Cert.OutpRefIdeal.Value.run (F := Ideal) m' g')

theorem algebraic_outp : Cert.algebraic_OutpIdeal_OutpRefIdeal (hOutpIdeal := Cert.OutpIdeal.Gen.facts) (hOutpRefIdeal := Cert.OutpRefIdeal.Gen.facts) := by
  intro m g m' g' _ hagree
  refine ⟨fun c => Cert.OutpIdeal.Value.X2 m c, fun c => Cert.OutpIdeal.Value.HH m c, fun c => Cert.OutpIdeal.Value.LG m c, ?_, ?_⟩
  · exact (θ_run Cert.OutpIdeal.defs _ _).mono (fun r h c => ⟨(h c).1.trans (Cert.OutpIdeal.Value.final_8 m c), (h c).2.1.trans (Cert.OutpIdeal.Value.final_9 m c), (h c).2.2.1.trans (Cert.OutpIdeal.Value.final_10 m c), (h c).2.2.2⟩)
      (Cert.OutpIdeal.Value.run_blocks m g)
  · refine (θ_run Cert.OutpRefIdeal.defs _ _).mono (fun r h c => ?_) (run_outp_ref m' g')
    obtain ⟨a0, a1, a2, a3, a4, a5, a6, a7⟩ := hagree c
    obtain ⟨h0, h1, h2, hr⟩ := h c
    rw [a0, a1, a2, a3, a5, a6] at h0
    rw [a0, a1, a2, a3, a4, a5, a6] at h1
    rw [a0, a1, a2, a3, a4, a5, a6, a7] at h2
    exact ⟨h0, h1, h2, hr⟩

end Cert.Proof.Dense

end
-- ==== Proof.ExpertsFrame.lean ====
/- The routed experts' launch at ANY admissible routing tables: the body's run in its three cases (the weights are
   brought over; they are the ones already there; the block is past the last valid one), what the scratch buffers
   hold between the blocks, and the launch. -/
module

public import proofs.«01_k».proof.Proof.Gen.Experts.Launch
public import proofs.«01_k».proof.Proof.Gen.Experts.Flash.Runs
public import Idealize.ShloMosaic.Lib.Pipeline.TableIdle
public import Idealize.ShloMosaic.Lib.Pipeline.Quiescent
public import Idealize.ShloMosaic.Lib.Pipeline.ValueKit

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in
/-- The points past the last valid block: what the body leaves, with the proof that it runs to it. -/
noncomputable def runC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Bits .i32)) (T1 : (S1.Idx → Elt Bits .i32))
     (x0 : (S256x2048.Idx → Elt Bits .f32)) (x1 : (S1x2048x512.Idx → Elt Bits .f32)) (x2 : (S1x2048x512.Idx → Elt Bits .f32)) (x3 : (S1x512x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬k0_cond1 i (View.readAt (Elt Bits) (tbM0_1).view (Rect.unit (s := S1) ![0] S1.size inb_S1_S1_0).toLoadRect T1 (Shape.Idx.first (numel1_S1.symm ▸ Nat.one_pos))) = 1#1) (k0_h3 : (k0_cond3 i (View.readAt (Elt Bits) (tbM0_1).view (Rect.unit (s := S1) ![0] S1.size inb_S1_S1_0).toLoadRect T1 (Shape.Idx.first (numel1_S1.symm ▸ Nat.one_pos))) = 1#1)) :
    Σ' (out0 : List (View.Piece (Elt Bits) S256x2048 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_experts_eq_skeleton]; unfold cc0_experts_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- These points's pieces for output 4 tile its block (1 store of `S256x2048`: the kernel evaluates the tiling, Lib/Ring.lean `Piece.tiledL`). -/
theorem coverC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Bits .i32)) (T1 : (S1.Idx → Elt Bits .i32))
     (x0 : (S256x2048.Idx → Elt Bits .f32)) (x1 : (S1x2048x512.Idx → Elt Bits .f32)) (x2 : (S1x2048x512.Idx → Elt Bits .f32)) (x3 : (S1x512x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬k0_cond1 i (View.readAt (Elt Bits) (tbM0_1).view (Rect.unit (s := S1) ![0] S1.size inb_S1_S1_0).toLoadRect T1 (Shape.Idx.first (numel1_S1.symm ▸ Nat.one_pos))) = 1#1) (k0_h3 : (k0_cond3 i (View.readAt (Elt Bits) (tbM0_1).view (Rect.unit (s := S1) ![0] S1.size inb_S1_S1_0).toLoadRect T1 (Shape.Idx.first (numel1_S1.symm ▸ Nat.one_pos))) = 1#1)) (y : S256x2048.Idx) :
    ∃ pc ∈ (runC c i arg3 harg3 arg4 harg4 arg5 harg5 arg6 harg6 arg7 harg7 T0 T1 x0 x1 x2 x3 xa0 xa1 xa2 k0_h1 k0_h3).1, y ∈ pc.1.set :=
  View.cover_of_tiledL (runC c i arg3 harg3 arg4 harg4 arg5 harg5 arg6 harg6 arg7 harg7 T0 T1 x0 x1 x2 x3 xa0 xa1 xa2 k0_h1 k0_h3).1 S256x2048.size (by sl_kernel_rfl) y

/-- What these points leave in output 4's staging buffer: its pieces read back over junk. -/
def outC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Bits .i32)) (T1 : (S1.Idx → Elt Bits .i32))
     (x0 : (S256x2048.Idx → Elt Bits .f32)) (x1 : (S1x2048x512.Idx → Elt Bits .f32)) (x2 : (S1x2048x512.Idx → Elt Bits .f32)) (x3 : (S1x512x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬k0_cond1 i (View.readAt (Elt Bits) (tbM0_1).view (Rect.unit (s := S1) ![0] S1.size inb_S1_S1_0).toLoadRect T1 (Shape.Idx.first (numel1_S1.symm ▸ Nat.one_pos))) = 1#1) (k0_h3 : (k0_cond3 i (View.readAt (Elt Bits) (tbM0_1).view (Rect.unit (s := S1) ![0] S1.size inb_S1_S1_0).toLoadRect T1 (Shape.Idx.first (numel1_S1.symm ▸ Nat.one_pos))) = 1#1)) : (S256x2048.Idx → Elt Bits .f32) :=
  VO0_4.read (Elt Bits) (VO0_4.writes (Elt Bits) VO0_4.junk (runC c i arg3 harg3 arg4 harg4 arg5 harg5 arg6 harg6 arg7 harg7 T0 T1 x0 x1 x2 x3 xa0 xa1 xa2 k0_h1 k0_h3).1)

/-! ## The pipeline at any admissible tables -/

variable (a : (pcfg0 (F := Bits)).Adm)

abbrev cfgA : Pipeline.Cfg sig Λ₀ := cfg0 (F := Bits) a
abbrev pcs : Fin 1 → Pipeline.Cfg sig Λ₀ := Pipeline.pin (pcfgs (F := Bits)) fun _ => a

/-- The two tables: each block's expert, the number of valid blocks. -/
abbrev T0 : S448.Idx → Elt Bits .i32 := a.1 0
abbrev T1 : S1.Idx → Elt Bits .i32 := a.1 1

abbrev crd (t : Fin (cfgA a).N) : (cfgA a).grid.Coords := (cfgA a).grid.coords t

abbrev ms0_0 (t : Fin (cfgA a).N) : Memref sig .tc .vmem S256x2048 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x2048x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x2048x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S256x2048 .f32 := spec0_4.stage ((cfgA a).slots t (4 : Fin 5))
abbrev hs0_4 (t : Fin (cfgA a).N) : (ms0_4 a t).IsWhole := hstage0_4 (((cfgA a).slots t (4 : Fin 5)).cast nbuf0_4)

/-- The number of valid blocks, and the experts of the block before and of the block, as the body reads them. -/
def wN : BitVec 32 := View.readAt (Elt Bits) (tbM0_1).view (Rect.unit (s := S1) ![0] S1.size inb_S1_S1_0).toLoadRect (T1 a) (Shape.Idx.first (numel1_S1.symm ▸ Nat.one_pos))
def wE (i : grid0.Coords) : BitVec 32 := View.readAt (Elt Bits) (tbM0_0).view (Rect.unit (s := S448) (k0_off3 i) S1.size (k0_off3_inb i)).toLoadRect (T0 a) (Shape.Idx.first (numel1_S1.symm ▸ Nat.one_pos))
def wP (i : grid0.Coords) : BitVec 32 := View.readAt (Elt Bits) (tbM0_0).view (Rect.unit (s := S448) (k0_off2 i) S1.size (k0_off2_inb i)).toLoadRect (T0 a) (Shape.Idx.first (numel1_S1.symm ▸ Nat.one_pos))

/-- The block is a valid one. -/
abbrev Val (i : grid0.Coords) : Prop := k0_cond1 i (wN a) = 1#1
/-- The block's weights are to be brought over. -/
abbrev New (i : grid0.Coords) : Prop :=
  (Scalar.cmpi .ne (Scalar.extui (Scalar.ori (Scalar.cmpi .eq (BitVec.ofNat 32 (i 0).val) 0#32) (Scalar.cmpi .ne (wE a i) (wP a i)))) 0#32) = 1#1

theorem cond3_of_val (i : grid0.Coords) (h : Val a i) : ¬(k0_cond3 i (wN a) = 1#1) := by
  revert h
  unfold Val k0_cond1 k0_cond3
  generalize wN a = w
  generalize BitVec.ofNat 32 (i 0).val = b
  simp only [Scalar.cmpi, Scalar.extui, IntOp.cmpi]
  cases h : BitVec.slt b w <;> cases h' : BitVec.sle w b <;> simp_all [BitVec.sle_eq_not_slt]

theorem cond3_of_not_val (i : grid0.Coords) (h : ¬Val a i) : k0_cond3 i (wN a) = 1#1 := by
  revert h
  unfold Val k0_cond1 k0_cond3
  generalize wN a = w
  generalize BitVec.ofNat 32 (i 0).val = b
  simp only [Scalar.cmpi, Scalar.extui, IntOp.cmpi]
  cases h : BitVec.slt b w <;> cases h' : BitVec.sle w b <;> simp_all [BitVec.sle_eq_not_slt]

variable (m : (ℓ : Loc nD τ sig) → Buf (Elt Bits) ℓ) (ρ : Dev nD → PrngReg)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- What the scratch buffers hold after a valid block `t`: its expert's weights. -/
def SC0 (c : Dev nD) (t : Fin (cfgA a).N) : Buf (Elt Bits) ((c : Thread nD τ).loc cc0_scratch0) := k0_pay1 (F := Bits) (iblk a m ρ c (1 : Fin 5) t)
def SC1 (c : Dev nD) (t : Fin (cfgA a).N) : Buf (Elt Bits) ((c : Thread nD τ).loc cc0_scratch1) := k0_pay2 (F := Bits) (iblk a m ρ c (2 : Fin 5) t)
def SC2 (c : Dev nD) (t : Fin (cfgA a).N) : Buf (Elt Bits) ((c : Thread nD τ).loc cc0_scratch2) := k0_pay3 (F := Bits) (iblk a m ρ c (3 : Fin 5) t)

/-- What a point leaves in the output's block. -/
def OUT (c : Dev nD) (t : Fin (cfgA a).N) : S256x2048.Idx → Elt Bits .f32 :=
  if Val a (crd a t) then k0_pay4 (F := Bits) (iblk a m ρ c (0 : Fin 5) t) (SC0 a m ρ c t) (SC1 a m ρ c t) (SC2 a m ρ c t)
  else k0_pay5 (F := Bits)

theorem A_sc0 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.1 = k0_pay1 (F := Bits) x1 := by
  funext j
  show View.read (Elt Bits) (View.whole cc0_scratch0) (kernelRun0_A c i a3 h3 a4 h4 a5 h5 a6 h6 a7 h7 T0 T1 x0 x1 x2 x3 k1 hc k3).2.1 j = _
  frame_out
  simp only [View.read_rep]
  exact congrFun (View.canon_unit_zero (S := S2048x512) (View.eq_zero_of_forall (by decide)) _ _) j
theorem B_sc0 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.1 = y0 := rfl
theorem C_sc0 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.1 = y0 := rfl
theorem A_sc1 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.2.1 = k0_pay2 (F := Bits) x2 := by
  funext j
  show View.read (Elt Bits) (View.whole cc0_scratch1) (kernelRun0_A c i a3 h3 a4 h4 a5 h5 a6 h6 a7 h7 T0 T1 x0 x1 x2 x3 k1 hc k3).2.2.1 j = _
  frame_out
  simp only [View.read_rep]
  exact congrFun (View.canon_unit_zero (S := S2048x512) (View.eq_zero_of_forall (by decide)) _ _) j
theorem B_sc1 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.2.1 = y1 := rfl
theorem C_sc1 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.2.1 = y1 := rfl
theorem A_sc2 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.2.2.1 = k0_pay3 (F := Bits) x3 := by
  funext j
  show View.read (Elt Bits) (View.whole cc0_scratch2) (kernelRun0_A c i a3 h3 a4 h4 a5 h5 a6 h6 a7 h7 T0 T1 x0 x1 x2 x3 k1 hc k3).2.2.2.1 j = _
  frame_out
  simp only [View.read_rep]
  exact congrFun (View.canon_unit_zero (S := S512x2048) (View.eq_zero_of_forall (by decide)) _ _) j
theorem B_sc2 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.2.2.1 = y2 := rfl
theorem C_sc2 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.2.2.1 = y2 := rfl

theorem A_out (c i a3 h3 a4 h4 a5 h5 a6 h6 a7 h7 T0 T1 x0 x1 x2 x3 k1 hc k3) :
    out0_A_4 c i a3 h3 a4 h4 a5 h5 a6 h6 a7 h7 T0 T1 x0 x1 x2 x3 k1 hc k3 = k0_pay4 (F := Bits) x0 (k0_pay1 x1) (k0_pay2 x2) (k0_pay3 x3) := by
  funext j
  frame_out
  simp only [View.read_rep]
theorem B_out (c i a3 h3 a4 h4 a5 h5 a6 h6 a7 h7 T0 T1 x0 x1 x2 x3 y0 y1 y2 k1 hc k3) :
    out0_B_4 c i a3 h3 a4 h4 a5 h5 a6 h6 a7 h7 T0 T1 x0 x1 x2 x3 y0 y1 y2 k1 hc k3 = k0_pay4 (F := Bits) x0 y0 y1 y2 := by
  funext j
  frame_out
  simp only [View.read_rep]
  rfl
theorem C_out (c i a3 h3 a4 h4 a5 h5 a6 h6 a7 h7 T0 T1 x0 x1 x2 x3 y0 y1 y2 k1 k3) :
    outC c i a3 h3 a4 h4 a5 h5 a6 h6 a7 h7 T0 T1 x0 x1 x2 x3 y0 y1 y2 k1 k3 = k0_pay5 (F := Bits) := by
  funext j
  frame_out

theorem idle4 (i : grid0.Coords) : (cfgA a).idle (4 : Fin 5) i = false := by
  show (!(k0_cond1 i (a.1.atD 1 ![0]) == 1#1) && !(k0_cond3 i (a.1.atD 1 ![0]) == 1#1)) = false
  have e : a.1.atD 1 ![0] = wN a := rfl
  rw [e]
  by_cases h : Val a i
  · rw [show k0_cond1 i (wN a) = 1#1 from h]; rfl
  · rw [cond3_of_not_val a i h]; simp

theorem off3_val : ∀ t : Fin grid0.N, k0_off3 (grid0.coords t) = ![t.val] := by decide +kernel
theorem off2_val : ∀ t : Fin grid0.N, k0_off2 (grid0.coords t) = ![t.val - 1] := by decide +kernel
theorem crd_val : ∀ t : Fin grid0.N, (grid0.coords t 0).val = t.val := by decide +kernel

def ix448 (n : ℕ) (h : n < 448) : S448.Idx := fun | ⟨0, _⟩ => ⟨n, h⟩

theorem wE_eq (t : Fin grid0.N) : wE a (grid0.coords t) = T0 a (ix448 t.val (lt_of_lt_of_eq t.isLt N_0)) := by
  unfold wE
  refine congrArg (T0 a) (funext fun x => Fin.ext ?_)
  have := congrFun (off3_val t) 0
  fin_cases x
  show _ + 1 * 0 = _
  rw [Nat.mul_zero, Nat.add_zero]
  exact this
theorem wP_eq (t : Fin grid0.N) : wP a (grid0.coords t) = T0 a (ix448 (t.val - 1) (lt_of_le_of_lt (Nat.sub_le _ _) (lt_of_lt_of_eq t.isLt N_0))) := by
  unfold wP
  refine congrArg (T0 a) (funext fun x => Fin.ext ?_)
  have := congrFun (off2_val t) 0
  fin_cases x
  show _ + 1 * 0 = _
  rw [Nat.mul_zero, Nat.add_zero]
  exact this

/-- A block which brings nothing over has a block before it, with the same expert. -/
theorem not_new (t : Fin grid0.N) (h : ¬New a (grid0.coords t)) : t.val ≠ 0 ∧ wE a (grid0.coords t) = wP a (grid0.coords t) := by
  unfold New at h
  rw [crd_val t] at h
  have ht : t.val < 448 := lt_of_lt_of_eq t.isLt N_0
  generalize wE a (grid0.coords t) = x at *
  generalize wP a (grid0.coords t) = y at *
  constructor
  · intro h0; apply h; rw [h0];
    simp only [Scalar.cmpi, Scalar.extui, Scalar.ori, IntOp.cmpi]
    cases x != y <;> decide
  · by_contra hne
    apply h
    have : (x != y) = true := by simpa using hne
    simp only [Scalar.cmpi, Scalar.extui, Scalar.ori, IntOp.cmpi, this]
    cases BitVec.ofNat 32 t.val == 0#32 <;> decide

/-- Before a valid block every block is valid. -/
theorem val_pred (s t : Fin grid0.N) (hs : s.val ≤ t.val) (h : Val a (grid0.coords t)) : Val a (grid0.coords s) := by
  have key : ∀ t : Fin grid0.N, Val a (grid0.coords t) ↔ (t.val : ℤ) < (wN a).toInt := by
    intro t
    have ht : t.val < 448 := lt_of_lt_of_eq t.isLt N_0
    unfold Val k0_cond1
    rw [crd_val t]
    have e : (BitVec.ofNat 32 t.val).toInt = t.val := by
      rw [BitVec.toInt_eq_toNat_cond, BitVec.toNat_ofNat]; omega
    simp only [Scalar.cmpi, Scalar.extui, IntOp.cmpi]
    have := BitVec.slt_iff_toInt_lt (x := BitVec.ofNat 32 t.val) (y := wN a)
    rw [e] at this
    rw [← this]
    cases BitVec.slt (BitVec.ofNat 32 t.val) (wN a) <;> decide
  rw [key] at h ⊢
  omega

theorem iblk_1 (c : Dev nD) (t : Fin (cfgA a).N) (y) (k : S64x2048x512.Idx)
    (h0 : (k 0 : ℕ) = (wE a (crd a t)).toNat) (h1 : (k 1 : ℕ) = y 1) (h2 : (k 2 : ℕ) = y 2) :
    iblk a m ρ c (1 : Fin 5) t y = m ((c : Thread nD τ).loc main_arg3) k := by
  unfold iblk
  refine congrArg (m ((c : Thread nD τ).loc main_arg3)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 2048 + 1 * (y 1).val = _
    omega
  · refine Eq.trans ?_ h2.symm
    show 0 * 512 + 1 * (y 2).val = _
    omega
theorem iblk_2 (c : Dev nD) (t : Fin (cfgA a).N) (y) (k : S64x2048x512.Idx)
    (h0 : (k 0 : ℕ) = (wE a (crd a t)).toNat) (h1 : (k 1 : ℕ) = y 1) (h2 : (k 2 : ℕ) = y 2) :
    iblk a m ρ c (2 : Fin 5) t y = m ((c : Thread nD τ).loc main_arg4) k := by
  unfold iblk
  refine congrArg (m ((c : Thread nD τ).loc main_arg4)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 2048 + 1 * (y 1).val = _
    omega
  · refine Eq.trans ?_ h2.symm
    show 0 * 512 + 1 * (y 2).val = _
    omega
theorem iblk_3 (c : Dev nD) (t : Fin (cfgA a).N) (y) (k : S64x512x2048.Idx)
    (h0 : (k 0 : ℕ) = (wE a (crd a t)).toNat) (h1 : (k 1 : ℕ) = y 1) (h2 : (k 2 : ℕ) = y 2) :
    iblk a m ρ c (3 : Fin 5) t y = m ((c : Thread nD τ).loc main_arg5) k := by
  unfold iblk
  refine congrArg (m ((c : Thread nD τ).loc main_arg5)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 512 + 1 * (y 1).val = _
    omega
  · refine Eq.trans ?_ h2.symm
    show 0 * 2048 + 1 * (y 2).val = _
    omega

theorem OUT_val (c : Dev nD) (t : Fin (cfgA a).N) (h : Val a (crd a t)) :
    OUT a m ρ c t = k0_pay4 (F := Bits) (iblk a m ρ c (0 : Fin 5) t) (SC0 a m ρ c t) (SC1 a m ρ c t) (SC2 a m ρ c t) := if_pos h
theorem OUT_not (c : Dev nD) (t : Fin (cfgA a).N) (h : ¬Val a (crd a t)) : OUT a m ρ c t = k0_pay5 (F := Bits) := if_neg h

def ix3 (n : ℕ) (h : n < 64) (p : Fin 2048) (q : Fin 512) : S64x2048x512.Idx := fun | ⟨0, _⟩ => ⟨n, h⟩ | ⟨1, _⟩ => p | ⟨2, _⟩ => q
def ix3' (n : ℕ) (h : n < 64) (p : Fin 512) (q : Fin 2048) : S64x512x2048.Idx := fun | ⟨0, _⟩ => ⟨n, h⟩ | ⟨1, _⟩ => p | ⟨2, _⟩ => q

/-- An admissible table names experts there are. -/
theorem wE_lt (t : Fin (cfgA a).N) : (wE a (crd a t)).toNat < 64 := by
  have h := hinb0 a.1 a.2 1 (crd a t) 0
  have e : (wE a (crd a t)).toNat = ix0 a.1 1 (crd a t) 0 := rfl
  rw [e]
  have h' : (ix0 a.1 1 (crd a t) 0 + 1) * 1 ≤ 64 := h
  omega

/-- With the same expert, the same weights. -/
theorem SC_pred (c : Dev nD) (s t : Fin (cfgA a).N) (h : wE a (crd a s) = wE a (crd a t)) :
    SC0 a m ρ c s = SC0 a m ρ c t ∧ SC1 a m ρ c s = SC1 a m ρ c t ∧ SC2 a m ρ c s = SC2 a m ρ c t := by
  have hb : (wE a (crd a t)).toNat < 64 := wE_lt a t
  refine ⟨congrArg k0_pay1 (funext fun y => ?_), congrArg k0_pay2 (funext fun y => ?_), congrArg k0_pay3 (funext fun y => ?_)⟩
  · exact (iblk_1 a m ρ c s y (ix3 _ hb (y 1) (y 2)) (by rw [h]; rfl) rfl rfl).trans (iblk_1 a m ρ c t y (ix3 _ hb (y 1) (y 2)) rfl rfl rfl).symm
  · exact (iblk_2 a m ρ c s y (ix3 _ hb (y 1) (y 2)) (by rw [h]; rfl) rfl rfl).trans (iblk_2 a m ρ c t y (ix3 _ hb (y 1) (y 2)) rfl rfl rfl).symm
  · exact (iblk_3 a m ρ c s y (ix3' _ hb (y 1) (y 2)) (by rw [h]; rfl) rfl rfl).trans (iblk_3 a m ρ c t y (ix3' _ hb (y 1) (y 2)) rfl rfl rfl).symm

/-- What the scratch buffers hold before point `t`: after a valid block, that block's weights. -/
def Phi (m : (ℓ : Loc nD τ sig) → Buf (Elt Bits) ℓ) (ρ : Dev nD → PrngReg) (c : Dev nD) (t : Fin ((cfgA a).N + 1)) : sProp 𝕄 :=
  iprop((∃ x, ⌜∀ s : Fin (cfgA a).N, s.val + 1 = t.val → Val a (crd a s) → x = SC0 a m ρ c s⌝ ∗ (scM0_0.view.loc (c : Thread nD τ) ↦{fullShare} x)) ∗ (∃ x, ⌜∀ s : Fin (cfgA a).N, s.val + 1 = t.val → Val a (crd a s) → x = SC1 a m ρ c s⌝ ∗ (scM0_1.view.loc (c : Thread nD τ) ↦{fullShare} x)) ∗ (∃ x, ⌜∀ s : Fin (cfgA a).N, s.val + 1 = t.val → Val a (crd a s) → x = SC2 a m ρ c s⌝ ∗ (scM0_2.view.loc (c : Thread nD τ) ↦{fullShare} x)) ∗ (tbM0_0.view.loc (c : Thread nD τ) ↦{fullShare.right} T0 a) ∗ (tbM0_1.view.loc (c : Thread nD τ) ↦{fullShare.right} T1 a))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => OUT a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = OUT a m ρ c t := rfl
/-- Input window 0 holds its block, fetched there or not (Lib/Pipeline/FrameBody.lean `Dat.before_in_eq_fetched`). -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
abbrev bodyAt0 (t : Fin (cfgA a).N) : Prog (TpuEff nD τ sig (Elt Bits) Λ₀ .tc) PUnit :=
  cc0_experts (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have hi4 : (cfgA a).idle (4 : Fin 5) ((cfgA a).grid.coords t) = false := idle4 a _
  rewrite [hi4]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases k1 : Val a (crd a t)
  · have k3 := cond3_of_val a _ k1
    by_cases hc : New a (crd a t)
    · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) k1 hc k3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro s hs hv; obtain rfl : s = t := Fin.ext (by omega)
            exact A_sc0 _ _ _ _ _ _ _ _ _ _ _ _ _ _ _ _ _ _ _ _ _
        isplitl [HS1]
        · iexists _; isplitr; swap
          · iexact HS1
          · ipureintro; intro s hs hv; obtain rfl : s = t := Fin.ext (by omega)
            exact A_sc1 _ _ _ _ _ _ _ _ _ _ _ _ _ _ _ _ _ _ _ _ _
        isplitl [HS2]
        · iexists _; isplitr; swap
          · iexact HS2
          · ipureintro; intro s hs hv; obtain rfl : s = t := Fin.ext (by omega)
            exact A_sc2 _ _ _ _ _ _ _ _ _ _ _ _ _ _ _ _ _ _ _ _ _
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_A_4 c _ _ _ _ _ _ _ _ _ _ _ _ _ _ _ _ _ _ _ _)).trans ((A_out _ _ _ _ _ _ _ _ _ _ _ _ _ _ _ _ _ _ _ _ _).trans (OUT_val a m ρ c t k1).symm)
    · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      have hp := not_new a t hc
      have hlt : t.val - 1 < (cfgA a).N := lt_of_le_of_lt (Nat.sub_le _ _) t.isLt
      have hw : wE a (crd a ⟨t.val - 1, hlt⟩) = wE a (crd a t) := (wE_eq a ⟨t.val - 1, hlt⟩).trans ((wP_eq a t).symm.trans hp.2.symm)
      have hv' : Val a (crd a ⟨t.val - 1, hlt⟩) := val_pred a ⟨t.val - 1, hlt⟩ t (Nat.sub_le _ _) k1
      have hsc := SC_pred a m ρ c _ _ hw
      have hs1 : (⟨t.val - 1, hlt⟩ : Fin (cfgA a).N).val + 1 = t.val := Nat.sub_add_cancel (Nat.one_le_iff_ne_zero.mpr hp.1)
      have e0 : a0 = SC0 a m ρ c t := (ha0 _ hs1 hv').trans hsc.1
      have e1 : a1 = SC1 a m ρ c t := (ha1 _ hs1 hv').trans hsc.2.1
      have e2 : a2 = SC2 a m ρ c t := (ha2 _ hs1 hv').trans hsc.2.2
      iapply ((kernelRun0_B c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) a0 a1 a2 k1 hc k3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro s hs hv; obtain rfl : s = t := Fin.ext (by omega)
            exact (B_sc0 _ _ _ _ _ _ _ _ _ _ _ _ _ _ _ _ _ _ _ _ _ _ _ _).trans e0
        isplitl [HS1]
        · iexists _; isplitr; swap
          · iexact HS1
          · ipureintro; intro s hs hv; obtain rfl : s = t := Fin.ext (by omega)
            exact (B_sc1 _ _ _ _ _ _ _ _ _ _ _ _ _ _ _ _ _ _ _ _ _ _ _ _).trans e1
        isplitl [HS2]
        · iexists _; isplitr; swap
          · iexact HS2
          · ipureintro; intro s hs hv; obtain rfl : s = t := Fin.ext (by omega)
            exact (B_sc2 _ _ _ _ _ _ _ _ _ _ _ _ _ _ _ _ _ _ _ _ _ _ _ _).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_B_4 c _ _ _ _ _ _ _ _ _ _ _ _ _ _ _ _ _ _ _ _ _ _ _)).trans ((B_out _ _ _ _ _ _ _ _ _ _ _ _ _ _ _ _ _ _ _ _ _ _ _ _).trans (by rw [OUT_val a m ρ c t k1, e0, e1, e2]))
  · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((runC c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) a0 a1 a2 k1 (cond3_of_not_val a _ k1)).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro s hs hv; obtain rfl : s = t := Fin.ext (by omega)
          exact absurd hv k1
      isplitl [HS1]
      · iexists _; isplitr; swap
        · iexact HS1
        · ipureintro; intro s hs hv; obtain rfl : s = t := Fin.ext (by omega)
          exact absurd hv k1
      isplitl [HS2]
      · iexists _; isplitr; swap
        · iexact HS2
        · ipureintro; intro s hs hv; obtain rfl : s = t := Fin.ext (by omega)
          exact absurd hv k1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (View.read_writes_of_cover _ _ _ _ _ (coverC c _ _ _ _ _ _ _ _ _ _ _ _ _ _ _ _ _ _ _ _ _ _)).trans ((C_out _ _ _ _ _ _ _ _ _ _ _ _ _ _ _ _ _ _ _ _ _ _ _).trans (OUT_not a m ρ c t k1).symm)

/-- The library's body obligation, at every point. -/
theorem body_obligation (c : Dev nD) : BodyObligation (dats a m ρ 0 c) (defs₀ (F := Bits)) Variants.none () Set.univ := fun t => by
  rw [bigSep_W0]
  exact sound_body a m ρ c t

/-! ## The launch -/

/-- The rounds library's launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (a).1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HS2]
  · iexists a2; isplitr; swap
    · iexact HS2
    · ipureintro; intro s hs; exact absurd hs (Nat.succ_ne_zero _)
  isplitl [HT0]
  · iexact HT0
  iexact HT1

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The staging cells' algebra, embedded whole. -/
abbrev EP : Emb (UR sig nD τ) 𝕄 := emb₁

/-- The launch memory's tables are the pipeline's. -/
def At (m : (ℓ : Loc nD τ sig) → Buf (Elt Bits) ℓ) : Prop :=
  ∀ c : Dev nD, m ((c : Thread nD τ).loc main_arg0) = a.1 0 ∧ m ((c : Thread nD τ).loc main_arg1) = a.1 1

/-- The physical post: every array at what the library computes, every table at what the pipeline ran at. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = (a).1 j

theorem V_pre (hp : At a m) (c : Dev nD) (j : Fin 2) : m ((c : Thread nD τ).loc (pre0.ref j)) = (a).1 j := by
  fin_cases j
  · exact (hp c).1
  · exact (hp c).2

set_option backward.isDefEq.respectTransparency.types false in
set_option maxHeartbeats 4000000 in
/-- At the compiled mesh, from any memory with zero counters whose tables and steering words are member `a`'s: every weakly
    fair execution of @main on the TensorCores terminates, and every final state has each array at the computed contents,
    and every semaphore counter of the machine at zero. -/
theorem run_main_quiescent (hp : At a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `frame` without the counters: the argument arrays end unchanged. -/
theorem unchanged (hp : At a m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp c).1.symm, ((h c).2 1).trans (hp c).2.symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) ((θ_run defs _ _).mono (fun _ h => h.1) (run_main_quiescent a m ρ hp))

/-- THE FRAME under the pinning: from a launch memory whose tables and steering words are member `a`'s, every weakly fair
    execution terminates, nothing faults, every argument array ends unchanged and every semaphore counter of the machine reads
    zero at every final state — `Cert.quiescent_Experts`'s post.
    Proof.lean: `theorem Cert.Proof.claim : Cert.Claim := ⟨Cert.Experts.Gen.facts, <Pre>.Gen.facts, fun m ρ h => (pinned_of_pre m h).elim fun a hp => Cert.Experts.Gen.frame a m ρ hp⟩`. -/
theorem frame (hp : At a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

end Cert.Experts.Hand

end
-- ==== Proof.ExpertsIdealFrame.lean ====
/- The routed experts' launch at ANY admissible routing tables: the body's run in its three cases (the weights are
   brought over; they are the ones already there; the block is past the last valid one), what the scratch buffers
   hold between the blocks, and the launch. -/
module

public import proofs.«01_k».proof.Proof.Gen.ExpertsIdeal.Launch
public import proofs.«01_k».proof.Proof.Gen.ExpertsIdeal.Flash.Runs
public import Idealize.ShloMosaic.Lib.Pipeline.TableIdle
public import Idealize.ShloMosaic.Lib.Pipeline.Quiescent
public import Idealize.ShloMosaic.Lib.Pipeline.ValueKit

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in
/-- The points past the last valid block: what the body leaves, with the proof that it runs to it. -/
noncomputable def runC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Ideal .i32)) (T1 : (S1.Idx → Elt Ideal .i32))
     (x0 : (S256x2048.Idx → Elt Ideal .f32)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬k0_cond1 i (View.readAt (Elt Ideal) (tbM0_1).view (Rect.unit (s := S1) ![0] S1.size inb_S1_S1_0).toLoadRect T1 (Shape.Idx.first (numel1_S1.symm ▸ Nat.one_pos))) = 1#1) (k0_h3 : (k0_cond3 i (View.readAt (Elt Ideal) (tbM0_1).view (Rect.unit (s := S1) ![0] S1.size inb_S1_S1_0).toLoadRect T1 (Shape.Idx.first (numel1_S1.symm ▸ Nat.one_pos))) = 1#1)) :
    Σ' (out0 : List (View.Piece (Elt Ideal) S256x2048 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_experts_eq_skeleton]; unfold cc0_experts_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- These points's pieces for output 4 tile its block (1 store of `S256x2048`: the kernel evaluates the tiling, Lib/Ring.lean `Piece.tiledL`). -/
theorem coverC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Ideal .i32)) (T1 : (S1.Idx → Elt Ideal .i32))
     (x0 : (S256x2048.Idx → Elt Ideal .f32)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬k0_cond1 i (View.readAt (Elt Ideal) (tbM0_1).view (Rect.unit (s := S1) ![0] S1.size inb_S1_S1_0).toLoadRect T1 (Shape.Idx.first (numel1_S1.symm ▸ Nat.one_pos))) = 1#1) (k0_h3 : (k0_cond3 i (View.readAt (Elt Ideal) (tbM0_1).view (Rect.unit (s := S1) ![0] S1.size inb_S1_S1_0).toLoadRect T1 (Shape.Idx.first (numel1_S1.symm ▸ Nat.one_pos))) = 1#1)) (y : S256x2048.Idx) :
    ∃ pc ∈ (runC c i arg3 harg3 arg4 harg4 arg5 harg5 arg6 harg6 arg7 harg7 T0 T1 x0 x1 x2 x3 xa0 xa1 xa2 k0_h1 k0_h3).1, y ∈ pc.1.set :=
  View.cover_of_tiledL (runC c i arg3 harg3 arg4 harg4 arg5 harg5 arg6 harg6 arg7 harg7 T0 T1 x0 x1 x2 x3 xa0 xa1 xa2 k0_h1 k0_h3).1 S256x2048.size (by sl_kernel_rfl) y

/-- What these points leave in output 4's staging buffer: its pieces read back over junk. -/
def outC (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S448.Idx → Elt Ideal .i32)) (T1 : (S1.Idx → Elt Ideal .i32))
     (x0 : (S256x2048.Idx → Elt Ideal .f32)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬k0_cond1 i (View.readAt (Elt Ideal) (tbM0_1).view (Rect.unit (s := S1) ![0] S1.size inb_S1_S1_0).toLoadRect T1 (Shape.Idx.first (numel1_S1.symm ▸ Nat.one_pos))) = 1#1) (k0_h3 : (k0_cond3 i (View.readAt (Elt Ideal) (tbM0_1).view (Rect.unit (s := S1) ![0] S1.size inb_S1_S1_0).toLoadRect T1 (Shape.Idx.first (numel1_S1.symm ▸ Nat.one_pos))) = 1#1)) : (S256x2048.Idx → Elt Ideal .f32) :=
  VO0_4.read (Elt Ideal) (VO0_4.writes (Elt Ideal) VO0_4.junk (runC c i arg3 harg3 arg4 harg4 arg5 harg5 arg6 harg6 arg7 harg7 T0 T1 x0 x1 x2 x3 xa0 xa1 xa2 k0_h1 k0_h3).1)

/-! ## The pipeline at any admissible tables -/

variable (a : (pcfg0 (F := Ideal)).Adm)

abbrev cfgA : Pipeline.Cfg sig Λ₀ := cfg0 (F := Ideal) a
abbrev pcs : Fin 1 → Pipeline.Cfg sig Λ₀ := Pipeline.pin (pcfgs (F := Ideal)) fun _ => a

/-- The two tables: each block's expert, the number of valid blocks. -/
abbrev T0 : S448.Idx → Elt Ideal .i32 := a.1 0
abbrev T1 : S1.Idx → Elt Ideal .i32 := a.1 1

abbrev crd (t : Fin (cfgA a).N) : (cfgA a).grid.Coords := (cfgA a).grid.coords t

abbrev ms0_0 (t : Fin (cfgA a).N) : Memref sig .tc .vmem S256x2048 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x2048x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x2048x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S256x2048 .f32 := spec0_4.stage ((cfgA a).slots t (4 : Fin 5))
abbrev hs0_4 (t : Fin (cfgA a).N) : (ms0_4 a t).IsWhole := hstage0_4 (((cfgA a).slots t (4 : Fin 5)).cast nbuf0_4)

/-- The number of valid blocks, and the experts of the block before and of the block, as the body reads them. -/
def wN : BitVec 32 := View.readAt (Elt Ideal) (tbM0_1).view (Rect.unit (s := S1) ![0] S1.size inb_S1_S1_0).toLoadRect (T1 a) (Shape.Idx.first (numel1_S1.symm ▸ Nat.one_pos))
def wE (i : grid0.Coords) : BitVec 32 := View.readAt (Elt Ideal) (tbM0_0).view (Rect.unit (s := S448) (k0_off3 i) S1.size (k0_off3_inb i)).toLoadRect (T0 a) (Shape.Idx.first (numel1_S1.symm ▸ Nat.one_pos))
def wP (i : grid0.Coords) : BitVec 32 := View.readAt (Elt Ideal) (tbM0_0).view (Rect.unit (s := S448) (k0_off2 i) S1.size (k0_off2_inb i)).toLoadRect (T0 a) (Shape.Idx.first (numel1_S1.symm ▸ Nat.one_pos))

/-- The block is a valid one. -/
abbrev Val (i : grid0.Coords) : Prop := k0_cond1 i (wN a) = 1#1
/-- The block's weights are to be brought over. -/
abbrev New (i : grid0.Coords) : Prop :=
  (Scalar.cmpi .ne (Scalar.extui (Scalar.ori (Scalar.cmpi .eq (BitVec.ofNat 32 (i 0).val) 0#32) (Scalar.cmpi .ne (wE a i) (wP a i)))) 0#32) = 1#1

theorem cond3_of_val (i : grid0.Coords) (h : Val a i) : ¬(k0_cond3 i (wN a) = 1#1) := by
  revert h
  unfold Val k0_cond1 k0_cond3
  generalize wN a = w
  generalize BitVec.ofNat 32 (i 0).val = b
  simp only [Scalar.cmpi, Scalar.extui, IntOp.cmpi]
  cases h : BitVec.slt b w <;> cases h' : BitVec.sle w b <;> simp_all [BitVec.sle_eq_not_slt]

theorem cond3_of_not_val (i : grid0.Coords) (h : ¬Val a i) : k0_cond3 i (wN a) = 1#1 := by
  revert h
  unfold Val k0_cond1 k0_cond3
  generalize wN a = w
  generalize BitVec.ofNat 32 (i 0).val = b
  simp only [Scalar.cmpi, Scalar.extui, IntOp.cmpi]
  cases h : BitVec.slt b w <;> cases h' : BitVec.sle w b <;> simp_all [BitVec.sle_eq_not_slt]

variable (m : (ℓ : Loc nD τ sig) → Buf (Elt Ideal) ℓ) (ρ : Dev nD → PrngReg)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- What the scratch buffers hold after a valid block `t`: its expert's weights. -/
def SC0 (c : Dev nD) (t : Fin (cfgA a).N) : Buf (Elt Ideal) ((c : Thread nD τ).loc cc0_scratch0) := k0_pay1 (F := Ideal) (iblk a m ρ c (1 : Fin 5) t)
def SC1 (c : Dev nD) (t : Fin (cfgA a).N) : Buf (Elt Ideal) ((c : Thread nD τ).loc cc0_scratch1) := k0_pay2 (F := Ideal) (iblk a m ρ c (2 : Fin 5) t)
def SC2 (c : Dev nD) (t : Fin (cfgA a).N) : Buf (Elt Ideal) ((c : Thread nD τ).loc cc0_scratch2) := k0_pay3 (F := Ideal) (iblk a m ρ c (3 : Fin 5) t)

/-- What a point leaves in the output's block. -/
def OUT (c : Dev nD) (t : Fin (cfgA a).N) : S256x2048.Idx → Elt Ideal .f32 :=
  if Val a (crd a t) then k0_pay4 (F := Ideal) (iblk a m ρ c (0 : Fin 5) t) (SC0 a m ρ c t) (SC1 a m ρ c t) (SC2 a m ρ c t)
  else k0_pay5 (F := Ideal)

theorem A_sc0 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.1 = k0_pay1 (F := Ideal) x1 := by
  funext j
  show View.read (Elt Ideal) (View.whole cc0_scratch0) (kernelRun0_A c i a3 h3 a4 h4 a5 h5 a6 h6 a7 h7 T0 T1 x0 x1 x2 x3 k1 hc k3).2.1 j = _
  frame_out
  simp only [View.read_rep]
  exact congrFun (View.canon_unit_zero (S := S2048x512) (View.eq_zero_of_forall (by decide)) _ _) j
theorem B_sc0 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.1 = y0 := rfl
theorem C_sc0 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.1 = y0 := rfl
theorem A_sc1 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.2.1 = k0_pay2 (F := Ideal) x2 := by
  funext j
  show View.read (Elt Ideal) (View.whole cc0_scratch1) (kernelRun0_A c i a3 h3 a4 h4 a5 h5 a6 h6 a7 h7 T0 T1 x0 x1 x2 x3 k1 hc k3).2.2.1 j = _
  frame_out
  simp only [View.read_rep]
  exact congrFun (View.canon_unit_zero (S := S2048x512) (View.eq_zero_of_forall (by decide)) _ _) j
theorem B_sc1 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.2.1 = y1 := rfl
theorem C_sc1 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.2.1 = y1 := rfl
theorem A_sc2 (c i a3 h3 a4 h4 a5 h5 a6 h6 a7 h7 T0 T1 x0 x1 x2 x3 k1 hc k3) :
    (kernelRun0_A c i a3 h3 a4 h4 a5 h5 a6 h6 a7 h7 T0 T1 x0 x1 x2 x3 k1 hc k3).2.2.2.1 = k0_pay3 (F := Ideal) x3 := by
  funext j
  show View.read (Elt Ideal) (View.whole cc0_scratch2) (kernelRun0_A c i a3 h3 a4 h4 a5 h5 a6 h6 a7 h7 T0 T1 x0 x1 x2 x3 k1 hc k3).2.2.2.1 j = _
  frame_out
  simp only [View.read_rep]
  exact congrFun (View.canon_unit_zero (S := S512x2048) (View.eq_zero_of_forall (by decide)) _ _) j
theorem B_sc2 (c i a3 h3 a4 h4 a5 h5 a6 h6 a7 h7 T0 T1 x0 x1 x2 x3 y0 y1 y2 k1 hc k3) :
    (kernelRun0_B c i a3 h3 a4 h4 a5 h5 a6 h6 a7 h7 T0 T1 x0 x1 x2 x3 y0 y1 y2 k1 hc k3).2.2.2.1 = y2 := rfl
theorem C_sc2 (c i a3 h3 a4 h4 a5 h5 a6 h6 a7 h7 T0 T1 x0 x1 x2 x3 y0 y1 y2 k1 k3) :
    (runC c i a3 h3 a4 h4 a5 h5 a6 h6 a7 h7 T0 T1 x0 x1 x2 x3 y0 y1 y2 k1 k3).2.2.2.1 = y2 := rfl

theorem A_out (c i a3 h3 a4 h4 a5 h5 a6 h6 a7 h7 T0 T1 x0 x1 x2 x3 k1 hc k3) :
    out0_A_4 c i a3 h3 a4 h4 a5 h5 a6 h6 a7 h7 T0 T1 x0 x1 x2 x3 k1 hc k3 = k0_pay4 (F := Ideal) x0 (k0_pay1 x1) (k0_pay2 x2) (k0_pay3 x3) := by
  funext j
  frame_out
  simp only [View.read_rep]
theorem B_out (c i a3 h3 a4 h4 a5 h5 a6 h6 a7 h7 T0 T1 x0 x1 x2 x3 y0 y1 y2 k1 hc k3) :
    out0_B_4 c i a3 h3 a4 h4 a5 h5 a6 h6 a7 h7 T0 T1 x0 x1 x2 x3 y0 y1 y2 k1 hc k3 = k0_pay4 (F := Ideal) x0 y0 y1 y2 := by
  funext j
  frame_out
  simp only [View.read_rep]
  rfl
theorem C_out (c i a3 h3 a4 h4 a5 h5 a6 h6 a7 h7 T0 T1 x0 x1 x2 x3 y0 y1 y2 k1 k3) :
    outC c i a3 h3 a4 h4 a5 h5 a6 h6 a7 h7 T0 T1 x0 x1 x2 x3 y0 y1 y2 k1 k3 = k0_pay5 (F := Ideal) := by
  funext j
  frame_out

theorem idle4 (i : grid0.Coords) : (cfgA a).idle (4 : Fin 5) i = false := by
  show (!(k0_cond1 i (a.1.atD 1 ![0]) == 1#1) && !(k0_cond3 i (a.1.atD 1 ![0]) == 1#1)) = false
  have e : a.1.atD 1 ![0] = wN a := rfl
  rw [e]
  by_cases h : Val a i
  · rw [show k0_cond1 i (wN a) = 1#1 from h]; rfl
  · rw [cond3_of_not_val a i h]; simp

theorem off3_val : ∀ t : Fin grid0.N, k0_off3 (grid0.coords t) = ![t.val] := by decide +kernel
theorem off2_val : ∀ t : Fin grid0.N, k0_off2 (grid0.coords t) = ![t.val - 1] := by decide +kernel
theorem crd_val : ∀ t : Fin grid0.N, (grid0.coords t 0).val = t.val := by decide +kernel

def ix448 (n : ℕ) (h : n < 448) : S448.Idx := fun | ⟨0, _⟩ => ⟨n, h⟩

theorem wE_eq (t : Fin grid0.N) : wE a (grid0.coords t) = T0 a (ix448 t.val (lt_of_lt_of_eq t.isLt N_0)) := by
  unfold wE
  refine congrArg (T0 a) (funext fun x => Fin.ext ?_)
  have := congrFun (off3_val t) 0
  fin_cases x
  show _ + 1 * 0 = _
  rw [Nat.mul_zero, Nat.add_zero]
  exact this
theorem wP_eq (t : Fin grid0.N) : wP a (grid0.coords t) = T0 a (ix448 (t.val - 1) (lt_of_le_of_lt (Nat.sub_le _ _) (lt_of_lt_of_eq t.isLt N_0))) := by
  unfold wP
  refine congrArg (T0 a) (funext fun x => Fin.ext ?_)
  have := congrFun (off2_val t) 0
  fin_cases x
  show _ + 1 * 0 = _
  rw [Nat.mul_zero, Nat.add_zero]
  exact this

/-- A block which brings nothing over has a block before it, with the same expert. -/
theorem not_new (t : Fin grid0.N) (h : ¬New a (grid0.coords t)) : t.val ≠ 0 ∧ wE a (grid0.coords t) = wP a (grid0.coords t) := by
  unfold New at h
  rw [crd_val t] at h
  have ht : t.val < 448 := lt_of_lt_of_eq t.isLt N_0
  generalize wE a (grid0.coords t) = x at *
  generalize wP a (grid0.coords t) = y at *
  constructor
  · intro h0; apply h; rw [h0];
    simp only [Scalar.cmpi, Scalar.extui, Scalar.ori, IntOp.cmpi]
    cases x != y <;> decide
  · by_contra hne
    apply h
    have : (x != y) = true := by simpa using hne
    simp only [Scalar.cmpi, Scalar.extui, Scalar.ori, IntOp.cmpi, this]
    cases BitVec.ofNat 32 t.val == 0#32 <;> decide

/-- Before a valid block every block is valid. -/
theorem val_pred (s t : Fin grid0.N) (hs : s.val ≤ t.val) (h : Val a (grid0.coords t)) : Val a (grid0.coords s) := by
  have key : ∀ t : Fin grid0.N, Val a (grid0.coords t) ↔ (t.val : ℤ) < (wN a).toInt := by
    intro t
    have ht : t.val < 448 := lt_of_lt_of_eq t.isLt N_0
    unfold Val k0_cond1
    rw [crd_val t]
    have e : (BitVec.ofNat 32 t.val).toInt = t.val := by
      rw [BitVec.toInt_eq_toNat_cond, BitVec.toNat_ofNat]; omega
    simp only [Scalar.cmpi, Scalar.extui, IntOp.cmpi]
    have := BitVec.slt_iff_toInt_lt (x := BitVec.ofNat 32 t.val) (y := wN a)
    rw [e] at this
    rw [← this]
    cases BitVec.slt (BitVec.ofNat 32 t.val) (wN a) <;> decide
  rw [key] at h ⊢
  omega

theorem iblk_1 (c : Dev nD) (t : Fin (cfgA a).N) (y) (k : S64x2048x512.Idx)
    (h0 : (k 0 : ℕ) = (wE a (crd a t)).toNat) (h1 : (k 1 : ℕ) = y 1) (h2 : (k 2 : ℕ) = y 2) :
    iblk a m ρ c (1 : Fin 5) t y = m ((c : Thread nD τ).loc main_arg3) k := by
  unfold iblk
  refine congrArg (m ((c : Thread nD τ).loc main_arg3)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 2048 + 1 * (y 1).val = _
    omega
  · refine Eq.trans ?_ h2.symm
    show 0 * 512 + 1 * (y 2).val = _
    omega
theorem iblk_2 (c : Dev nD) (t : Fin (cfgA a).N) (y) (k : S64x2048x512.Idx)
    (h0 : (k 0 : ℕ) = (wE a (crd a t)).toNat) (h1 : (k 1 : ℕ) = y 1) (h2 : (k 2 : ℕ) = y 2) :
    iblk a m ρ c (2 : Fin 5) t y = m ((c : Thread nD τ).loc main_arg4) k := by
  unfold iblk
  refine congrArg (m ((c : Thread nD τ).loc main_arg4)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 2048 + 1 * (y 1).val = _
    omega
  · refine Eq.trans ?_ h2.symm
    show 0 * 512 + 1 * (y 2).val = _
    omega
theorem iblk_3 (c : Dev nD) (t : Fin (cfgA a).N) (y) (k : S64x512x2048.Idx)
    (h0 : (k 0 : ℕ) = (wE a (crd a t)).toNat) (h1 : (k 1 : ℕ) = y 1) (h2 : (k 2 : ℕ) = y 2) :
    iblk a m ρ c (3 : Fin 5) t y = m ((c : Thread nD τ).loc main_arg5) k := by
  unfold iblk
  refine congrArg (m ((c : Thread nD τ).loc main_arg5)) (funext fun x => Fin.ext ?_)
  have y0 : (y 0).val < 1 := (y 0).isLt
  fin_cases x
  · refine Eq.trans ?_ h0.symm
    show (wE a (crd a t)).toNat * 1 + 1 * (y 0).val = _
    omega
  · refine Eq.trans ?_ h1.symm
    show 0 * 512 + 1 * (y 1).val = _
    omega
  · refine Eq.trans ?_ h2.symm
    show 0 * 2048 + 1 * (y 2).val = _
    omega

theorem OUT_val (c : Dev nD) (t : Fin (cfgA a).N) (h : Val a (crd a t)) :
    OUT a m ρ c t = k0_pay4 (F := Ideal) (iblk a m ρ c (0 : Fin 5) t) (SC0 a m ρ c t) (SC1 a m ρ c t) (SC2 a m ρ c t) := if_pos h
theorem OUT_not (c : Dev nD) (t : Fin (cfgA a).N) (h : ¬Val a (crd a t)) : OUT a m ρ c t = k0_pay5 (F := Ideal) := if_neg h

def ix3 (n : ℕ) (h : n < 64) (p : Fin 2048) (q : Fin 512) : S64x2048x512.Idx := fun | ⟨0, _⟩ => ⟨n, h⟩ | ⟨1, _⟩ => p | ⟨2, _⟩ => q
def ix3' (n : ℕ) (h : n < 64) (p : Fin 512) (q : Fin 2048) : S64x512x2048.Idx := fun | ⟨0, _⟩ => ⟨n, h⟩ | ⟨1, _⟩ => p | ⟨2, _⟩ => q

/-- An admissible table names experts there are. -/
theorem wE_lt (t : Fin (cfgA a).N) : (wE a (crd a t)).toNat < 64 := by
  have h := hinb0 a.1 a.2 1 (crd a t) 0
  have e : (wE a (crd a t)).toNat = ix0 a.1 1 (crd a t) 0 := rfl
  rw [e]
  have h' : (ix0 a.1 1 (crd a t) 0 + 1) * 1 ≤ 64 := h
  omega

/-- With the same expert, the same weights. -/
theorem SC_pred (c : Dev nD) (s t : Fin (cfgA a).N) (h : wE a (crd a s) = wE a (crd a t)) :
    SC0 a m ρ c s = SC0 a m ρ c t ∧ SC1 a m ρ c s = SC1 a m ρ c t ∧ SC2 a m ρ c s = SC2 a m ρ c t := by
  have hb : (wE a (crd a t)).toNat < 64 := wE_lt a t
  refine ⟨congrArg k0_pay1 (funext fun y => ?_), congrArg k0_pay2 (funext fun y => ?_), congrArg k0_pay3 (funext fun y => ?_)⟩
  · exact (iblk_1 a m ρ c s y (ix3 _ hb (y 1) (y 2)) (by rw [h]; rfl) rfl rfl).trans (iblk_1 a m ρ c t y (ix3 _ hb (y 1) (y 2)) rfl rfl rfl).symm
  · exact (iblk_2 a m ρ c s y (ix3 _ hb (y 1) (y 2)) (by rw [h]; rfl) rfl rfl).trans (iblk_2 a m ρ c t y (ix3 _ hb (y 1) (y 2)) rfl rfl rfl).symm
  · exact (iblk_3 a m ρ c s y (ix3' _ hb (y 1) (y 2)) (by rw [h]; rfl) rfl rfl).trans (iblk_3 a m ρ c t y (ix3' _ hb (y 1) (y 2)) rfl rfl rfl).symm

/-- What the scratch buffers hold before point `t`: after a valid block, that block's weights. -/
def Phi (m : (ℓ : Loc nD τ sig) → Buf (Elt Ideal) ℓ) (ρ : Dev nD → PrngReg) (c : Dev nD) (t : Fin ((cfgA a).N + 1)) : sProp 𝕄 :=
  iprop((∃ x, ⌜∀ s : Fin (cfgA a).N, s.val + 1 = t.val → Val a (crd a s) → x = SC0 a m ρ c s⌝ ∗ (scM0_0.view.loc (c : Thread nD τ) ↦{fullShare} x)) ∗ (∃ x, ⌜∀ s : Fin (cfgA a).N, s.val + 1 = t.val → Val a (crd a s) → x = SC1 a m ρ c s⌝ ∗ (scM0_1.view.loc (c : Thread nD τ) ↦{fullShare} x)) ∗ (∃ x, ⌜∀ s : Fin (cfgA a).N, s.val + 1 = t.val → Val a (crd a s) → x = SC2 a m ρ c s⌝ ∗ (scM0_2.view.loc (c : Thread nD τ) ↦{fullShare} x)) ∗ (tbM0_0.view.loc (c : Thread nD τ) ↦{fullShare.right} T0 a) ∗ (tbM0_1.view.loc (c : Thread nD τ) ↦{fullShare.right} T1 a))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => OUT a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = OUT a m ρ c t := rfl
/-- Input window 0 holds its block, fetched there or not (Lib/Pipeline/FrameBody.lean `Dat.before_in_eq_fetched`). -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
abbrev bodyAt0 (t : Fin (cfgA a).N) : Prog (TpuEff nD τ sig (Elt Ideal) Λ₀ .tc) PUnit :=
  cc0_experts (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have hi4 : (cfgA a).idle (4 : Fin 5) ((cfgA a).grid.coords t) = false := idle4 a _
  rewrite [hi4]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases k1 : Val a (crd a t)
  · have k3 := cond3_of_val a _ k1
    by_cases hc : New a (crd a t)
    · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) k1 hc k3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro s hs hv; obtain rfl : s = t := Fin.ext (by omega)
            exact A_sc0 _ _ _ _ _ _ _ _ _ _ _ _ _ _ _ _ _ _ _ _ _
        isplitl [HS1]
        · iexists _; isplitr; swap
          · iexact HS1
          · ipureintro; intro s hs hv; obtain rfl : s = t := Fin.ext (by omega)
            exact A_sc1 _ _ _ _ _ _ _ _ _ _ _ _ _ _ _ _ _ _ _ _ _
        isplitl [HS2]
        · iexists _; isplitr; swap
          · iexact HS2
          · ipureintro; intro s hs hv; obtain rfl : s = t := Fin.ext (by omega)
            exact A_sc2 _ _ _ _ _ _ _ _ _ _ _ _ _ _ _ _ _ _ _ _ _
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_A_4 c _ _ _ _ _ _ _ _ _ _ _ _ _ _ _ _ _ _ _ _)).trans ((A_out _ _ _ _ _ _ _ _ _ _ _ _ _ _ _ _ _ _ _ _ _).trans (OUT_val a m ρ c t k1).symm)
    · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      have hp := not_new a t hc
      have hlt : t.val - 1 < (cfgA a).N := lt_of_le_of_lt (Nat.sub_le _ _) t.isLt
      have hw : wE a (crd a ⟨t.val - 1, hlt⟩) = wE a (crd a t) := (wE_eq a ⟨t.val - 1, hlt⟩).trans ((wP_eq a t).symm.trans hp.2.symm)
      have hv' : Val a (crd a ⟨t.val - 1, hlt⟩) := val_pred a ⟨t.val - 1, hlt⟩ t (Nat.sub_le _ _) k1
      have hsc := SC_pred a m ρ c _ _ hw
      have hs1 : (⟨t.val - 1, hlt⟩ : Fin (cfgA a).N).val + 1 = t.val := Nat.sub_add_cancel (Nat.one_le_iff_ne_zero.mpr hp.1)
      have e0 : a0 = SC0 a m ρ c t := (ha0 _ hs1 hv').trans hsc.1
      have e1 : a1 = SC1 a m ρ c t := (ha1 _ hs1 hv').trans hsc.2.1
      have e2 : a2 = SC2 a m ρ c t := (ha2 _ hs1 hv').trans hsc.2.2
      iapply ((kernelRun0_B c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) a0 a1 a2 k1 hc k3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro s hs hv; obtain rfl : s = t := Fin.ext (by omega)
            exact (B_sc0 _ _ _ _ _ _ _ _ _ _ _ _ _ _ _ _ _ _ _ _ _ _ _ _).trans e0
        isplitl [HS1]
        · iexists _; isplitr; swap
          · iexact HS1
          · ipureintro; intro s hs hv; obtain rfl : s = t := Fin.ext (by omega)
            exact (B_sc1 _ _ _ _ _ _ _ _ _ _ _ _ _ _ _ _ _ _ _ _ _ _ _ _).trans e1
        isplitl [HS2]
        · iexists _; isplitr; swap
          · iexact HS2
          · ipureintro; intro s hs hv; obtain rfl : s = t := Fin.ext (by omega)
            exact (B_sc2 _ _ _ _ _ _ _ _ _ _ _ _ _ _ _ _ _ _ _ _ _ _ _ _).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_B_4 c _ _ _ _ _ _ _ _ _ _ _ _ _ _ _ _ _ _ _ _ _ _ _)).trans ((B_out _ _ _ _ _ _ _ _ _ _ _ _ _ _ _ _ _ _ _ _ _ _ _ _).trans (by rw [OUT_val a m ρ c t k1, e0, e1, e2]))
  · iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((runC c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) a0 a1 a2 k1 (cond3_of_not_val a _ k1)).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro s hs hv; obtain rfl : s = t := Fin.ext (by omega)
          exact absurd hv k1
      isplitl [HS1]
      · iexists _; isplitr; swap
        · iexact HS1
        · ipureintro; intro s hs hv; obtain rfl : s = t := Fin.ext (by omega)
          exact absurd hv k1
      isplitl [HS2]
      · iexists _; isplitr; swap
        · iexact HS2
        · ipureintro; intro s hs hv; obtain rfl : s = t := Fin.ext (by omega)
          exact absurd hv k1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (View.read_writes_of_cover _ _ _ _ _ (coverC c _ _ _ _ _ _ _ _ _ _ _ _ _ _ _ _ _ _ _ _ _ _)).trans ((C_out _ _ _ _ _ _ _ _ _ _ _ _ _ _ _ _ _ _ _ _ _ _ _).trans (OUT_not a m ρ c t k1).symm)

/-- The library's body obligation, at every point. -/
theorem body_obligation (c : Dev nD) : BodyObligation (dats a m ρ 0 c) (defs₀ (F := Ideal)) Variants.none () Set.univ := fun t => by
  rw [bigSep_W0]
  exact sound_body a m ρ c t

/-! ## The launch -/

/-- The rounds library's launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (a).1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HS2]
  · iexists a2; isplitr; swap
    · iexact HS2
    · ipureintro; intro s hs; exact absurd hs (Nat.succ_ne_zero _)
  isplitl [HT0]
  · iexact HT0
  iexact HT1

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The staging cells' algebra, embedded whole. -/
abbrev EP : Emb (UR sig nD τ) 𝕄 := emb₁

/-- The launch memory's tables are the pipeline's. -/
def At (m : (ℓ : Loc nD τ sig) → Buf (Elt Ideal) ℓ) : Prop :=
  ∀ c : Dev nD, m ((c : Thread nD τ).loc main_arg0) = a.1 0 ∧ m ((c : Thread nD τ).loc main_arg1) = a.1 1

/-- The physical post: every array at what the library computes, every table at what the pipeline ran at. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = (a).1 j

theorem V_pre (hp : At a m) (c : Dev nD) (j : Fin 2) : m ((c : Thread nD τ).loc (pre0.ref j)) = (a).1 j := by
  fin_cases j
  · exact (hp c).1
  · exact (hp c).2

set_option backward.isDefEq.respectTransparency.types false in
set_option maxHeartbeats 4000000 in
/-- At the compiled mesh, from any memory with zero counters whose tables and steering words are member `a`'s: every weakly
    fair execution of @main on the TensorCores terminates, and every final state has each array at the computed contents,
    and every semaphore counter of the machine at zero. -/
theorem run_main_quiescent (hp : At a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `frame` without the counters: the argument arrays end unchanged. -/
theorem unchanged (hp : At a m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp c).1.symm, ((h c).2 1).trans (hp c).2.symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) ((θ_run defs _ _).mono (fun _ h => h.1) (run_main_quiescent a m ρ hp))

/-- THE FRAME under the pinning: from a launch memory whose tables and steering words are member `a`'s, every weakly fair
    execution terminates, nothing faults, every argument array ends unchanged and every semaphore counter of the machine reads
    zero at every final state — `Cert.quiescent_ExpertsIdeal`'s post.
    Proof.lean: `theorem Cert.Proof.claim : Cert.Claim := ⟨Cert.ExpertsIdeal.Gen.facts, <Pre>.Gen.facts, fun m ρ h => (pinned_of_pre m h).elim fun a hp => Cert.ExpertsIdeal.Gen.frame a m ρ hp⟩`. -/
theorem frame (hp : At a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

end Cert.ExpertsIdeal.Hand

end
-- ==== Proof.ExpertsRef.lean ====
/- The routed experts' reference, read at an index: the gathered weights are the named expert's, and the result is the
   feed-forward of the block's rows for the valid blocks and zero for the others. -/
module

public import proofs.«01_k».proof.Proof.Gen.ExpertsRefIdeal.Read
public import Idealize.ShloMosaic.Lib.Pipeline.ValueKit
public import Idealize.ShloMosaic.Lib.Pointwise

@[expose] public section

set_option maxRecDepth 16384

noncomputable section

namespace Cert.ExpertsRefIdeal.Hand

open Cert.ExpertsRefIdeal Cert.ExpertsRefIdeal.Gen Cert.ExpertsRefIdeal.Read
open Idealize.ShloMosaic Idealize.ShloMosaic.TcCoe
open scoped BigOperators

theorem gather_up {α : Type} (x : S64x2048x512.Idx → α) (idx : IVec S448x3 32) (i : S448x1x2048x512.Idx) (k : S64x2048x512.Idx)
    (h0 : (k 0).val = min (idx (ix2 (i 0) (0 : Fin 3))).toInt.toNat 63) (h1 : (k 1).val = (i 2).val) (h2 : (k 2).val = (i 3).val) :
    Host.gather gather_S64x2048x512_S448x3_S448x1x2048x512_123_n_n_n_012_1_12048512 x idx i = x k := by
  unfold Host.gather
  refine congrArg x (funext fun a => Fin.ext ?_)
  set d := gather_S64x2048x512_S448x3_S448x1x2048x512_123_n_n_n_012_1_12048512 with hd
  have hi1 : (i 1).val < 1 := (i 1).isLt
  have hsi : d.siIdx i ⟨0, by decide⟩ = ix2 (i 0) (0 : Fin 3) := by
    funext b
    apply Fin.ext
    match b with
    | ⟨0, _⟩ => rfl
    | ⟨1, _⟩ => rfl
  match a with
  | ⟨0, _⟩ =>
    refine Eq.trans ?_ h0.symm
    show d.start i idx 0 + d.batchCoord i 0 + d.offCoord i 0 = _
    rw [d.batchCoord_eq_zero _ _ (by decide)]
    have e : d.offCoord i 0 = (i 1).val := rfl
    have e' : d.start i idx 0 = min (idx (d.siIdx i ⟨0, by decide⟩)).toInt.toNat 63 := rfl
    rw [e, e', hsi, show (i 1).val = 0 by omega]
    rfl
  | ⟨1, _⟩ =>
    refine Eq.trans ?_ h1.symm
    show d.start i idx 1 + d.batchCoord i 1 + d.offCoord i 1 = _
    rw [d.batchCoord_eq_zero _ _ (by decide)]
    have e : d.offCoord i 1 = (i 2).val := rfl
    have e' : d.start i idx 1 ≤ 0 := d.start_le i idx 1
    rw [e]
    omega
  | ⟨2, _⟩ =>
    refine Eq.trans ?_ h2.symm
    show d.start i idx 2 + d.batchCoord i 2 + d.offCoord i 2 = _
    rw [d.batchCoord_eq_zero _ _ (by decide)]
    have e : d.offCoord i 2 = (i 3).val := rfl
    have e' : d.start i idx 2 ≤ 0 := d.start_le i idx 2
    rw [e]
    omega

theorem gather_dn {α : Type} (x : S64x512x2048.Idx → α) (idx : IVec S448x3 32) (i : S448x1x512x2048.Idx) (k : S64x512x2048.Idx)
    (h0 : (k 0).val = min (idx (ix2 (i 0) (0 : Fin 3))).toInt.toNat 63) (h1 : (k 1).val = (i 2).val) (h2 : (k 2).val = (i 3).val) :
    Host.gather gather_S64x512x2048_S448x3_S448x1x512x2048_123_n_n_n_012_1_15122048 x idx i = x k := by
  unfold Host.gather
  refine congrArg x (funext fun a => Fin.ext ?_)
  set d := gather_S64x512x2048_S448x3_S448x1x512x2048_123_n_n_n_012_1_15122048 with hd
  have hi1 : (i 1).val < 1 := (i 1).isLt
  have hsi : d.siIdx i ⟨0, by decide⟩ = ix2 (i 0) (0 : Fin 3) := by
    funext b
    apply Fin.ext
    match b with
    | ⟨0, _⟩ => rfl
    | ⟨1, _⟩ => rfl
  match a with
  | ⟨0, _⟩ =>
    refine Eq.trans ?_ h0.symm
    show d.start i idx 0 + d.batchCoord i 0 + d.offCoord i 0 = _
    rw [d.batchCoord_eq_zero _ _ (by decide)]
    have e : d.offCoord i 0 = (i 1).val := rfl
    have e' : d.start i idx 0 = min (idx (d.siIdx i ⟨0, by decide⟩)).toInt.toNat 63 := rfl
    rw [e, e', hsi, show (i 1).val = 0 by omega]
    rfl
  | ⟨1, _⟩ =>
    refine Eq.trans ?_ h1.symm
    show d.start i idx 1 + d.batchCoord i 1 + d.offCoord i 1 = _
    rw [d.batchCoord_eq_zero _ _ (by decide)]
    have e : d.offCoord i 1 = (i 2).val := rfl
    have e' : d.start i idx 1 ≤ 0 := d.start_le i idx 1
    rw [e]
    omega
  | ⟨2, _⟩ =>
    refine Eq.trans ?_ h2.symm
    show d.start i idx 2 + d.batchCoord i 2 + d.offCoord i 2 = _
    rw [d.batchCoord_eq_zero _ _ (by decide)]
    have e : d.offCoord i 2 = (i 3).val := rfl
    have e' : d.start i idx 2 ≤ 0 := d.start_le i idx 2
    rw [e]
    omega

/-- The expert of block `t`, as a row of the tables of weights. -/
def ix448 (n : ℕ) (h : n < 448) : S448.Idx := fun | ⟨0, _⟩ => ⟨n, h⟩
/-- Every word of the table names an expert. -/
def Named (x0 : S448.Idx → BitVec 32) : Prop := ∀ t, BitVec.slt (x0 t) 0#32 = false ∧ BitVec.slt (x0 t) 64#32 = true

theorem named_toInt {w : BitVec 32} (h : BitVec.slt w 0#32 = false ∧ BitVec.slt w 64#32 = true) : w.toInt = w.toNat ∧ w.toNat < 64 := by
  have h1 : ¬(w.toInt < 0) := by
    intro h'; have := BitVec.slt_iff_toInt_lt.2 (show w.toInt < (0#32).toInt from h'); rw [h.1] at this; exact absurd this (by decide)
  have h2 : w.toInt < 64 := BitVec.slt_iff_toInt_lt.1 h.2
  rw [BitVec.toInt_eq_toNat_cond] at *
  split at h1 <;> split at h2 <;> omega

theorem first_col (y1 y2 y3 : S448x1.Idx → BitVec 32) (t : Fin 448) :
    (concatenate S448x3 1 [⟨S448x1, y1⟩, ⟨S448x1, y2⟩, ⟨S448x1, y3⟩] concatenates_S448x1_S448x1_S448x1_S448x3_d1 : S448x3.Idx → BitVec 32) (ix2 t (0 : Fin 3)) = y1 (ix2 t (0 : Fin 1)) :=
  concatenate_apply_piece (t := S448x3) 1 [⟨S448x1, y1⟩, ⟨S448x1, y2⟩, ⟨S448x1, y3⟩] concatenates_S448x1_S448x1_S448x1_S448x3_d1 (ix2 t (0 : Fin 3)) 0 (by decide : 0 < 3) S448x1 y1 rfl rfl 0 rfl _ (fun b hb => by
    match b with
    | ⟨0, _⟩ => rfl
    | ⟨1, _⟩ => exact absurd rfl hb) rfl

theorem col_expert (x0 : S448.Idx → BitVec 32) (hx : Named x0) (t : Fin 448) :
    (val_main_v15 (F := Ideal) x0 (ix2 t (0 : Fin 3))) = x0 (ix448 t.val t.isLt) := by
  unfold val_main_v15
  refine (first_col _ _ _ t).trans ?_
  rw [val_main_v12_apply, val_main_v5_apply]
  have e : idx_main_v12 (ix2 t (0 : Fin 1)) = ix448 t.val t.isLt := funext fun a => match a with | ⟨0, _⟩ => rfl
  rw [e, val_main_v2_apply, val_main_v1_apply, val_main_c_apply]
  have := (hx (ix448 t.val t.isLt)).1
  simp only [IntOp.cmpi, this, Scalar.select]
  rfl
theorem col_expert' (x0 : S448.Idx → BitVec 32) : val_main_v32 (F := Ideal) x0 = val_main_v15 (F := Ideal) x0 := rfl
theorem col_expert'' (x0 : S448.Idx → BitVec 32) : val_main_v49 (F := Ideal) x0 = val_main_v15 (F := Ideal) x0 := rfl

def ixUp (n : ℕ) (h : n < 64) (p : Fin 2048) (q : Fin 512) : S64x2048x512.Idx := fun | ⟨0, _⟩ => ⟨n, h⟩ | ⟨1, _⟩ => p | ⟨2, _⟩ => q
def ixDn (n : ℕ) (h : n < 64) (p : Fin 512) (q : Fin 2048) : S64x512x2048.Idx := fun | ⟨0, _⟩ => ⟨n, h⟩ | ⟨1, _⟩ => p | ⟨2, _⟩ => q

variable (x0 : S448.Idx → BitVec 32) (hx : Named x0)

/-- The gathered weights are the named expert's. -/
theorem v17_at (x3 : S64x2048x512.Idx → EReal) (t : Fin 448) (p : Fin 2048) (q : Fin 512) :
    val_main_v17 (F := Ideal) x0 x3 (ix3 t p q) = x3 (ixUp (x0 (ix448 t.val t.isLt)).toNat (named_toInt (hx _)).2 p q) := by
  rw [val_main_v17_apply]
  unfold val_main_v16
  have ht := t.isLt; have hp := p.isLt; have hq := q.isLt
  have h0 : idx_main_v17 (ix3 t p q) 0 = t := Fin.ext (by show ((t.val * 2048 + p.val) * 512 + q.val) / 1048576 = t.val; omega)
  refine gather_up x3 _ _ _ ?_ ?_ ?_
  · rw [h0, col_expert x0 hx t]
    have hh := named_toInt (hx (ix448 t.val t.isLt))
    show (x0 (ix448 t.val t.isLt)).toNat = min (x0 (ix448 t.val t.isLt)).toInt.toNat 63
    rw [hh.1, Int.toNat_natCast]; omega
  · show p.val = ((t.val * 2048 + p.val) * 512 + q.val) / 512 % 2048; omega
  · show q.val = ((t.val * 2048 + p.val) * 512 + q.val) % 512; omega
theorem v34_at (x3 : S64x2048x512.Idx → EReal) (t : Fin 448) (p : Fin 2048) (q : Fin 512) :
    val_main_v34 (F := Ideal) x0 x3 (ix3 t p q) = x3 (ixUp (x0 (ix448 t.val t.isLt)).toNat (named_toInt (hx _)).2 p q) := v17_at x0 hx x3 t p q
theorem v51_at (x5 : S64x512x2048.Idx → EReal) (t : Fin 448) (p : Fin 512) (q : Fin 2048) :
    val_main_v51 (F := Ideal) x0 x5 (ix3 t p q) = x5 (ixDn (x0 (ix448 t.val t.isLt)).toNat (named_toInt (hx _)).2 p q) := by
  rw [val_main_v51_apply]
  unfold val_main_v50
  have ht := t.isLt; have hp := p.isLt; have hq := q.isLt
  have h0 : idx_main_v51 (ix3 t p q) 0 = t := Fin.ext (by show ((t.val * 512 + p.val) * 2048 + q.val) / 1048576 = t.val; omega)
  refine gather_dn x5 _ _ _ ?_ ?_ ?_
  · rw [h0, col_expert'', col_expert x0 hx t]
    have hh := named_toInt (hx (ix448 t.val t.isLt))
    show (x0 (ix448 t.val t.isLt)).toNat = min (x0 (ix448 t.val t.isLt)).toInt.toNat 63
    rw [hh.1, Int.toNat_natCast]; omega
  · show p.val = ((t.val * 512 + p.val) * 2048 + q.val) / 2048 % 512; omega
  · show q.val = ((t.val * 512 + p.val) * 2048 + q.val) % 2048; omega

/-- Row `p` of block `t`. -/
def row (t : Fin 448) (p : Fin 256) (q : Fin 2048) : S114688x2048.Idx := fun
  | ⟨0, _⟩ => ⟨256 * t.val + p.val, by have ht := t.isLt; have hp := p.isLt; show _ < 114688; omega⟩ | ⟨1, _⟩ => q

theorem v0_at (x2 : S114688x2048.Idx → EReal) (t : Fin 448) (p : Fin 256) (q : Fin 2048) :
    val_main_v0 (F := Ideal) x2 (ix3 t p q) = x2 (row t p q) := by
  rw [val_main_v0_apply]
  have ht := t.isLt; have hp := p.isLt; have hq := q.isLt
  refine congrArg x2 (funext fun a => Fin.ext ?_)
  match a with
  | ⟨0, _⟩ => show ((t.val * 256 + p.val) * 2048 + q.val) / 2048 = 256 * t.val + p.val; omega
  | ⟨1, _⟩ => show ((t.val * 256 + p.val) * 2048 + q.val) % 2048 = q.val; omega

/-- The gated activation of the two products at one unit. -/
def act (u v : EReal) : EReal := u * (Ideal.div 1 (1 + Ideal.exp (-u))) * v

/-- Row `p`, column `q` of expert `e`'s feed-forward of block `t`'s rows. -/
def ffn (x2 : S114688x2048.Idx → EReal) (x3 x4 : S64x2048x512.Idx → EReal) (x5 : S64x512x2048.Idx → EReal) (t : Fin 448) (e : ℕ) (he : e < 64)
    (p : Fin 256) (q : Fin 2048) : EReal :=
  ∑ k : Fin 512, act (∑ j : Fin 2048, x2 (row t p j) * x3 (ixUp e he j k)) (∑ j : Fin 2048, x2 (row t p j) * x4 (ixUp e he j k)) * x5 (ixDn e he k q)

theorem v52_at (x2 : S114688x2048.Idx → EReal) (x3 : S64x2048x512.Idx → EReal) (t : Fin 448) (p : Fin 256) (k : Fin 512) :
    val_main_v52 (F := Ideal) x0 x2 x3 (ix3 t p k) = ∑ j : Fin 2048, x2 (row t p j) * x3 (ixUp (x0 (ix448 t.val t.isLt)).toNat (named_toInt (hx _)).2 j k) := by
  rw [val_main_v52_apply]
  refine Finset.sum_congr rfl fun j _ => ?_
  have el : lidx_main_v52 (ix3 t p k) j = ix3 t p j := funext fun a => match a with | ⟨0, _⟩ => rfl | ⟨1, _⟩ => rfl | ⟨2, _⟩ => rfl
  have er : ridx_main_v52 (ix3 t p k) j = ix3 t j k := funext fun a => match a with | ⟨0, _⟩ => rfl | ⟨1, _⟩ => rfl | ⟨2, _⟩ => rfl
  rw [el, er, v0_at, v17_at x0 hx]
theorem v54_at (x2 : S114688x2048.Idx → EReal) (x4 : S64x2048x512.Idx → EReal) (t : Fin 448) (p : Fin 256) (k : Fin 512) :
    val_main_v54 (F := Ideal) x0 x2 x4 (ix3 t p k) = ∑ j : Fin 2048, x2 (row t p j) * x4 (ixUp (x0 (ix448 t.val t.isLt)).toNat (named_toInt (hx _)).2 j k) :=
  v52_at x0 hx x2 x4 t p k

theorem v56_at (x2 : S114688x2048.Idx → EReal) (x3 x4 : S64x2048x512.Idx → EReal) (x5 : S64x512x2048.Idx → EReal) (t : Fin 448) (p : Fin 256) (q : Fin 2048) :
    val_main_v56 (F := Ideal) x0 x2 x3 x4 x5 (ix3 t p q) = ffn x2 x3 x4 x5 t (x0 (ix448 t.val t.isLt)).toNat (named_toInt (hx _)).2 p q := by
  rw [val_main_v56_apply]
  unfold ffn
  refine Finset.sum_congr rfl fun k _ => ?_
  have el : lidx_main_v56 (ix3 t p q) k = ix3 t p k := funext fun a => match a with | ⟨0, _⟩ => rfl | ⟨1, _⟩ => rfl | ⟨2, _⟩ => rfl
  have er : ridx_main_v56 (ix3 t p q) k = ix3 t k q := funext fun a => match a with | ⟨0, _⟩ => rfl | ⟨1, _⟩ => rfl | ⟨2, _⟩ => rfl
  rw [el, er, v51_at x0 hx, val_main_v55_apply, v54_at x0 hx, val_main_v53_apply, val_main_call0_v5_apply, val_main_call0_v4_apply, val_main_call0_v3_apply,
    val_main_call0_v2_apply, val_main_call0_v1_apply, val_main_call0_v0_apply, v52_at x0 hx, val_main_call0_cst_apply, val_main_call0_cst_0_apply]
  generalize (∑ j : Fin 2048, x2 (row t p j) * x3 (ixUp (x0 (ix448 t.val t.isLt)).toNat (named_toInt (hx _)).2 j k)) = u
  generalize (∑ j : Fin 2048, x2 (row t p j) * x4 (ixUp (x0 (ix448 t.val t.isLt)).toNat (named_toInt (hx _)).2 j k)) = v
  have e1 : (FloatOps.ofBits FTy.f32 0x3F800000#32 : Ideal .f32) = (1 : EReal) := Ideal.ofBits_one_f32
  erw [e1]
  rfl

def ix1_0 : S1.Idx := fun | ⟨0, _⟩ => ⟨0, Nat.one_pos⟩

/-- The reference's result: the expert's feed-forward on the valid blocks, zero on the others. -/
theorem v63_at (x1 : S1.Idx → BitVec 32) (x2 : S114688x2048.Idx → EReal) (x3 x4 : S64x2048x512.Idx → EReal) (x5 : S64x512x2048.Idx → EReal) (t : Fin 448) (p : Fin 256) (q : Fin 2048) :
    val_main_v63 (F := Ideal) x0 x1 x2 x3 x4 x5 (row t p q)
      = if BitVec.slt (BitVec.ofNat 32 t.val) (x1 ix1_0) then ffn x2 x3 x4 x5 t (x0 (ix448 t.val t.isLt)).toNat (named_toInt (hx _)).2 p q else 0 := by
  have ht := t.isLt; have hp := p.isLt; have hq := q.isLt
  have e : idx_main_v63 (row t p q) = ix3 t p q := funext fun a => Fin.ext (by
    match a with
    | ⟨0, _⟩ => show ((256 * t.val + p.val) * 2048 + q.val) / 524288 = t.val; omega
    | ⟨1, _⟩ => show ((256 * t.val + p.val) * 2048 + q.val) / 2048 % 256 = p.val; omega
    | ⟨2, _⟩ => show ((256 * t.val + p.val) * 2048 + q.val) % 2048 = q.val; omega)
  rw [val_main_v63_apply, e, val_main_v62_apply, v56_at x0 hx, val_main_call1_v2_apply, val_main_call1_v0_apply, val_main_cst_apply, val_main_call1_v1_apply, val_main_v61_apply,
    val_main_v60_apply, val_main_v58_apply, val_main_v57_apply]
  have e0 : (FloatOps.ofBits FTy.f32 0x00000000#32 : Ideal .f32) = (0 : EReal) := Ideal.ofBits_zero .f32
  have e1 : ∀ k, val_main_v59 (F := Ideal) x1 k = x1 ix1_0 := fun k => by
    unfold val_main_v59
    exact shapeCast_apply x1 shapeCasts_S1_S_ k ix1_0 (by decide +revert)
  rw [e0, e1]
  generalize ffn x2 x3 x4 x5 t (x0 (ix448 t.val t.isLt)).toNat (named_toInt (hx _)).2 p q = z
  show Scalar.select (BitVec.ofBool (BitVec.slt (BitVec.ofNat 32 t.val) (x1 ix1_0))) z 0 = _
  cases BitVec.slt (BitVec.ofNat 32 t.val) (x1 ix1_0) <;> rfl

end Cert.ExpertsRefIdeal.Hand

end
-- ==== Proof.ExpertsValue.lean ====
/- The routed experts' launch computes the reference: each block's payload at an index, the blocks it reads as entries
   of the arrays, and the array it writes. -/
module

public import proofs.«01_k».proof.Proof.ExpertsIdealFrame
public import proofs.«01_k».proof.Proof.ExpertsRef
public import Idealize.ShloMosaic.Lib.Pipeline.ValueKit
public import Idealize.ShloMosaic.Lib.Claim
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ExpertsIdeal.Hand

open Cert.ExpertsIdeal Cert.ExpertsIdeal.Gen
open Cert.ExpertsRefIdeal.Hand (act)

open Cert.ExpertsRefIdeal.Hand (ffn Named named_toInt ixUp ixDn row)

/-- The block's payload at an index. -/
theorem pay_at (x0 : S256x2048.Idx → EReal) (y0 y1 : S1x2048x512.Idx → EReal) (y2 : S1x512x2048.Idx → EReal) (p : Fin 256) (q : Fin 2048) :
    k0_pay4 (F := Ideal) x0 (k0_pay1 (F := Ideal) y0) (k0_pay2 (F := Ideal) y1) (k0_pay3 (F := Ideal) y2) (ix2 p q)
      = ∑ k : Fin 512, act (∑ j : Fin 2048, x0 (ix2 p j) * y0 (Idealize.ShloMosaic.ix3 (0 : Fin 1) j k)) (∑ j : Fin 2048, x0 (ix2 p j) * y1 (Idealize.ShloMosaic.ix3 (0 : Fin 1) j k)) * y2 (Idealize.ShloMosaic.ix3 (0 : Fin 1) k q) := by
  unfold act
  pointwise [k0_pay4, k0_pay1, k0_pay2, k0_pay3]
  simp only [sub_eq_add_neg, zero_add]

theorem ofNat_toInt (n : ℕ) (h : n < 448) : (BitVec.ofNat 32 n).toInt = n := by
  rw [BitVec.toInt_eq_toNat_cond, BitVec.toNat_ofNat]; omega

variable (a : (pcfg0 (F := Ideal)).Adm)

/-- A valid block's number is below the count of the valid blocks, and conversely. -/
theorem val_iff (t : Fin grid0.N) : Val a (grid0.coords t) ↔ BitVec.slt (BitVec.ofNat 32 t.val) (wN a) = true := by
  unfold Val k0_cond1
  rw [crd_val t]
  simp only [Scalar.cmpi, Scalar.extui, IntOp.cmpi]
  cases BitVec.slt (BitVec.ofNat 32 t.val) (wN a) <;> decide

theorem wN_eq : wN a = T1 a Cert.ExpertsRefIdeal.Hand.ix1_0 := by
  unfold wN
  refine congrArg (T1 a) (funext fun x => Fin.ext ?_)
  fin_cases x
  rfl

/-- The block of rows a valid block reads is its own. -/
theorem rows_val (w : BitVec 32) (n : ℕ) (hn : n < 448) (h : BitVec.slt (BitVec.ofNat 32 n) w = true) :
    (Scalar.minsi (BitVec.ofNat 32 n) (Scalar.subi w 1#32)).toNat = n := by
  have h1 : ((BitVec.ofNat 32 n).toInt) < w.toInt := by simpa [BitVec.slt_iff_toInt_lt] using h
  rw [ofNat_toInt n hn] at h1
  have h2 : w.toInt < 2 ^ 31 := by have := BitVec.toInt_lt (x := w); simpa using this
  have h3 : (w - 1#32).toInt = w.toInt - 1 := by
    rw [BitVec.toInt_sub]
    have : (1#32 : BitVec 32).toInt = 1 := by decide
    rw [this, Int.bmod_def]; omega
  have h4 : (BitVec.ofNat 32 n).sle (w - 1#32) = true := by
    rw [BitVec.sle_iff_toInt_le, h3, ofNat_toInt n hn]; omega
  have h5 : Scalar.minsi (BitVec.ofNat 32 n) (Scalar.subi w 1#32) = BitVec.ofNat 32 n := by
    rcases hlt : BitVec.slt (BitVec.ofNat 32 n) (w - 1#32) with _ | _
    · have h6 : w - 1#32 = BitVec.ofNat 32 n := by
        apply BitVec.eq_of_toInt_eq
        have : ¬ (BitVec.ofNat 32 n).toInt < (w - 1#32).toInt := by
          rw [← BitVec.slt_iff_toInt_lt, hlt]; decide
        rw [h3, ofNat_toInt n hn] at this ⊢
        omega
      show (if BitVec.slt (BitVec.ofNat 32 n) (w - 1#32) = true then BitVec.ofNat 32 n else w - 1#32) = _
      rw [h6, ite_self]
    · show (if BitVec.slt (BitVec.ofNat 32 n) (w - 1#32) = true then BitVec.ofNat 32 n else w - 1#32) = _
      rw [if_pos hlt]
  rw [h5, BitVec.toNat_ofNat]
  omega

variable (m : (ℓ : Loc nD τ sig) → Buf (Elt Ideal) ℓ) (ρ : Dev nD → PrngReg)

theorem iblk_0 (c : Dev nD) (t : Fin (cfgA a).N) (ht : t.val < 448) (h : Val a (crd a t)) (p : Fin 256) (q : Fin 2048) :
    iblk a m ρ c (0 : Fin 5) t (ix2 p q) = m ((c : Thread nD τ).loc main_arg2) (row ⟨t.val, ht⟩ p q) := by
  have hv := rows_val (wN a) t.val ht ((val_iff a t).mp h)
  have hc := crd_val t
  unfold iblk
  refine congrArg (m ((c : Thread nD τ).loc main_arg2)) (funext fun x => Fin.ext ?_)
  fin_cases x
  · show (Scalar.minsi (BitVec.ofNat 32 (grid0.coords t 0).val) (Scalar.subi (wN a) 1#32)).toNat * 256 + 1 * p.val = 256 * t.val + p.val
    rw [hc, hv]; omega
  · show 0 * 2048 + 1 * q.val = q.val
    omega

variable (hx : ∀ c : Dev nD, Named (m ((c : Thread nD τ).loc main_arg0)))

/-- What a point leaves in the output's block is the reference's rows of that block. -/
theorem OUT_at (hp : At a m) (c : Dev nD) (hx : Named (m ((c : Thread nD τ).loc main_arg0))) (t : Fin (cfgA a).N) (ht : t.val < 448) (p : Fin 256) (q : Fin 2048) :
    OUT a m ρ c t (ix2 p q) = Cert.ExpertsRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row ⟨t.val, ht⟩ p q) := by
  have h63 := Cert.ExpertsRefIdeal.Hand.v63_at (m ((c : Thread nD τ).loc main_arg0)) hx (m ((c : Thread nD τ).loc main_arg1)) (m ((c : Thread nD τ).loc main_arg2)) (m ((c : Thread nD τ).loc main_arg3)) (m ((c : Thread nD τ).loc main_arg4)) (m ((c : Thread nD τ).loc main_arg5)) ⟨t.val, ht⟩ p q
  refine Eq.trans ?_ h63.symm
  have hn : wN a = m ((c : Thread nD τ).loc main_arg1) Cert.ExpertsRefIdeal.Hand.ix1_0 := (wN_eq a).trans (congrFun (hp c).2 _).symm
  have he : wE a (crd a t) = m ((c : Thread nD τ).loc main_arg0) (Cert.ExpertsRefIdeal.Hand.ix448 t.val ht) := (wE_eq a t).trans (congrFun (hp c).1 _).symm
  by_cases h : Val a (crd a t)
  · have hs := (val_iff a t).mp h
    rw [hn] at hs
    rw [if_pos hs, OUT_val a m ρ c t h]
    unfold SC0 SC1 SC2 ffn
    refine (pay_at _ _ _ _ p q).trans (Finset.sum_congr rfl fun k _ => ?_)
    refine congr (congrArg HMul.hMul (congr (congrArg act ?_) ?_)) ?_
    · refine Finset.sum_congr rfl fun j _ => congr (congrArg HMul.hMul (iblk_0 a m ρ c t ht h p j)) ?_
      exact iblk_1 a m ρ c t _ (ixUp _ (named_toInt (hx _)).2 j k) (by rw [he]; rfl) rfl rfl
    · refine Finset.sum_congr rfl fun j _ => congr (congrArg HMul.hMul (iblk_0 a m ρ c t ht h p j)) ?_
      exact iblk_2 a m ρ c t _ (ixUp _ (named_toInt (hx _)).2 j k) (by rw [he]; rfl) rfl rfl
    · exact iblk_3 a m ρ c t _ (ixDn _ (named_toInt (hx _)).2 k q) (by rw [he]; rfl) rfl rfl
  · have hs : ¬ (BitVec.slt (BitVec.ofNat 32 t.val) (m ((c : Thread nD τ).loc main_arg1) Cert.ExpertsRefIdeal.Hand.ix1_0) = true) := by
      rw [← hn]; exact fun h' => h ((val_iff a t).mpr h')
    rw [if_neg hs, OUT_not a m ρ c t h]
    exact Ideal.ofBits_zero .f32

theorem covers_4 : ((cfgA a).win (4 : Fin 5)).Covers := by
  refine Pipeline.Window.covers_of_index_surj _ rfl (fun x => by fin_cases x; exacts [(by decide : 0 < 256), (by decide : 0 < 2048)]) fun β => ?_
  have h0 : (β (0 : Fin 2)).val < 448 := lt_of_lt_of_eq (β (0 : Fin 2)).isLt (by show (114688 + 256 - 1) / 256 = 448; norm_num)
  have h1 : (β (1 : Fin 2)).val < 1 := lt_of_lt_of_eq (β (1 : Fin 2)).isLt (by show (2048 + 2048 - 1) / 2048 = 1; norm_num)
  refine ⟨⟨(β (0 : Fin 2)).val, h0⟩, fun x => ?_⟩
  fin_cases x
  · show (BitVec.ofNat 32 (grid0.coords ⟨(β (0 : Fin 2)).val, h0⟩ 0).val).toNat = (β (0 : Fin 2)).val
    rw [crd_val, BitVec.toNat_ofNat]
    show (β (0 : Fin 2)).val % 2 ^ 32 = _
    omega
  · show 0 = (β (1 : Fin 2)).val
    omega

/-- The array the launch writes is the reference's. -/
theorem final (hp : At a m) (c : Dev nD) (hx : Named (m ((c : Thread nD τ).loc main_arg0))) :
    (dats a m ρ 0 c).arrAt (4 : Fin 5) (cfgA a).N = Cert.ExpertsRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats a m ρ 0 c).arrAt_eq_of_covers (4 : Fin 5) _ (covers_4 a) fun t hf y => ?_
  have ht : t.val < 448 := t.isLt
  have h := OUT_at a m ρ hp c hx t ht (y (0 : Fin 2)) (y (1 : Fin 2))
  refine Eq.trans (b := OUT a m ρ c t (ix2 (y (0 : Fin 2)) (y (1 : Fin 2)))) ?_ (h.trans ?_)
  · show OUT a m ρ c t _ = _
    refine congrArg (OUT a m ρ c t) (funext fun x => ?_)
    fin_cases x <;> rfl
  · refine congrArg (Cert.ExpertsRefIdeal.Read.val_main_v63 (F := Ideal) _ _ _ _ _ _) (funext fun x => Fin.ext ?_)
    have hc := crd_val t
    fin_cases x
    · show 256 * t.val + (y (0 : Fin 2)).val = (BitVec.ofNat 32 (grid0.coords t 0).val).toNat * 256 + 1 * (y (0 : Fin 2)).val
      rw [hc, BitVec.toNat_ofNat]; omega
    · show (y (1 : Fin 2)).val = 0 * 2048 + 1 * (y (1 : Fin 2)).val
      omega

end Cert.ExpertsIdeal.Hand

end
-- ==== Proof.ExpertsClaims.lean ====
/- The routed experts' claims: what the precondition says of the two tables, the tables' admissibility from it, and the
   frames and the value from the runs. -/
module

public import proofs.«01_k».proof.Defs
public import proofs.«01_k».proof.Proof.Gen.Pre_pre_ex
public import proofs.«01_k».proof.Proof.Gen.ExpertsRefIdeal.Run
public import proofs.«01_k».proof.Proof.ExpertsFrame
public import proofs.«01_k».proof.Proof.ExpertsValue
public import Idealize.ShloMosaic.Lib.ReduceAll

@[expose] public section

set_option maxRecDepth 16384

noncomputable section

open Idealize.ShloMosaic Idealize.ShloMosaic.TcCoe Idealize.SL.Sem

namespace Cert.Proof.Exp

instance : Subsingleton Cert.Pre_pre_ex.S_.Idx := ⟨fun a b => funext fun x => x.elim0⟩

/-- The tables' words the precondition admits: every block's expert is one of the 64, the valid blocks are 1 to 448. -/
def Ok (x0 : Cert.Pre_pre_ex.S448.Idx → BitVec 32) (x1 : Cert.Pre_pre_ex.S1.Idx → BitVec 32) : Prop :=
  (∀ i, 0 ≤ (x0 i).toInt ∧ (x0 i).toInt < 64) ∧ ∀ i, 1 ≤ (x1 i).toInt ∧ (x1 i).toInt ≤ 448

theorem ok_of_pre {F : FTy → Type} [FloatOps F] (x0 : IVec Cert.Pre_pre_ex.S448 32) (x1 : IVec Cert.Pre_pre_ex.S1 32)
    (x2 : FVec F Cert.Pre_pre_ex.S114688x2048 .f32) (x3 x4 : FVec F Cert.Pre_pre_ex.S64x2048x512 .f32) (x5 : FVec F Cert.Pre_pre_ex.S64x512x2048 .f32)
    (h : Cert.Pre_pre_ex.fn (F := F) x0 x1 x2 x3 x4 x5 = fun _ => 1#1) : Ok x0 x1 := by
  have h0 := congrFun h (fun x => x.elim0)
  unfold Cert.Pre_pre_ex.fn at h0
  obtain ⟨ha, hb⟩ := IntOp.andi_eq_one.1 h0
  constructor
  · intro i
    obtain ⟨h1, h2⟩ := IntOp.andi_eq_one.1 (Host.reduce_andi_all _ _ _ _ _ ha i)
    exact ⟨IntOp.cmpi_sge.1 h1, IntOp.cmpi_slt.1 h2⟩
  · intro i
    obtain ⟨h1, h2⟩ := IntOp.andi_eq_one.1 (Host.reduce_andi_all _ _ _ _ _ hb i)
    exact ⟨IntOp.cmpi_sge.1 h1, IntOp.cmpi_sle.1 h2⟩

/-- A word that is not negative and is below 64, read unsigned. -/
theorem toNat_lt (w : BitVec 32) (h : 0 ≤ w.toInt ∧ w.toInt < 64) : w.toNat < 64 := by
  have := w.isLt
  rw [BitVec.toInt_eq_toNat_cond] at h
  omega

theorem named (x0 : Cert.Pre_pre_ex.S448.Idx → BitVec 32) (x1 : Cert.Pre_pre_ex.S1.Idx → BitVec 32) (h : Ok x0 x1) : Cert.ExpertsRefIdeal.Hand.Named x0 := fun t => by
  have := h.1 t
  constructor
  · rw [Bool.eq_false_iff, ne_eq, BitVec.slt_iff_toInt_lt]
    show ¬ (x0 t).toInt < 0
    omega
  · rw [BitVec.slt_iff_toInt_lt]
    show (x0 t).toInt < 64
    omega

/-- The block of rows read is one of the 448, whatever the grid point. -/
theorem rows_lt (w : BitVec 32) (n : ℕ) (hn : n < 448) (h : 1 ≤ w.toInt ∧ w.toInt ≤ 448) :
    (Scalar.minsi (BitVec.ofNat 32 n) (Scalar.subi w 1#32)).toNat < 448 := by
  have h0 := w.isLt
  rw [BitVec.toInt_eq_toNat_cond] at h
  have hw : 1 ≤ w.toNat ∧ w.toNat ≤ 448 := by omega
  have e : (w - 1#32).toNat < 448 := by
    rw [BitVec.toNat_sub]
    show (2 ^ 32 - 1 + w.toNat) % 2 ^ 32 < 448
    omega
  show (if BitVec.slt (BitVec.ofNat 32 n) (w - 1#32) = true then BitVec.ofNat 32 n else w - 1#32).toNat < 448
  split
  · rw [BitVec.toNat_ofNat]; omega
  · exact e

end Cert.Proof.Exp

namespace Cert.ExpertsIdeal.Hand
open Cert.ExpertsIdeal Cert.ExpertsIdeal.Gen
open Cert.Proof.Exp (Ok rows_lt toNat_lt)

theorem ok_tables (pf : pre0.Contents (Elt Ideal)) (h : Ok (pf 0) (pf 1)) : ok0 (F := Ideal) pf := by
  have hE : ∀ (i : grid0.Coords), (pf.at 0 (Rect.unit (s := S448) (k0_off1 i) S1.size (k0_off1_inb i)) numel1_S1 : BitVec 32).toNat < 64 := fun i => toNat_lt _ (h.1 _)
  have hN : ∀ (i : grid0.Coords), (Scalar.minsi (BitVec.ofNat 32 (i 0).val) (Scalar.subi (pf.at 1 (Rect.unit (s := S1) ![0] S1.size inb_S1_S1_0) numel1_S1 : BitVec 32) 1#32)).toNat < 448 := fun i =>
    rows_lt _ _ (i 0).isLt (h.2 _)
  refine ⟨fun i => ⟨fun x => ?_, Or.inl rfl⟩, fun i => ⟨fun x => ?_, Or.inl rfl⟩, fun i => ⟨fun x => ?_, Or.inl rfl⟩, fun i => ⟨fun x => ?_, Or.inl rfl⟩⟩
  · have := hN i
    fin_cases x
    · show ((Scalar.minsi (BitVec.ofNat 32 (i 0).val) (Scalar.subi (pf.at 1 (Rect.unit (s := S1) ![0] S1.size inb_S1_S1_0) numel1_S1 : BitVec 32) 1#32)).toNat + 1) * 256 ≤ 114688
      omega
    · show (0 + 1) * 2048 ≤ 2048
      omega
  · have := hE i
    fin_cases x
    · show ((pf.at 0 (Rect.unit (s := S448) (k0_off1 i) S1.size (k0_off1_inb i)) numel1_S1 : BitVec 32).toNat + 1) * 1 ≤ 64
      omega
    · show (0 + 1) * 2048 ≤ 2048
      omega
    · show (0 + 1) * 512 ≤ 512
      omega
  · have := hE i
    fin_cases x
    · show ((pf.at 0 (Rect.unit (s := S448) (k0_off1 i) S1.size (k0_off1_inb i)) numel1_S1 : BitVec 32).toNat + 1) * 1 ≤ 64
      omega
    · show (0 + 1) * 2048 ≤ 2048
      omega
    · show (0 + 1) * 512 ≤ 512
      omega
  · have := hE i
    fin_cases x
    · show ((pf.at 0 (Rect.unit (s := S448) (k0_off1 i) S1.size (k0_off1_inb i)) numel1_S1 : BitVec 32).toNat + 1) * 1 ≤ 64
      omega
    · show (0 + 1) * 512 ≤ 512
      omega
    · show (0 + 1) * 2048 ≤ 2048
      omega

variable (m : (ℓ : Loc nD τ sig) → Buf (Elt Ideal) ℓ)

/-- The tables of the launch memory. -/
def tabs : pre0.Contents (Elt Ideal) := fun k => m (((0 : Dev nD) : Thread nD τ).loc (pre0.ref k))

theorem tabs_at (h : ok0 (F := Ideal) (tabs m)) : At ⟨tabs m, h⟩ m := fun c => by
  obtain rfl : c = 0 := Subsingleton.elim _ _
  exact ⟨rfl, rfl⟩

end Cert.ExpertsIdeal.Hand

namespace Cert.Experts.Hand
open Cert.Experts Cert.Experts.Gen
open Cert.Proof.Exp (Ok rows_lt toNat_lt)

theorem ok_tables (pf : pre0.Contents (Elt Bits)) (h : Ok (pf 0) (pf 1)) : ok0 (F := Bits) pf := by
  have hE : ∀ (i : grid0.Coords), (pf.at 0 (Rect.unit (s := S448) (k0_off1 i) S1.size (k0_off1_inb i)) numel1_S1 : BitVec 32).toNat < 64 := fun i => toNat_lt _ (h.1 _)
  have hN : ∀ (i : grid0.Coords), (Scalar.minsi (BitVec.ofNat 32 (i 0).val) (Scalar.subi (pf.at 1 (Rect.unit (s := S1) ![0] S1.size inb_S1_S1_0) numel1_S1 : BitVec 32) 1#32)).toNat < 448 := fun i =>
    rows_lt _ _ (i 0).isLt (h.2 _)
  refine ⟨fun i => ⟨fun x => ?_, Or.inl rfl⟩, fun i => ⟨fun x => ?_, Or.inl rfl⟩, fun i => ⟨fun x => ?_, Or.inl rfl⟩, fun i => ⟨fun x => ?_, Or.inl rfl⟩⟩
  · have := hN i
    fin_cases x
    · show ((Scalar.minsi (BitVec.ofNat 32 (i 0).val) (Scalar.subi (pf.at 1 (Rect.unit (s := S1) ![0] S1.size inb_S1_S1_0) numel1_S1 : BitVec 32) 1#32)).toNat + 1) * 256 ≤ 114688
      omega
    · show (0 + 1) * 2048 ≤ 2048
      omega
  · have := hE i
    fin_cases x
    · show ((pf.at 0 (Rect.unit (s := S448) (k0_off1 i) S1.size (k0_off1_inb i)) numel1_S1 : BitVec 32).toNat + 1) * 1 ≤ 64
      omega
    · show (0 + 1) * 2048 ≤ 2048
      omega
    · show (0 + 1) * 512 ≤ 512
      omega
  · have := hE i
    fin_cases x
    · show ((pf.at 0 (Rect.unit (s := S448) (k0_off1 i) S1.size (k0_off1_inb i)) numel1_S1 : BitVec 32).toNat + 1) * 1 ≤ 64
      omega
    · show (0 + 1) * 2048 ≤ 2048
      omega
    · show (0 + 1) * 512 ≤ 512
      omega
  · have := hE i
    fin_cases x
    · show ((pf.at 0 (Rect.unit (s := S448) (k0_off1 i) S1.size (k0_off1_inb i)) numel1_S1 : BitVec 32).toNat + 1) * 1 ≤ 64
      omega
    · show (0 + 1) * 512 ≤ 512
      omega
    · show (0 + 1) * 2048 ≤ 2048
      omega

variable (m : (ℓ : Loc nD τ sig) → Buf (Elt Bits) ℓ)

/-- The tables of the launch memory. -/
def tabs : pre0.Contents (Elt Bits) := fun k => m (((0 : Dev nD) : Thread nD τ).loc (pre0.ref k))

theorem tabs_at (h : ok0 (F := Bits) (tabs m)) : At ⟨tabs m, h⟩ m := fun c => by
  obtain rfl : c = 0 := Subsingleton.elim _ _
  exact ⟨rfl, rfl⟩

end Cert.Experts.Hand

namespace Cert.Proof.Exp

theorem pre_ideal (m : (ℓ : Loc Cert.ExpertsIdeal.nD Cert.ExpertsIdeal.τ Cert.ExpertsIdeal.sig) → Buf (Elt Ideal) ℓ) (h : Cert.Pre_ExpertsIdeal (hPre_pre_ex := Cert.Pre_pre_ex.Gen.facts) m) (c : Dev Cert.ExpertsIdeal.nD) :
    Ok (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) :=
  ok_of_pre _ _ _ _ _ _ (h c)

theorem pre_bits (m : (ℓ : Loc Cert.Experts.nD Cert.Experts.τ Cert.Experts.sig) → Buf (Elt Bits) ℓ) (h : Cert.Pre_Experts (hPre_pre_ex := Cert.Pre_pre_ex.Gen.facts) m) (c : Dev Cert.Experts.nD) :
    Ok (m ((c.tc : Thread Cert.Experts.nD Cert.Experts.τ).loc Cert.Experts.main_arg0)) (m ((c.tc : Thread Cert.Experts.nD Cert.Experts.τ).loc Cert.Experts.main_arg1)) :=
  ok_of_pre _ _ _ _ _ _ (h c)

theorem frame_experts : Cert.quiescent_Experts (hExperts := Cert.Experts.Gen.facts) (hPre_pre_ex := Cert.Pre_pre_ex.Gen.facts) := fun m g hp =>
  Cert.Experts.Hand.frame ⟨_, Cert.Experts.Hand.ok_tables _ (pre_bits m hp 0)⟩ m g (Cert.Experts.Hand.tabs_at m _)

theorem frame_experts_ideal : Cert.quiescent_ExpertsIdeal (hExpertsIdeal := Cert.ExpertsIdeal.Gen.facts) (hPre_pre_ex := Cert.Pre_pre_ex.Gen.facts) := fun m g hp =>
  Cert.ExpertsIdeal.Hand.frame ⟨_, Cert.ExpertsIdeal.Hand.ok_tables _ (pre_ideal m hp 0)⟩ m g (Cert.ExpertsIdeal.Hand.tabs_at m _)

theorem frame_experts_ref : Cert.quiescent_ExpertsRefIdeal (hExpertsRefIdeal := Cert.ExpertsRefIdeal.Gen.facts) := fun m g _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m g)

theorem frame_experts_ref_pre : Cert.quiescent_ExpertsRefIdeal_pre_pre_ex (hExpertsRefIdeal := Cert.ExpertsRefIdeal.Gen.facts) (hPre_pre_ex := Cert.Pre_pre_ex.Gen.facts) := fun m g _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m g)

/-- The routed experts: the kernel's launch computes the reference's array. -/
theorem algebraic_experts : Cert.algebraic_ExpertsIdeal_ExpertsRefIdeal (hExpertsIdeal := Cert.ExpertsIdeal.Gen.facts) (hExpertsRefIdeal := Cert.ExpertsRefIdeal.Gen.facts) (hPre_pre_ex := Cert.Pre_pre_ex.Gen.facts) := by
  intro m g m' g' hp hagree
  have hat := Cert.ExpertsIdeal.Hand.tabs_at m (Cert.ExpertsIdeal.Hand.ok_tables _ (pre_ideal m hp 0))
  refine ⟨fun c => Cert.ExpertsRefIdeal.Read.val_main_v63 (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)), ?_, ?_⟩
  · exact (θ_run Cert.ExpertsIdeal.defs _ _).mono (fun r h c => ⟨((h.1.1 c).1 (4 : Fin 5)).trans (Cert.ExpertsIdeal.Hand.final _ m g hat c (named _ _ (pre_ideal m hp c))), h.2 c⟩)
      (θ_run_and (Cert.ExpertsIdeal.Hand.run_main_quiescent _ m g hat) (Cert.ExpertsIdeal.Hand.unchanged _ m g hat))
  · refine (θ_run Cert.ExpertsRefIdeal.defs _ _).mono (fun r h c => ?_) (Cert.ExpertsRefIdeal.Value.run (F := Ideal) m' g')
    obtain ⟨a0, a1, a2, a3, a4, a5⟩ := hagree c
    obtain ⟨h0, hr⟩ := h c
    rw [Cert.ExpertsRefIdeal.Read.val_main_v63_eq, a0, a1, a2, a3, a4, a5] at h0
    exact ⟨h0, hr⟩

end Cert.Proof.Exp

end
-- ==== Proof.NaCond.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body fills the scratch at this point. -/
abbrev cond0_0 (i : grid0.Coords) : Prop := k0_cond1 i = 1#1
/-- It does so at the first row block of every head pair. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, k0_cond1, e0, e1, e2]
    word_cmp
   : ∀ t : Fin grid0.N, cond0_0 (grid0.coords t) ↔ t.val % 8 = 0)

end Cert.AttnIdeal.Hand

end
-- ==== Proof.NaRunA.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaCond

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case A on whole buffers: the pieces its stores leave in the result block and in the scratch, with the run. -/
noncomputable def runA (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : cond0_0 i)
    (x0 : Vec F S1x1x512x128 .bf16) (x1 : Vec F S1x1x4096x128 .bf16) (x2 : Vec F S1x1x4096x128 .bf16) (x3 : Vec F S8x1x128x512 .f32) (x4 : Vec F S1x128 .f32) (x5 : Vec F S1x128 .f32) (x6 : Vec F S128x128 .f32) (xs : Vec F S4096x128 .bf16) :
    Σ' (L7 : List (View.Piece (Elt F) S1x512x128 .bf16)), { LS0 : List (View.Piece (Elt F) S4096x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ arg11.view.loc (c : Thread nD τ) ↦[arg11.view.set]{fullShare} arg11.view.writes (Elt F) (harg11.unread xs) LS0) -∗ K ⟨⟩))
          ⊢ wp frame (wpE (defs₀ (F := F)) Variants.none c none) E (cc0_na i arg3 harg3 arg4 harg4 arg5 harg5 arg6 harg6 arg7 harg7 arg8 harg8 arg9 harg9 arg10 harg10 arg11 harg11) K } := by
  refine ⟨?_, ?_, fun E K => ?run⟩
  case run =>
    simp only [cc0_na_eq_skeleton]; unfold cc0_na_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexact HS0

end Cert.AttnIdeal.Hand

end
-- ==== Proof.NaRunB.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaCond

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in case B on whole buffers: the pieces its stores leave in the result block, with the run. -/
noncomputable def runB (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : ¬cond0_0 i)
    (x0 : Vec F S1x1x512x128 .bf16) (x1 : Vec F S1x1x4096x128 .bf16) (x2 : Vec F S1x1x4096x128 .bf16) (x3 : Vec F S8x1x128x512 .f32) (x4 : Vec F S1x128 .f32) (x5 : Vec F S1x128 .f32) (x6 : Vec F S128x128 .f32) (xs : Vec F S4096x128 .bf16) :
    { L7 : List (View.Piece (Elt F) S1x512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs) -∗ K ⟨⟩))
          ⊢ wp frame (wpE (defs₀ (F := F)) Variants.none c none) E (cc0_na i arg3 harg3 arg4 harg4 arg5 harg5 arg6 harg6 arg7 harg7 arg8 harg8 arg9 harg9 arg10 harg10 arg11 harg11) K } := by
  refine ⟨?_, fun E K => ?run⟩
  case run =>
    simp only [cc0_na_eq_skeleton]; unfold cc0_na_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; isplitr; · ipureintro; exact harg11.read_unread _
    iexact HS0

end Cert.AttnIdeal.Hand

end
-- ==== Proof.NaPieces.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaRunA
public import proofs.«01_k».proof.Proof.NaRunB
public import Idealize.ShloMosaic.Lib.Pipeline.ValueKit
public import Idealize.ShloMosaic.Lib.WritesUnit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open View (ld)

/-- The lane numbers of a row of queries. -/
abbrev V55 : IVec S64x128 32 := iota .tc S64x128 32 [1] iota_S64x128_d1_w32
/-- Which lanes belong to which head. -/
abbrev V54 : IVec S128x128 1 := k0_pay6 (iota .tc S128x128 32 [1] iota_S128x128_d1_w32) k0_pay3 64#32 k0_pay4 k0_pay5 (Scalar.extui (Scalar.cmpi .sgt 64#32 0#32))

/-- What one query row of the body stores, from the buffers' parts it loads: the row's queries, the gains, the key rows
    of its window out of the scratch, the value rows and the bias table's block. -/
def rowPay (v0 : Vec F S128x128 .f32) (q : Vec F S1x1x64x128 .bf16) (qw : Vec F S1x128 .f32) (kb : Vec F S512x128 .bf16)
    (vb : Vec F S1x1x512x128 .bf16) (bi : Vec F S1x1x128x512 .f32) : FVec F S1x64x128 .bf16 :=
  k0_pay12 V55 (k0_pay8 V54 (k0_pay7 v0 q qw) kb vb bi) (k0_pay9 V54 (k0_pay7 v0 q qw) kb vb bi) 64#32 (k0_pay10 V55) (k0_pay11 V55) 1#32

theorem row1_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay18 V55 (k0_pay14 V54 (k0_pay13 v0 q) qw kb vb bi) (k0_pay15 V54 (k0_pay13 v0 q) qw kb vb bi) 64#32 (k0_pay16 V55) (k0_pay17 V55) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row2_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay25 V55 (k0_pay21 V54 (k0_pay19 q) (k0_pay20 v0 q) qw kb vb bi) (k0_pay22 V54 (k0_pay19 q) (k0_pay20 v0 q) qw kb vb bi) 64#32 (k0_pay23 V55) k0_pay24 = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row3_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay30 V55 (k0_pay28 v0 V54 (k0_pay26 q) qw kb vb bi) (k0_pay29 v0 V54 (k0_pay26 q) qw kb bi) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row4_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay33 V55 (k0_pay31 vb) (k0_pay32 v0 V54 q qw kb bi) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row5_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay37 V55 (k0_pay34 vb) (k0_pay35 v0 V54 q qw kb) (k0_pay36 bi) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row6_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay41 (k0_pay40 V55 (k0_pay38 v0 V54 q qw) kb (k0_pay39 vb) (constant S128x512 .f32 0x00000000#32) bi) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem row7_eq (v0 : Vec F S128x128 .f32) (q : Vec F S1x1x64x128 .bf16) (qw : Vec F S1x128 .f32) (kb : Vec F S512x128 .bf16) (vb : Vec F S1x1x512x128 .bf16) (bi : Vec F S1x1x128x512 .f32) : k0_pay1 (k0_pay43 (k0_pay42 v0 V54 q qw) kb vb bi) (k0_pay44 (k0_pay42 v0 V54 q qw) kb vb bi) (k0_pay45 V55) (k0_pay46 V55) (k0_pay47 V55) = rowPay v0 q qw kb vb bi := by
  unfold rowPay
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47] <;> rfl

theorem inb_row (r : Fin 8) : ∀ a, (![0, 64 * r.val, 0] : Fin 3 → ℕ) a + S1x64x128.size a ≤ S1x512x128.size a := by
  revert r; decide
theorem inb_q (r : Fin 8) : ∀ a, (![0, 0, 64 * r.val, 0] : Fin 4 → ℕ) a + S1x1x64x128.size a ≤ S1x1x512x128.size a := by
  revert r; decide

/-- The payload of query row `r` of the block. -/
def rowAt (i : grid0.Coords) (x0 : Vec F S1x1x512x128 .bf16) (x2 : Vec F S1x1x4096x128 .bf16) (x3 : Vec F S8x1x128x512 .f32) (x4 : Vec F S1x128 .f32) (x6 : Vec F S128x128 .f32) (kn : Vec F S4096x128 .bf16) (r : Fin 8) : FVec F S1x64x128 .bf16 :=
  rowPay (ld x6 (Rect.unit (s := S128x128) ![0, 0] S128x128.size inb_S128x128_S128x128_0_0))
    (ld x0 (Rect.unit (s := S1x1x512x128) ![0, 0, 64 * r.val, 0] S1x1x64x128.size (inb_q r)))
    (ld x4 (Rect.unit (s := S1x128) ![0, 0] S1x128.size inb_S1x128_S1x128_0_0))
    (ld kn (Rect.unit (s := S4096x128) (k0_off3 i (BitVec.ofNat 32 r.val)) S512x128.size (k0_off3_inb i r)))
    (ld x2 (Rect.unit (s := S1x1x4096x128) (k0_off4 i (BitVec.ofNat 32 r.val)) S1x1x512x128.size (k0_off4_inb i r)))
    (ld x3 (Rect.unit (s := S8x1x128x512) (k0_off5 i (BitVec.ofNat 32 r.val)) S1x1x128x512.size (k0_off5_inb i r)))

/-- The store of query row `r`. -/
def pc (i : grid0.Coords) (x0 : Vec F S1x1x512x128 .bf16) (x2 : Vec F S1x1x4096x128 .bf16) (x3 : Vec F S8x1x128x512 .f32) (x4 : Vec F S1x128 .f32) (x6 : Vec F S128x128 .f32) (kn : Vec F S4096x128 .bf16) (r : Fin 8) : View.Piece (Elt F) S1x512x128 .bf16 :=
  ⟨Rect.unit (s := S1x512x128) ![0, 64 * r.val, 0] S1x64x128.size (inb_row r), rowAt i x0 x2 x3 x4 x6 kn r⟩

/-- All eight, the last first. -/
def pcs (i : grid0.Coords) (x0 : Vec F S1x1x512x128 .bf16) (x2 : Vec F S1x1x4096x128 .bf16) (x3 : Vec F S8x1x128x512 .f32) (x4 : Vec F S1x128 .f32) (x6 : Vec F S128x128 .f32) (kn : Vec F S4096x128 .bf16) : List (View.Piece (Elt F) S1x512x128 .bf16) :=
  [pc i x0 x2 x3 x4 x6 kn 7, pc i x0 x2 x3 x4 x6 kn 6, pc i x0 x2 x3 x4 x6 kn 5, pc i x0 x2 x3 x4 x6 kn 4, pc i x0 x2 x3 x4 x6 kn 3, pc i x0 x2 x3 x4 x6 kn 2, pc i x0 x2 x3 x4 x6 kn 1, pc i x0 x2 x3 x4 x6 kn 0]

theorem cover_pcs (i x0 x2 x3 x4 x6 kn) (y : S1x512x128.Idx) : ∃ p ∈ pcs (F := F) i x0 x2 x3 x4 x6 kn, y ∈ p.1.set :=
  View.cover_of_tiledL (pcs (F := F) i x0 x2 x3 x4 x6 kn) S1x64x128.size (by sl_kernel_rfl) y

set_option maxHeartbeats 4000000 in
theorem runB_pieces (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : ¬cond0_0 i)
    (x0 : Vec F S1x1x512x128 .bf16) (x1 : Vec F S1x1x4096x128 .bf16) (x2 : Vec F S1x1x4096x128 .bf16) (x3 : Vec F S8x1x128x512 .f32) (x4 : Vec F S1x128 .f32) (x5 : Vec F S1x128 .f32) (x6 : Vec F S128x128 .f32) (xs : Vec F S4096x128 .bf16) :
    (runB c i arg3 harg3 arg4 harg4 arg5 harg5 arg6 harg6 arg7 harg7 arg8 harg8 arg9 harg9 arg10 harg10 arg11 harg11 hc0 x0 x1 x2 x3 x4 x5 x6 xs).1 = pcs i x0 x2 x3 x4 x6 xs := by
  have h0 : (runB c i arg3 harg3 arg4 harg4 arg5 harg5 arg6 harg6 arg7 harg7 arg8 harg8 arg9 harg9 arg10 harg10 arg11 harg11 hc0 x0 x1 x2 x3 x4 x5 x6 xs).1 =
      [⟨Rect.unit (s := S1x512x128) ![0, 448, 0] S1x64x128.size (inb_row 7), k0_pay1 (k0_pay43 (k0_pay42 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 448, 0] S1x1x64x128.size (inb_q 7)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 7#32) S512x128.size (k0_off3_inb i 7)).toLoadRect (harg11.unread xs)) (View.readAt (Elt F) arg5.view (Rect.unit (s := S1x1x4096x128) (k0_off4 i 7#32) S1x1x512x128.size (k0_off4_inb i 7)).toLoadRect (harg5.unread x2)) (View.readAt (Elt F) arg6.view (Rect.unit (s := S8x1x128x512) (k0_off5 i 7#32) S1x1x128x512.size (k0_off5_inb i 7)).toLoadRect (harg6.unread x3))) (k0_pay44 (k0_pay42 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 448, 0] S1x1x64x128.size (inb_q 7)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 7#32) S512x128.size (k0_off3_inb i 7)).toLoadRect (harg11.unread xs)) (View.readAt (Elt F) arg5.view (Rect.unit (s := S1x1x4096x128) (k0_off4 i 7#32) S1x1x512x128.size (k0_off4_inb i 7)).toLoadRect (harg5.unread x2)) (View.readAt (Elt F) arg6.view (Rect.unit (s := S8x1x128x512) (k0_off5 i 7#32) S1x1x128x512.size (k0_off5_inb i 7)).toLoadRect (harg6.unread x3))) (k0_pay45 V55) (k0_pay46 V55) (k0_pay47 V55)⟩,
      ⟨Rect.unit (s := S1x512x128) ![0, 384, 0] S1x64x128.size (inb_row 6), k0_pay41 (k0_pay40 V55 (k0_pay38 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 384, 0] S1x1x64x128.size (inb_q 6)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 6#32) S512x128.size (k0_off3_inb i 6)).toLoadRect (harg11.unread xs)) (k0_pay39 (View.readAt (Elt F) arg5.view (Rect.unit (s := S1x1x4096x128) (k0_off4 i 6#32) S1x1x512x128.size (k0_off4_inb i 6)).toLoadRect (harg5.unread x2))) (constant S128x512 .f32 0x00000000#32) (View.readAt (Elt F) arg6.view (Rect.unit (s := S8x1x128x512) (k0_off5 i 6#32) S1x1x128x512.size (k0_off5_inb i 6)).toLoadRect (harg6.unread x3)))⟩,
      ⟨Rect.unit (s := S1x512x128) ![0, 320, 0] S1x64x128.size (inb_row 5), k0_pay37 V55 (k0_pay34 (View.readAt (Elt F) arg5.view (Rect.unit (s := S1x1x4096x128) (k0_off4 i 5#32) S1x1x512x128.size (k0_off4_inb i 5)).toLoadRect (harg5.unread x2))) (k0_pay35 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 320, 0] S1x1x64x128.size (inb_q 5)).toLoadRect (harg3.unread x0)) (View.readAt (Elt F) arg7.view (Rect.unit (s := S1x128) ![0, 0] S1x128.size inb_S1x128_S1x128_0_0).toLoadRect (harg7.unread x4)) (View.readAt (Elt F) arg11.view (Rect.unit (s := S4096x128) (k0_off3 i 5#32) S512x128.size (k0_off3_inb i 5)).toLoadRect (harg11.unread xs))) (k0_pay36 (View.readAt (Elt F) arg6.view (Rect.unit (s := S8x1x128x512) (k0_off5 i 5#32) S1x1x128x512.size (k0_off5_inb i 5)).toLoadRect (harg6.unread x3)))⟩,
      ⟨Rect.unit (s := S1x512x128) ![0, 256, 0] S1x64x128.size (inb_row 4), k0_pay33 V55 (k0_pay31 (View.readAt (Elt F) arg5.view (Rect.unit (s := S1x1x4096x128) (k0_off4 i 4#32) S1x1x512x128.size (k0_off4_inb i 4)).toLoadRect (harg5.unread x2))) (k0_pay32 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 256, 0] S1x1x64x128.size (inb_q 4)).toLoadRect (harg3.unread x0)) (View.readAt (Elt F) arg7.view (Rect.unit (s := S1x128) ![0, 0] S1x128.size inb_S1x128_S1x128_0_0).toLoadRect (harg7.unread x4)) (View.readAt (Elt F) arg11.view (Rect.unit (s := S4096x128) (k0_off3 i 4#32) S512x128.size (k0_off3_inb i 4)).toLoadRect (harg11.unread xs)) (View.readAt (Elt F) arg6.view (Rect.unit (s := S8x1x128x512) (k0_off5 i 4#32) S1x1x128x512.size (k0_off5_inb i 4)).toLoadRect (harg6.unread x3)))⟩,
      ⟨Rect.unit (s := S1x512x128) ![0, 192, 0] S1x64x128.size (inb_row 3), k0_pay30 V55 (k0_pay28 (View.readAt (Elt F) arg9.view (Rect.unit (s := S128x128) ![0, 0] S128x128.size inb_S128x128_S128x128_0_0).toLoadRect (harg9.unread x6)) V54 (k0_pay26 (View.readAt (Elt F) arg3.view (Rect.unit (s := S1x1x512x128) ![0, 0, 192, 0] S1x1x64x128.size (inb_q 3)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 3#32) S512x128.size (k0_off3_inb i 3)).toLoadRect (harg11.unread xs)) (View.readAt (Elt F) arg5.view (Rect.unit (s := S1x1x4096x128) (k0_off4 i 3#32) S1x1x512x128.size (k0_off4_inb i 3)).toLoadRect (harg5.unread x2)) (View.readAt (Elt F) arg6.view (Rect.unit (s := S8x1x128x512) (k0_off5 i 3#32) S1x1x128x512.size (k0_off5_inb i 3)).toLoadRect (harg6.unread x3))) (k0_pay29 (View.readAt (Elt F) arg9.view (Rect.unit (s := S128x128) ![0, 0] S128x128.size inb_S128x128_S128x128_0_0).toLoadRect (harg9.unread x6)) V54 (k0_pay26 (View.readAt (Elt F) arg3.view (Rect.unit (s := S1x1x512x128) ![0, 0, 192, 0] S1x1x64x128.size (inb_q 3)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 3#32) S512x128.size (k0_off3_inb i 3)).toLoadRect (harg11.unread xs)) (View.readAt (Elt F) arg6.view (Rect.unit (s := S8x1x128x512) (k0_off5 i 3#32) S1x1x128x512.size (k0_off5_inb i 3)).toLoadRect (harg6.unread x3)))⟩,
      ⟨Rect.unit (s := S1x512x128) ![0, 128, 0] S1x64x128.size (inb_row 2), k0_pay25 V55 (k0_pay21 V54 (k0_pay19 (View.readAt (Elt F) arg3.view (Rect.unit (s := S1x1x512x128) ![0, 0, 128, 0] S1x1x64x128.size (inb_q 2)).toLoadRect (harg3.unread x0))) (k0_pay20 (View.readAt (Elt F) arg9.view (Rect.unit (s := S128x128) ![0, 0] S128x128.size inb_S128x128_S128x128_0_0).toLoadRect (harg9.unread x6)) (View.readAt (Elt F) arg3.view (Rect.unit (s := S1x1x512x128) ![0, 0, 128, 0] S1x1x64x128.size (inb_q 2)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 2#32) S512x128.size (k0_off3_inb i 2)).toLoadRect (harg11.unread xs)) (View.readAt (Elt F) arg5.view (Rect.unit (s := S1x1x4096x128) (k0_off4 i 2#32) S1x1x512x128.size (k0_off4_inb i 2)).toLoadRect (harg5.unread x2)) (View.readAt (Elt F) arg6.view (Rect.unit (s := S8x1x128x512) (k0_off5 i 2#32) S1x1x128x512.size (k0_off5_inb i 2)).toLoadRect (harg6.unread x3))) (k0_pay22 V54 (k0_pay19 (View.readAt (Elt F) arg3.view (Rect.unit (s := S1x1x512x128) ![0, 0, 128, 0] S1x1x64x128.size (inb_q 2)).toLoadRect (harg3.unread x0))) (k0_pay20 (View.readAt (Elt F) arg9.view (Rect.unit (s := S128x128) ![0, 0] S128x128.size inb_S128x128_S128x128_0_0).toLoadRect (harg9.unread x6)) (View.readAt (Elt F) arg3.view (Rect.unit (s := S1x1x512x128) ![0, 0, 128, 0] S1x1x64x128.size (inb_q 2)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 2#32) S512x128.size (k0_off3_inb i 2)).toLoadRect (harg11.unread xs)) (View.readAt (Elt F) arg5.view (Rect.unit (s := S1x1x4096x128) (k0_off4 i 2#32) S1x1x512x128.size (k0_off4_inb i 2)).toLoadRect (harg5.unread x2)) (View.readAt (Elt F) arg6.view (Rect.unit (s := S8x1x128x512) (k0_off5 i 2#32) S1x1x128x512.size (k0_off5_inb i 2)).toLoadRect (harg6.unread x3))) 64#32 (k0_pay23 V55) k0_pay24⟩,
      ⟨Rect.unit (s := S1x512x128) ![0, 64, 0] S1x64x128.size (inb_row 1), k0_pay18 V55 (k0_pay14 V54 (k0_pay13 (View.readAt (Elt F) arg9.view (Rect.unit (s := S128x128) ![0, 0] S128x128.size inb_S128x128_S128x128_0_0).toLoadRect (harg9.unread x6)) (View.readAt (Elt F) arg3.view (Rect.unit (s := S1x1x512x128) ![0, 0, 64, 0] S1x1x64x128.size (inb_q 1)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 1#32) S512x128.size (k0_off3_inb i 1)).toLoadRect (harg11.unread xs)) (View.readAt (Elt F) arg5.view (Rect.unit (s := S1x1x4096x128) (k0_off4 i 1#32) S1x1x512x128.size (k0_off4_inb i 1)).toLoadRect (harg5.unread x2)) (View.readAt (Elt F) arg6.view (Rect.unit (s := S8x1x128x512) (k0_off5 i 1#32) S1x1x128x512.size (k0_off5_inb i 1)).toLoadRect (harg6.unread x3))) (k0_pay15 V54 (k0_pay13 (View.readAt (Elt F) arg9.view (Rect.unit (s := S128x128) ![0, 0] S128x128.size inb_S128x128_S128x128_0_0).toLoadRect (harg9.unread x6)) (View.readAt (Elt F) arg3.view (Rect.unit (s := S1x1x512x128) ![0, 0, 64, 0] S1x1x64x128.size (inb_q 1)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 1#32) S512x128.size (k0_off3_inb i 1)).toLoadRect (harg11.unread xs)) (View.readAt (Elt F) arg5.view (Rect.unit (s := S1x1x4096x128) (k0_off4 i 1#32) S1x1x512x128.size (k0_off4_inb i 1)).toLoadRect (harg5.unread x2)) (View.readAt (Elt F) arg6.view (Rect.unit (s := S8x1x128x512) (k0_off5 i 1#32) S1x1x128x512.size (k0_off5_inb i 1)).toLoadRect (harg6.unread x3))) 64#32 (k0_pay16 V55) (k0_pay17 V55)⟩,
      ⟨Rect.unit (s := S1x512x128) ![0, 0, 0] S1x64x128.size (inb_row 0), k0_pay12 V55 (k0_pay8 V54 (k0_pay7 (View.readAt (Elt F) arg9.view (Rect.unit (s := S128x128) ![0, 0] S128x128.size inb_S128x128_S128x128_0_0).toLoadRect (harg9.unread x6)) (View.readAt (Elt F) arg3.view (Rect.unit (s := S1x1x512x128) ![0, 0, 0, 0] S1x1x64x128.size (inb_q 0)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 0#32) S512x128.size (k0_off3_inb i 0)).toLoadRect (harg11.unread xs)) (View.readAt (Elt F) arg5.view (Rect.unit (s := S1x1x4096x128) (k0_off4 i 0#32) S1x1x512x128.size (k0_off4_inb i 0)).toLoadRect (harg5.unread x2)) (View.readAt (Elt F) arg6.view (Rect.unit (s := S8x1x128x512) (k0_off5 i 0#32) S1x1x128x512.size (k0_off5_inb i 0)).toLoadRect (harg6.unread x3))) (k0_pay9 V54 (k0_pay7 (View.readAt (Elt F) arg9.view (Rect.unit (s := S128x128) ![0, 0] S128x128.size inb_S128x128_S128x128_0_0).toLoadRect (harg9.unread x6)) (View.readAt (Elt F) arg3.view (Rect.unit (s := S1x1x512x128) ![0, 0, 0, 0] S1x1x64x128.size (inb_q 0)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 0#32) S512x128.size (k0_off3_inb i 0)).toLoadRect (harg11.unread xs)) (View.readAt (Elt F) arg5.view (Rect.unit (s := S1x1x4096x128) (k0_off4 i 0#32) S1x1x512x128.size (k0_off4_inb i 0)).toLoadRect (harg5.unread x2)) (View.readAt (Elt F) arg6.view (Rect.unit (s := S8x1x128x512) (k0_off5 i 0#32) S1x1x128x512.size (k0_off5_inb i 0)).toLoadRect (harg6.unread x3))) 64#32 (k0_pay10 V55) (k0_pay11 V55) 1#32⟩] := rfl
  have h : (runB c i arg3 harg3 arg4 harg4 arg5 harg5 arg6 harg6 arg7 harg7 arg8 harg8 arg9 harg9 arg10 harg10 arg11 harg11 hc0 x0 x1 x2 x3 x4 x5 x6 xs).1
      = pcs i (arg3.view.read (Elt F) (harg3.unread x0)) (arg5.view.read (Elt F) (harg5.unread x2)) (arg6.view.read (Elt F) (harg6.unread x3)) (arg7.view.read (Elt F) (harg7.unread x4)) (arg9.view.read (Elt F) (harg9.unread x6)) (arg11.view.read (Elt F) (harg11.unread xs)) := by
    refine h0.trans ?_
    rw [row1_eq, row2_eq, row3_eq, row4_eq, row5_eq, row6_eq, row7_eq]
    rfl
  rw [h]; simp only [Memref.IsWhole.read_unread]

end Cert.AttnIdeal.Hand

end
-- ==== Proof.NaPiecesA.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaRunA
public import proofs.«01_k».proof.Proof.NaPieces
public import Idealize.ShloMosaic.Lib.Pipeline.ValueKit
public import Idealize.ShloMosaic.Lib.WritesUnit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open View (ld)

set_option maxHeartbeats 400000 in
theorem runA_pieces (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : cond0_0 i)
    (x0 : Vec F S1x1x512x128 .bf16) (x1 : Vec F S1x1x4096x128 .bf16) (x2 : Vec F S1x1x4096x128 .bf16) (x3 : Vec F S8x1x128x512 .f32) (x4 : Vec F S1x128 .f32) (x5 : Vec F S1x128 .f32) (x6 : Vec F S128x128 .f32) (xs : Vec F S4096x128 .bf16) :
    (runA c i arg3 harg3 arg4 harg4 arg5 harg5 arg6 harg6 arg7 harg7 arg8 harg8 arg9 harg9 arg10 harg10 arg11 harg11 hc0 x0 x1 x2 x3 x4 x5 x6 xs).1
      = pcs i x0 x2 x3 x4 x6 (arg11.view.read (Elt F) (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) := by
  have h0 : (runA c i arg3 harg3 arg4 harg4 arg5 harg5 arg6 harg6 arg7 harg7 arg8 harg8 arg9 harg9 arg10 harg10 arg11 harg11 hc0 x0 x1 x2 x3 x4 x5 x6 xs).1 =
      [⟨Rect.unit (s := S1x512x128) ![0, 448, 0] S1x64x128.size (inb_row 7), k0_pay1 (k0_pay43 (k0_pay42 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 448, 0] S1x1x64x128.size (inb_q 7)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 7#32) S512x128.size (k0_off3_inb i 7)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 7#32) S1x1x512x128.size (k0_off4_inb i 7)).toLoadRect (harg5.unread x2)) (View.readAt (Elt F) arg6.view (Rect.unit (s := S8x1x128x512) (k0_off5 i 7#32) S1x1x128x512.size (k0_off5_inb i 7)).toLoadRect (harg6.unread x3))) (k0_pay44 (k0_pay42 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 448, 0] S1x1x64x128.size (inb_q 7)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 7#32) S512x128.size (k0_off3_inb i 7)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 7#32) S1x1x512x128.size (k0_off4_inb i 7)).toLoadRect (harg5.unread x2)) (View.readAt (Elt F) arg6.view (Rect.unit (s := S8x1x128x512) (k0_off5 i 7#32) S1x1x128x512.size (k0_off5_inb i 7)).toLoadRect (harg6.unread x3))) (k0_pay45 V55) (k0_pay46 V55) (k0_pay47 V55)⟩,
      ⟨Rect.unit (s := S1x512x128) ![0, 384, 0] S1x64x128.size (inb_row 6), k0_pay41 (k0_pay40 V55 (k0_pay38 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 384, 0] S1x1x64x128.size (inb_q 6)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 6#32) S512x128.size (k0_off3_inb i 6)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (k0_pay39 (View.readAt (Elt F) arg5.view (Rect.unit (s := S1x1x4096x128) (k0_off4 i 6#32) S1x1x512x128.size (k0_off4_inb i 6)).toLoadRect (harg5.unread x2))) (constant S128x512 .f32 0x00000000#32) (View.readAt (Elt F) arg6.view (Rect.unit (s := S8x1x128x512) (k0_off5 i 6#32) S1x1x128x512.size (k0_off5_inb i 6)).toLoadRect (harg6.unread x3)))⟩,
      ⟨Rect.unit (s := S1x512x128) ![0, 320, 0] S1x64x128.size (inb_row 5), k0_pay37 V55 (k0_pay34 (View.readAt (Elt F) arg5.view (Rect.unit (s := S1x1x4096x128) (k0_off4 i 5#32) S1x1x512x128.size (k0_off4_inb i 5)).toLoadRect (harg5.unread x2))) (k0_pay35 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 320, 0] S1x1x64x128.size (inb_q 5)).toLoadRect (harg3.unread x0)) (View.readAt (Elt F) arg7.view (Rect.unit (s := S1x128) ![0, 0] S1x128.size inb_S1x128_S1x128_0_0).toLoadRect (harg7.unread x4)) (View.readAt (Elt F) arg11.view (Rect.unit (s := S4096x128) (k0_off3 i 5#32) S512x128.size (k0_off3_inb i 5)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st))))) (k0_pay36 (View.readAt (Elt F) arg6.view (Rect.unit (s := S8x1x128x512) (k0_off5 i 5#32) S1x1x128x512.size (k0_off5_inb i 5)).toLoadRect (harg6.unread x3)))⟩,
      ⟨Rect.unit (s := S1x512x128) ![0, 256, 0] S1x64x128.size (inb_row 4), k0_pay33 V55 (k0_pay31 (View.readAt (Elt F) arg5.view (Rect.unit (s := S1x1x4096x128) (k0_off4 i 4#32) S1x1x512x128.size (k0_off4_inb i 4)).toLoadRect (harg5.unread x2))) (k0_pay32 (View.readAt (Elt F) arg9.view (Rect.unit (s := S128x128) ![0, 0] S128x128.size inb_S128x128_S128x128_0_0).toLoadRect (harg9.unread x6)) V54 (View.readAt (Elt F) arg3.view (Rect.unit (s := S1x1x512x128) ![0, 0, 256, 0] S1x1x64x128.size (inb_q 4)).toLoadRect (harg3.unread x0)) (View.readAt (Elt F) arg7.view (Rect.unit (s := S1x128) ![0, 0] S1x128.size inb_S1x128_S1x128_0_0).toLoadRect (harg7.unread x4)) (View.readAt (Elt F) arg11.view (Rect.unit (s := S4096x128) (k0_off3 i 4#32) S512x128.size (k0_off3_inb i 4)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg6.view (Rect.unit (s := S8x1x128x512) (k0_off5 i 4#32) S1x1x128x512.size (k0_off5_inb i 4)).toLoadRect (harg6.unread x3)))⟩,
      ⟨Rect.unit (s := S1x512x128) ![0, 192, 0] S1x64x128.size (inb_row 3), k0_pay30 V55 (k0_pay28 (View.readAt (Elt F) arg9.view (Rect.unit (s := S128x128) ![0, 0] S128x128.size inb_S128x128_S128x128_0_0).toLoadRect (harg9.unread x6)) V54 (k0_pay26 (View.readAt (Elt F) arg3.view (Rect.unit (s := S1x1x512x128) ![0, 0, 192, 0] S1x1x64x128.size (inb_q 3)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 3#32) S512x128.size (k0_off3_inb i 3)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 3#32) S1x1x512x128.size (k0_off4_inb i 3)).toLoadRect (harg5.unread x2)) (View.readAt (Elt F) arg6.view (Rect.unit (s := S8x1x128x512) (k0_off5 i 3#32) S1x1x128x512.size (k0_off5_inb i 3)).toLoadRect (harg6.unread x3))) (k0_pay29 (View.readAt (Elt F) arg9.view (Rect.unit (s := S128x128) ![0, 0] S128x128.size inb_S128x128_S128x128_0_0).toLoadRect (harg9.unread x6)) V54 (k0_pay26 (View.readAt (Elt F) arg3.view (Rect.unit (s := S1x1x512x128) ![0, 0, 192, 0] S1x1x64x128.size (inb_q 3)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 3#32) S512x128.size (k0_off3_inb i 3)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg6.view (Rect.unit (s := S8x1x128x512) (k0_off5 i 3#32) S1x1x128x512.size (k0_off5_inb i 3)).toLoadRect (harg6.unread x3)))⟩,
      ⟨Rect.unit (s := S1x512x128) ![0, 128, 0] S1x64x128.size (inb_row 2), k0_pay25 V55 (k0_pay21 V54 (k0_pay19 (View.readAt (Elt F) arg3.view (Rect.unit (s := S1x1x512x128) ![0, 0, 128, 0] S1x1x64x128.size (inb_q 2)).toLoadRect (harg3.unread x0))) (k0_pay20 (View.readAt (Elt F) arg9.view (Rect.unit (s := S128x128) ![0, 0] S128x128.size inb_S128x128_S128x128_0_0).toLoadRect (harg9.unread x6)) (View.readAt (Elt F) arg3.view (Rect.unit (s := S1x1x512x128) ![0, 0, 128, 0] S1x1x64x128.size (inb_q 2)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 2#32) S512x128.size (k0_off3_inb i 2)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 2#32) S1x1x512x128.size (k0_off4_inb i 2)).toLoadRect (harg5.unread x2)) (View.readAt (Elt F) arg6.view (Rect.unit (s := S8x1x128x512) (k0_off5 i 2#32) S1x1x128x512.size (k0_off5_inb i 2)).toLoadRect (harg6.unread x3))) (k0_pay22 V54 (k0_pay19 (View.readAt (Elt F) arg3.view (Rect.unit (s := S1x1x512x128) ![0, 0, 128, 0] S1x1x64x128.size (inb_q 2)).toLoadRect (harg3.unread x0))) (k0_pay20 (View.readAt (Elt F) arg9.view (Rect.unit (s := S128x128) ![0, 0] S128x128.size inb_S128x128_S128x128_0_0).toLoadRect (harg9.unread x6)) (View.readAt (Elt F) arg3.view (Rect.unit (s := S1x1x512x128) ![0, 0, 128, 0] S1x1x64x128.size (inb_q 2)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 2#32) S512x128.size (k0_off3_inb i 2)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 2#32) S1x1x512x128.size (k0_off4_inb i 2)).toLoadRect (harg5.unread x2)) (View.readAt (Elt F) arg6.view (Rect.unit (s := S8x1x128x512) (k0_off5 i 2#32) S1x1x128x512.size (k0_off5_inb i 2)).toLoadRect (harg6.unread x3))) 64#32 (k0_pay23 V55) k0_pay24⟩,
      ⟨Rect.unit (s := S1x512x128) ![0, 64, 0] S1x64x128.size (inb_row 1), k0_pay18 V55 (k0_pay14 V54 (k0_pay13 (View.readAt (Elt F) arg9.view (Rect.unit (s := S128x128) ![0, 0] S128x128.size inb_S128x128_S128x128_0_0).toLoadRect (harg9.unread x6)) (View.readAt (Elt F) arg3.view (Rect.unit (s := S1x1x512x128) ![0, 0, 64, 0] S1x1x64x128.size (inb_q 1)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 1#32) S512x128.size (k0_off3_inb i 1)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 1#32) S1x1x512x128.size (k0_off4_inb i 1)).toLoadRect (harg5.unread x2)) (View.readAt (Elt F) arg6.view (Rect.unit (s := S8x1x128x512) (k0_off5 i 1#32) S1x1x128x512.size (k0_off5_inb i 1)).toLoadRect (harg6.unread x3))) (k0_pay15 V54 (k0_pay13 (View.readAt (Elt F) arg9.view (Rect.unit (s := S128x128) ![0, 0] S128x128.size inb_S128x128_S128x128_0_0).toLoadRect (harg9.unread x6)) (View.readAt (Elt F) arg3.view (Rect.unit (s := S1x1x512x128) ![0, 0, 64, 0] S1x1x64x128.size (inb_q 1)).toLoadRect (harg3.unread x0))) (View.readAt (Elt F) arg7.view (Rect.unit (s := S1x128) ![0, 0] S1x128.size inb_S1x128_S1x128_0_0).toLoadRect (harg7.unread x4)) (View.readAt (Elt F) arg11.view (Rect.unit (s := S4096x128) (k0_off3 i 1#32) S512x128.size (k0_off3_inb i 1)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 1#32) S1x1x512x128.size (k0_off4_inb i 1)).toLoadRect (harg5.unread x2)) (View.readAt (Elt F) arg6.view (Rect.unit (s := S8x1x128x512) (k0_off5 i 1#32) S1x1x128x512.size (k0_off5_inb i 1)).toLoadRect (harg6.unread x3))) 64#32 (k0_pay16 V55) (k0_pay17 V55)⟩,
      ⟨Rect.unit (s := S1x512x128) ![0, 0, 0] S1x64x128.size (inb_row 0), k0_pay12 V55 (k0_pay8 V54 (k0_pay7 (View.readAt (Elt F) arg9.view (Rect.unit (s := S128x128) ![0, 0] S128x128.size inb_S128x128_S128x128_0_0).toLoadRect (harg9.unread x6)) (View.readAt (Elt F) arg3.view (Rect.unit (s := S1x1x512x128) ![0, 0, 0, 0] S1x1x64x128.size (inb_q 0)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 0#32) S512x128.size (k0_off3_inb i 0)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 0#32) S1x1x512x128.size (k0_off4_inb i 0)).toLoadRect (harg5.unread x2)) (View.readAt (Elt F) arg6.view (Rect.unit (s := S8x1x128x512) (k0_off5 i 0#32) S1x1x128x512.size (k0_off5_inb i 0)).toLoadRect (harg6.unread x3))) (k0_pay9 V54 (k0_pay7 (View.readAt (Elt F) arg9.view (Rect.unit (s := S128x128) ![0, 0] S128x128.size inb_S128x128_S128x128_0_0).toLoadRect (harg9.unread x6)) (View.readAt (Elt F) arg3.view (Rect.unit (s := S1x1x512x128) ![0, 0, 0, 0] S1x1x64x128.size (inb_q 0)).toLoadRect (harg3.unread x0)) (View.readAt (Elt F) arg7.view (Rect.unit (s := S1x128) ![0, 0] S1x128.size inb_S1x128_S1x128_0_0).toLoadRect (harg7.unread x4))) (View.readAt (Elt F) arg11.view (Rect.unit (s := S4096x128) (k0_off3 i 0#32) S512x128.size (k0_off3_inb i 0)).toLoadRect (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) (View.readAt (Elt F) arg5.view (Rect.unit (s := S1x1x4096x128) (k0_off4 i 0#32) S1x1x512x128.size (k0_off4_inb i 0)).toLoadRect (harg5.unread x2)) (View.readAt (Elt F) arg6.view (Rect.unit (s := S8x1x128x512) (k0_off5 i 0#32) S1x1x128x512.size (k0_off5_inb i 0)).toLoadRect (harg6.unread x3))) 64#32 (k0_pay10 V55) (k0_pay11 V55) 1#32⟩] := rfl
  have h : (runA c i arg3 harg3 arg4 harg4 arg5 harg5 arg6 harg6 arg7 harg7 arg8 harg8 arg9 harg9 arg10 harg10 arg11 harg11 hc0 x0 x1 x2 x3 x4 x5 x6 xs).1
      = pcs i (arg3.view.read (Elt F) (harg3.unread x0)) (arg5.view.read (Elt F) (harg5.unread x2)) (arg6.view.read (Elt F) (harg6.unread x3)) (arg7.view.read (Elt F) (harg7.unread x4)) (arg9.view.read (Elt F) (harg9.unread x6)) (arg11.view.read (Elt F) (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st)))) := by
    refine h0.trans ?_
    rw [row1_eq, row2_eq, row3_eq, row4_eq, row5_eq, row6_eq, row7_eq]
    rfl
  rw [h]; simp only [Memref.IsWhole.read_unread]

end Cert.AttnIdeal.Hand

end
-- ==== Proof.NaKeys.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaRunA
public import Idealize.ShloMosaic.Lib.Pipeline.ValueKit
public import Idealize.ShloMosaic.Lib.WritesUnit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open View (ld)

/-- The rows of the scratch that trip `k` fills: the keys' 512 rows normed. -/
def knAt (x1 : Vec F S1x1x4096x128 .bf16) (x5 : Vec F S1x128 .f32) (x6 : Vec F S128x128 .f32) (i : grid0.Coords) (hc0 : cond0_0 i) (k : Fin k0_t1_loop.trips) : FVec F S512x128 .bf16 :=
  k0_pay2 (ld x6 (Rect.unit (s := S128x128) ![0, 0] S128x128.size inb_S128x128_S128x128_0_0))
    (ld x1 (Rect.unit (s := S1x1x4096x128) (k0_off1 k) S1x1x512x128.size (k0_off1_inb i k hc0)))
    (ld x5 (Rect.unit (s := S1x128) ![0, 0] S1x128.size inb_S1x128_S1x128_0_0))

theorem trips8 : k0_t1_loop.trips = 8 := by decide

theorem inb_k (k : Fin 8) : ∀ a, (![0, 0, 512 * k.val, 0] : Fin 4 → ℕ) a + S1x1x512x128.size a ≤ S1x1x4096x128.size a := by
  revert k; decide

/-- Trip `k`'s rows, free of the point. -/
def knRow (x1 : Vec F S1x1x4096x128 .bf16) (x5 : Vec F S1x128 .f32) (x6 : Vec F S128x128 .f32) (k : Fin 8) : FVec F S512x128 .bf16 :=
  k0_pay2 (ld x6 (Rect.unit (s := S128x128) ![0, 0] S128x128.size inb_S128x128_S128x128_0_0))
    (ld x1 (Rect.unit (s := S1x1x4096x128) ![0, 0, 512 * k.val, 0] S1x1x512x128.size (inb_k k)))
    (ld x5 (Rect.unit (s := S1x128) ![0, 0] S1x128.size inb_S1x128_S1x128_0_0))

/-- The place of a scratch row within its trip's rows. -/
def yk (y : S4096x128.Idx) : S512x128.Idx := fun | ⟨0, _⟩ => ⟨(y 0).val % 512, Nat.mod_lt _ (by norm_num)⟩ | ⟨1, _⟩ => ⟨(y 1).val, (y 1).isLt⟩

/-- The scratch after its filling: every key row normed. -/
def KN (x1 : Vec F S1x1x4096x128 .bf16) (x5 : Vec F S1x128 .f32) (x6 : Vec F S128x128 .f32) : Vec F S4096x128 .bf16 := fun y =>
  knRow x1 x5 x6 ⟨(y 0).val / 512, Nat.div_lt_of_lt_mul (y 0).isLt⟩
    (yk y)

set_option maxHeartbeats 1000000 in
theorem trip_eq (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : cond0_0 i) (v0 : Vec F S128x128 .f32) (X4 X8) (k : Fin k0_t1_loop.trips) :
    tripL_k0_t1 (F := F) Variants.none c none i arg3 harg3 arg4 harg4 arg5 harg5 arg6 harg6 arg7 harg7 arg8 harg8 arg9 harg9 arg10 harg10 arg11 harg11 v0 hc0 X4 X8 k
      = [⟨Rect.unit (s := S4096x128) (k0_off2 k) S512x128.size (k0_off2_inb i k hc0),
          k0_pay2 v0 (View.readAt (Elt F) arg4.view (Rect.unit (s := S1x1x4096x128) (k0_off1 k) S1x1x512x128.size (k0_off1_inb i k hc0)).toLoadRect X4)
            (View.readAt (Elt F) arg8.view (Rect.unit (s := S1x128) ![0, 0] S1x128.size inb_S1x128_S1x128_0_0).toLoadRect X8)⟩] := by
  unfold tripL_k0_t1 trip_k0_t1
  rfl

set_option maxHeartbeats 1000000 in
theorem runA_scratch (c : Dev nD) (i : grid0.Coords) (arg3 : Memref sig .tc .vmem S1x1x512x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S8x1x128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x512x128 .bf16) (harg10 : arg10.IsWhole) (arg11 : Memref sig .tc .vmem S4096x128 .bf16) (harg11 : arg11.IsWhole) (hc0 : cond0_0 i)
    (x0 : Vec F S1x1x512x128 .bf16) (x1 : Vec F S1x1x4096x128 .bf16) (x2 : Vec F S1x1x4096x128 .bf16) (x3 : Vec F S8x1x128x512 .f32) (x4 : Vec F S1x128 .f32) (x5 : Vec F S1x128 .f32) (x6 : Vec F S128x128 .f32) (xs : Vec F S4096x128 .bf16) :
    arg11.view.read (Elt F) (arg11.view.writes (Elt F) (harg11.unread xs) (pb_k0_t1 Variants.none c none i arg3 harg3 arg4 harg4 arg5 harg5 arg6 harg6 arg7 harg7 arg8 harg8 arg9 harg9 arg10 harg10 arg11 harg11 (View.readAt (Elt F) arg9.view (Rect.unit ![0, 0] S128x128.size inb_S128x128_S128x128_0_0).toLoadRect (harg9.unread x6)) hc0 (harg4.unread x1) (harg8.unread x5) (Scf.trips k0_t1_loop.lb k0_t1_loop.ub k0_t1_loop.st))) = KN x1 x5 x6 := by
  have key : ∀ (n : ℕ), n ≤ 8 → ∀ y : S4096x128.Idx, (y 0).val < 512 * n →
      arg11.view.read (Elt F) (arg11.view.writes (Elt F) (harg11.unread xs) (pb_k0_t1 Variants.none c none i arg3 harg3 arg4 harg4 arg5 harg5 arg6 harg6 arg7 harg7 arg8 harg8 arg9 harg9 arg10 harg10 arg11 harg11
            (View.readAt (Elt F) arg9.view (Rect.unit ![0, 0] S128x128.size inb_S128x128_S128x128_0_0).toLoadRect (harg9.unread x6))
            hc0 (harg4.unread x1) (harg8.unread x5) n)) y = KN x1 x5 x6 y := by
    intro n
    induction n with
    | zero => intro _ y hy; omega
    | succ n ih =>
      intro hn y hy
      have hk : n < k0_t1_loop.trips := by rw [trips8]; omega
      rw [pb_k0_t1_succ (F := F) Variants.none c none i arg3 harg3 arg4 harg4 arg5 harg5 arg6 harg6 arg7 harg7 arg8 harg8 arg9 harg9 arg10 harg10 arg11 harg11 _ hc0 _ _ ⟨n, hk⟩, trip_eq, List.singleton_append]
      by_cases h : (y 0).val < 512 * n
      · rw [View.read_writes_cons_unit_of_not_mem (s := S4096x128) (size := S512x128.size) _ _ _ _ _ y (k0_off2_eq ⟨n, hk⟩) 0 (Or.inl h)]
        exact ih (by omega) y h
      · have h1 : (y 0).val / 512 = n := by omega
        rw [View.read_writes_cons_unit_of_mem (s := S4096x128) (size := S512x128.size) _ _ _ _ _ y (yk y) (k0_off2_eq ⟨n, hk⟩)
          (Fin.forall_fin_two.2 ⟨by show (y 0).val = 512 * n + (y 0).val % 512; omega, by show (y 1).val = 0 + (y 1).val; omega⟩)]
        unfold KN knRow
        rw [View.readAt_eq_ld, View.readAt_eq_ld, View.readAt_eq_ld]
        simp only [Memref.IsWhole.read_unread]
        have e3 : (ld x1 (Rect.unit (s := S1x1x4096x128) (k0_off1 ⟨n, hk⟩) S1x1x512x128.size (k0_off1_inb i ⟨n, hk⟩ hc0)) : Vec F S1x1x512x128 .bf16) = ld x1 (Rect.unit (s := S1x1x4096x128) ![0, 0, 512 * ((y 0).val / 512), 0] S1x1x512x128.size (inb_k ⟨(y 0).val / 512, Nat.div_lt_of_lt_mul (y 0).isLt⟩)) := by
          funext z; refine congrArg x1 (funext fun a => Fin.ext ?_)
          exact congrArg (· + 1 * (z a).val) ((congrFun (k0_off1_eq ⟨n, hk⟩) a).trans (congrFun (congrArg (fun m => (![0, 0, 512 * m, 0] : Fin 4 → ℕ)) h1.symm) a))
        exact congrArg (fun X => k0_pay2 (ld x6 (Rect.unit (s := S128x128) ![0, 0] S128x128.size inb_S128x128_S128x128_0_0)) X (ld x5 (Rect.unit (s := S1x128) ![0, 0] S1x128.size inb_S1x128_S1x128_0_0)) (yk y)) e3
  funext y
  exact key 8 le_rfl y (by have := (y 0).isLt; exact this)

end Cert.AttnIdeal.Hand

end
-- ==== Proof.NaFrame.lean ====
module

public import proofs.«01_k».proof.Proof.Gen.AttnIdeal.Frame
public import proofs.«01_k».proof.Proof.Gen.AttnIdeal.Loops
public import proofs.«01_k».proof.Proof.Gen.AttnIdeal.Launch
public import proofs.«01_k».proof.Proof.Gen.AttnIdeal.Points
public import Idealize.ShloMosaic.Lib.Pipeline.FrameBody
public import Idealize.ShloMosaic.Lib.WordCmp
public import proofs.«01_k».proof.Proof.NaPiecesA
public import proofs.«01_k».proof.Proof.NaKeys
public import Idealize.ShloMosaic.Lib.Claim

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x128 .bf16 := win0_7.stage (cfg0.slots t 7)
abbrev hs0_7 (t : Fin cfg0.N) : (ms0_7 t).IsWhole := hstage0_7 ((cfg0.slots t 7).cast nbuf0_7)
/-- The scratch of normed keys, as a memref. -/
abbrev scM0_0 : Memref sig .tc .vmem S4096x128 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem N256 : cfg0.N = 256 := N_0

/-- The first point of the eight that share a plane of keys. -/
def t8 (n : ℕ) (hn : n < cfg0.N) : Fin cfg0.N := ⟨8 * (n / 8), by omega⟩

/-- The normed keys of point `n`'s plane. -/
def KNs (c : Dev nD) (n : ℕ) (hn : n < cfg0.N) : Vec F S4096x128 .bf16 :=
  KN (iblk m c 1 (t8 n hn)) (iblk m c 5 (t8 n hn)) (iblk m c 6 (t8 n hn))

theorem t8_self (t : Fin cfg0.N) (h : t.val % 8 = 0) : t8 t.val t.isLt = t := Fin.ext (by show 8 * (t.val / 8) = t.val; omega)

theorem KNs_first (c : Dev nD) (t : Fin cfg0.N) (h : t.val % 8 = 0) : KNs m c t.val t.isLt = KN (iblk m c 1 t) (iblk m c 5 t) (iblk m c 6 t) := by
  unfold KNs; rw [t8_self t h]

theorem KNs_pred (c : Dev nD) (t : Fin cfg0.N) (h : ¬t.val % 8 = 0) (h' : t.val - 1 < cfg0.N) : KNs m c (t.val - 1) h' = KNs m c t.val t.isLt := by
  unfold KNs; rw [show t8 (t.val - 1) h' = t8 t.val t.isLt from Fin.ext (by show 8 * ((t.val - 1) / 8) = 8 * (t.val / 8); omega)]

/-- What point `t` stores in its result block, given the keys. -/
def outOf (c : Dev nD) (t : Fin cfg0.N) (kn : Vec F S4096x128 .bf16) : Vec F S1x512x128 .bf16 :=
  View.canon (pcs (grid0.coords t) (iblk m c 0 t) (iblk m c 2 t) (iblk m c 3 t) (iblk m c 4 t) (iblk m c 6 t) kn)

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (KNs m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (KNs m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (KNs m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outOf m c t (KNs m c t.val t.isLt)
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outOf m c t (KNs m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 256 := lt_of_lt_of_eq t.isLt N256
  unfold outOf
  by_cases h0 : t.val % 8 = 0
  · rw [KNs_first m c t h0]
    by_cases hz : t.val = 0
    · rw [PhiS_castSucc m c t, PhiS_zero m c _ _ hz, PhiA0_eq]
      iintro ⟨⟨⟨%dS, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) dS).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, HS0⟩
      isplitl [HS0 Hg]
      · isplitl [HS0]
        · unfold owns; iexists _; isplitr
          swap; · iexact HS0
          ipureintro; exact runA_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) dS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [runA_pieces, runA_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) dS]
      exact View.read_writes_eq_canon _ _ _ (cover_pcs _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) (KNs m c (t.val - 1) (by omega))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, HS0⟩
      isplitl [HS0 Hg]
      · isplitl [HS0]
        · unfold owns; iexists _; isplitr
          swap; · iexact HS0
          ipureintro; exact runA_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) (KNs m c (t.val - 1) (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [runA_pieces, runA_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) (KNs m c (t.val - 1) (by omega))]
      exact View.read_writes_eq_canon _ _ _ (cover_pcs _ _ _ _ _ _ _)
  · by_cases hz : t.val = 0
    · exfalso; omega
    · rw [PhiS_castSucc m c t, PhiS_pos m c _ _ hz, KNs_pred m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (KNs m c t.val t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      rw [runB_pieces]
      exact View.read_writes_eq_canon _ _ _ (cover_pcs _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnIdeal.Hand

end
-- ==== Proof.NaSpec.lean ====
/- Neighbourhood attention as a formula on the extended reals, and what the value proof needs of it: for finite gains and
   bias every score is below +∞ and one score is finite, so the softmax's denominator is not zero and dividing the
   weighted sum is the sum of the divided weights. -/
module

public import Idealize.ShloMosaic.PureOps.Ideal
public import Idealize.ShloMosaic.PureOps.Ideal.Laws
public import Idealize.ShloMosaic.Lib.ValueIdx
public import Idealize.ShloMosaic.Lib.IdealHost

@[expose] public section

noncomputable section

namespace Cert.NaSpec

open Idealize.ShloMosaic
open Idealize.ShloMosaic.ValueIdx
open scoped BigOperators

/-- The first row of the window of row `i`. -/
def rs (i : Nat) : Nat := min (i - 4) 56

theorem rs_le (i : Nat) : rs i ≤ 56 := by unfold rs; omega

/-- The token of key `κ` of the window of row `i`. -/
def key (i : Fin 64) (κ : Fin 512) : Fin 4096 := ⟨rs i.val * 64 + κ.val, by have := rs_le i.val; omega⟩

/-- The bias table's row of key `κ` for row `i`. -/
def roff (i : Fin 64) (κ : Fin 512) : Fin 15 :=
  ⟨rs i.val + κ.val / 64 + 7 - i.val, by have := i.isLt; have := κ.isLt; unfold rs; omega⟩

/-- The bias table's column of key `κ` for column `c`. -/
def coff (c : Fin 64) (κ : Fin 512) : Fin 31 := ⟨min (κ.val % 64 + 15 - c.val) 30, by omega⟩

/-- Key `κ` is in the window of column `c`. -/
def vld (c : Fin 64) (κ : Fin 512) : Prop := min (c.val - 8) 48 ≤ κ.val % 64 ∧ κ.val % 64 < min (c.val - 8) 48 + 16

instance (c : Fin 64) (κ : Fin 512) : Decidable (vld c κ) := by unfold vld; infer_instance

def eps : EReal := Ideal.ofBits .f32 0x358637BD#32
def c64 : EReal := Ideal.ofBits .f32 0x42800000#32
def c64i : EReal := Ideal.ofBits .f32 0x3C800000#32
def c8i : EReal := Ideal.ofBits .f32 0x3E000000#32

theorem eps_pos : ∃ r : ℝ, 0 < r ∧ eps = (r : EReal) := by
  unfold eps
  simp only [Ideal.ofBits, Ideal.ieee]
  refine ⟨_, ?_, by simp [-EReal.coe_mul]; rfl⟩
  norm_num

theorem c64_eq : c64 = ((64 : ℝ) : EReal) := by
  unfold c64; simp [Ideal.ofBits, Ideal.ieee, -EReal.coe_mul]; norm_num
theorem c64i_eq : c64i = (((64 : ℝ)⁻¹ : ℝ) : EReal) := by
  unfold c64i; simp [Ideal.ofBits, Ideal.ieee, -EReal.coe_mul]; norm_num
theorem c8i_eq : c8i = (((8 : ℝ)⁻¹ : ℝ) : EReal) := by
  unfold c8i; simp [Ideal.ofBits, Ideal.ieee, -EReal.coe_mul]; norm_num

theorem div_c64 (x : EReal) : Ideal.div x c64 = x * c64i := by
  have h : c64 ≠ 0 := by rw [c64_eq]; exact_mod_cast (by norm_num : (64 : ℝ) ≠ 0)
  unfold Ideal.div
  rw [if_neg h, c64_eq, c64i_eq, EReal.coe_inv]

/-- One head's row over its root mean square, times the gain. -/
def nrm (x w : Fin 64 → EReal) (d : Fin 64) : EReal := x d * Ideal.rsqrt ((∑ e, x e * x e) * c64i + eps) * w d

def score (q : Fin 64 → EReal) (k : Fin 512 → Fin 64 → EReal) (b : Fin 512 → EReal) (c : Fin 64) (κ : Fin 512) : EReal :=
  if vld c κ then (∑ d, q d * k κ d) + b κ else ⊥

def top (s : Fin 512 → EReal) : EReal := Finset.univ.fold max ⊥ s

def wt (s : Fin 512 → EReal) (κ : Fin 512) : EReal := Ideal.exp (s κ - top s)

def att (s v : Fin 512 → EReal) : EReal := Ideal.div (∑ κ, wt s κ * v κ) (∑ κ, wt s κ)

def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.zero : IsReal 0 := ⟨0, by simp⟩
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem isReal_of_ne {x : EReal} (h : x ≠ ⊥) (h' : x ≠ ⊤) : IsReal x := by
  induction x with
  | bot => exact absurd rfl h
  | top => exact absurd rfl h'
  | coe r => exact ⟨r, rfl⟩

theorem sq_nonneg' (x : EReal) : 0 ≤ x * x := by
  induction x with
  | bot => simp
  | top => simp
  | coe r => rw [← EReal.coe_mul]; exact_mod_cast mul_self_nonneg r

theorem nrm_real (x w : Fin 64 → EReal) (hw : ∀ d, IsReal (w d)) (d : Fin 64) : IsReal (nrm x w d) := by
  obtain ⟨ε, hε, he⟩ := eps_pos
  unfold nrm
  refine IsReal.mul ?_ (hw d)
  have hS : 0 ≤ ∑ e, x e * x e := Finset.sum_nonneg fun e _ => sq_nonneg' (x e)
  have hle : x d * x d ≤ ∑ e, x e * x e :=
    Finset.single_le_sum (f := fun e => x e * x e) (fun e _ => sq_nonneg' (x e)) (Finset.mem_univ d)
  rw [he, c64i_eq]
  generalize (∑ e, x e * x e) = S at hS hle
  induction S with
  | bot => exact absurd hS (by simp)
  | top =>
    rw [EReal.top_mul_coe_of_pos (by norm_num), EReal.top_add_coe]
    refine ⟨0, ?_⟩
    show x d * (0 : EReal) = _
    simp
  | coe r =>
    have hr : 0 ≤ r := by exact_mod_cast hS
    have hx : IsReal (x d) := by
      refine isReal_of_ne (fun h => ?_) (fun h => ?_) <;> rw [h] at hle <;> simp at hle
    refine hx.mul ?_
    rw [← EReal.coe_mul, ← EReal.coe_add]
    have hp : 0 < r * (64 : ℝ)⁻¹ + ε := by positivity
    refine ⟨(Real.sqrt (r * (64 : ℝ)⁻¹ + ε))⁻¹, ?_⟩
    show (if _ < (0 : ℝ) then _ else if _ = (0 : ℝ) then _ else _) = _
    rw [if_neg (not_lt.2 hp.le), if_neg hp.ne']

theorem top_real (s : Fin 512 → EReal) (h : ∀ κ, s κ ≠ ⊤) (κ₀ : Fin 512) (h₀ : s κ₀ ≠ ⊥) : IsReal (top s) := by
  refine isReal_of_ne (fun e => h₀ ?_) ?_
  · have : s κ₀ ≤ top s := (Finset.le_fold_max _).2 (Or.inr ⟨κ₀, Finset.mem_univ _, le_rfl⟩)
    rw [e] at this
    exact le_bot_iff.1 this
  · have : top s < ⊤ := (Finset.fold_max_lt _).2 ⟨bot_lt_top, fun κ _ => lt_top_iff_ne_top.2 (h κ)⟩
    exact this.ne

theorem exp_nonneg (x : EReal) : 0 ≤ Ideal.exp x := by
  induction x with
  | bot => exact le_rfl
  | top => exact le_top
  | coe r =>
    show (0 : EReal) ≤ ((Real.exp r : ℝ) : EReal)
    exact_mod_cast (Real.exp_pos r).le

theorem sum_wt_pos (s : Fin 512 → EReal) (h : ∀ κ, s κ ≠ ⊤) (κ₀ : Fin 512) (h₀ : s κ₀ ≠ ⊥) : 0 < ∑ κ, wt s κ := by
  obtain ⟨M, hM⟩ := top_real s h κ₀ h₀
  obtain ⟨a, ha⟩ := isReal_of_ne h₀ (h κ₀)
  have h1 : 0 < wt s κ₀ := by
    unfold wt
    rw [hM, ha, ← EReal.coe_sub]
    show (0 : EReal) < ((Real.exp (a - M) : ℝ) : EReal)
    exact_mod_cast Real.exp_pos _
  exact lt_of_lt_of_le h1 (Finset.single_le_sum (f := wt s) (fun κ _ => exp_nonneg _) (Finset.mem_univ κ₀))

theorem sum_mul_of_nonneg {ι : Type} (s : Finset ι) (f : ι → EReal) (c : EReal) (h : 0 ≤ c) (h' : c ≠ ⊤) :
    (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h h', mul_comm c, mul_comm c]

/-- Dividing the weighted sum is the sum of the divided weights. -/
theorem att_eq (s v : Fin 512 → EReal) (h : ∀ κ, s κ ≠ ⊤) (κ₀ : Fin 512) (h₀ : s κ₀ ≠ ⊥) :
    att s v = ∑ κ, Ideal.div (wt s κ) (∑ κ', wt s κ') * v κ := by
  have hL := sum_wt_pos s h κ₀ h₀
  unfold att
  generalize (∑ κ, wt s κ) = L at hL
  simp only [Ideal.div, if_neg hL.ne']
  have hi : 0 ≤ L⁻¹ := EReal.inv_nonneg_of_nonneg hL.le
  have hi' : L⁻¹ ≠ ⊤ := by
    induction L with
    | bot => exact absurd hL (by simp)
    | top => simp
    | coe r => rw [← EReal.coe_inv]; exact EReal.coe_ne_top _
  rw [sum_mul_of_nonneg _ _ _ hi hi']
  exact Finset.sum_congr rfl fun κ _ => mul_right_comm _ _ _

/-- For finite queries, keys and bias every score is below +∞, and the score of the column itself is finite. -/
theorem score_facts (q : Fin 64 → EReal) (k : Fin 512 → Fin 64 → EReal) (b : Fin 512 → EReal) (c : Fin 64)
    (hq : ∀ d, IsReal (q d)) (hk : ∀ κ d, IsReal (k κ d)) (hb : ∀ κ, IsReal (b κ)) :
    (∀ κ, score q k b c κ ≠ ⊤) ∧ ∃ κ₀, score q k b c κ₀ ≠ ⊥ := by
  have hr : ∀ κ, IsReal ((∑ d, q d * k κ d) + b κ) := fun κ =>
    (IsReal.sum _ _ fun d _ => (hq d).mul (hk κ d)).add (hb κ)
  refine ⟨fun κ => ?_, ⟨c.val, by omega⟩, ?_⟩
  · unfold score
    split
    · obtain ⟨r, e⟩ := hr κ
      rw [e]; exact EReal.coe_ne_top r
    · exact bot_ne_top
  · unfold score
    rw [if_pos (by unfold vld; have := c.isLt; show _ ≤ c.val % 64 ∧ c.val % 64 < _; omega)]
    obtain ⟨r, e⟩ := hr ⟨c.val, by omega⟩
    rw [e]; exact EReal.coe_ne_bot r

/-! The arrays. -/

abbrev XTy := (⟨4, ![4, 52, 4096, 128]⟩ : Shape).Idx → EReal
abbrev GTy := (⟨1, ![64]⟩ : Shape).Idx → EReal
abbrev BTy := (⟨3, ![16, 15, 31]⟩ : Shape).Idx → EReal

/-- Head `h`'s row of token `s` in the blocks of `o` on. -/
def hd (X : XTy) (o : Fin 45) (b : Fin 4) (h : Fin 16) (s : Fin 4096) (d : Fin 64) : EReal :=
  X (ix4 b ⟨o.val + h.val / 2, by omega⟩ s ⟨h.val % 2 * 64 + d.val, by omega⟩)

def gain (W : GTy) (d : Fin 64) : EReal := W (ix1 d)

def qn (X : XTy) (Q : GTy) (b : Fin 4) (h : Fin 16) (s : Fin 4096) (d : Fin 64) : EReal := nrm (hd X 28 b h s) (gain Q) d * c8i
def kn (X : XTy) (K : GTy) (b : Fin 4) (h : Fin 16) (s : Fin 4096) (d : Fin 64) : EReal := nrm (hd X 36 b h s) (gain K) d

def sc (X : XTy) (Q K : GTy) (R : BTy) (b : Fin 4) (h : Fin 16) (i c : Fin 64) : Fin 512 → EReal :=
  score (qn X Q b h ⟨i.val * 64 + c.val, by omega⟩) (fun κ => kn X K b h (key i κ)) (fun κ => R (ix3 h (roff i κ) (coff c κ))) c

/-- The attention's element. -/
def out (X : XTy) (Q K : GTy) (R : BTy) (b : Fin 4) (h : Fin 16) (i c d : Fin 64) : EReal :=
  att (sc X Q K R b h i c) (fun κ => hd X 44 b h (key i κ) d)

theorem out_eq (X : XTy) (Q K : GTy) (R : BTy) (hQ : ∀ j, IsReal (Q j)) (hK : ∀ j, IsReal (K j)) (hR : ∀ j, IsReal (R j))
    (b : Fin 4) (h : Fin 16) (i c d : Fin 64) :
    out X Q K R b h i c d = ∑ κ, Ideal.div (wt (sc X Q K R b h i c) κ) (∑ κ', wt (sc X Q K R b h i c) κ') * hd X 44 b h (key i κ) d := by
  obtain ⟨h1, κ₀, h2⟩ := score_facts (qn X Q b h ⟨i.val * 64 + c.val, by omega⟩) (fun κ => kn X K b h (key i κ))
    (fun κ => R (ix3 h (roff i κ) (coff c κ))) c (fun d => (nrm_real _ _ (fun d => hQ _) d).mul ⟨_, c8i_eq⟩)
    (fun κ d => nrm_real _ _ (fun d => hK _) d) (fun κ => hR _)
  exact att_eq _ _ h1 κ₀ h2

end Cert.NaSpec

end
-- ==== Proof.NaTables.lean ====
/- The attention kernel's host tables: the head-sum matrix, the column and row offsets, the valid columns. -/
module

public import proofs.«01_k».proof.Proof.NaFrame
public import proofs.«01_k».proof.Proof.NaSpec

@[expose] public section

set_option maxRecDepth 16384

noncomputable section

namespace Cert.AttnIdeal.Hand

open Cert.AttnIdeal Cert.AttnIdeal.Gen Cert.NaSpec
open Idealize.ShloMosaic

theorem lit2_at : ∀ a w : Fin 8, lit2 ⟨a.val * 8 + w.val, by have := a.isLt; have := w.isLt; show _ < 64; omega⟩ = BitVec.ofNat 32 (a.val + w.val) := by
  decide +kernel

theorem lit1_at : ∀ c k : Fin 64, lit1 ⟨c.val * 64 + k.val, by have := c.isLt; have := k.isLt; show _ < 4096; omega⟩ = BitVec.ofNat 32 (min (k.val + 15 - c.val) 30) := by
  decide +kernel

theorem lit3_at : ∀ c k : Fin 64, lit3 ⟨c.val * 64 + k.val, by have := c.isLt; have := k.isLt; show _ < 4096; omega⟩ = if min (c.val - 8) 48 ≤ k.val ∧ k.val < min (c.val - 8) 48 + 16 then 1#1 else 0#1 := by
  decide +kernel

theorem lit0_at : ∀ e l : Fin 128, lit0 ⟨e.val * 128 + l.val, by have := e.isLt; have := l.isLt; show _ < 16384; omega⟩ = if e.val / 64 = l.val / 64 then 0x3F800000#32 else 0#32 := by
  decide +kernel

end Cert.AttnIdeal.Hand
-- ==== Proof.NaValA.lean ====
/- The attention kernel's row payloads, read at an index. -/
module

public import proofs.«01_k».proof.Proof.NaFrame
public import proofs.«01_k».proof.Proof.NaSpec
public import Idealize.ShloMosaic.Lib.Pipeline.ValueKit
public import Idealize.ShloMosaic.Lib.Pointwise

@[expose] public section

set_option maxRecDepth 16384

noncomputable section

namespace Cert.AttnIdeal.Hand

open Cert.AttnIdeal Cert.AttnIdeal.Gen Cert.NaSpec
open Idealize.ShloMosaic Idealize.ShloMosaic.TcCoe
open scoped BigOperators

theorem pay7_at (v0 : Vec Ideal S128x128 .f32) (q : Vec Ideal S1x1x64x128 .bf16) (qw : Vec Ideal S1x128 .f32) (c : Fin 64) (l : Fin 128) :
    k0_pay7 v0 q qw (ix2 c l)
      = (q (ix4 (0 : Fin 1) (0 : Fin 1) c l) : EReal) * Ideal.rsqrt ((∑ e : Fin 128, (q (ix4 (0 : Fin 1) (0 : Fin 1) c e) * q (ix4 (0 : Fin 1) (0 : Fin 1) c e)) * v0 (ix2 e l)) * c64i + eps)
          * qw (ix2 (0 : Fin 1) l) * c8i := by
  pointwise [k0_pay7]
  rfl

theorem pay2_at (v0 : Vec Ideal S128x128 .f32) (q : Vec Ideal S1x1x512x128 .bf16) (qw : Vec Ideal S1x128 .f32) (c : Fin 512) (l : Fin 128) :
    k0_pay2 v0 q qw (ix2 c l)
      = (q (ix4 (0 : Fin 1) (0 : Fin 1) c l) : EReal) * Ideal.rsqrt ((∑ e : Fin 128, (q (ix4 (0 : Fin 1) (0 : Fin 1) c e) * q (ix4 (0 : Fin 1) (0 : Fin 1) c e)) * v0 (ix2 e l)) * c64i + eps)
          * qw (ix2 (0 : Fin 1) l) := by
  pointwise [k0_pay2]
  rfl

theorem negInf : Ideal.ofBits .f32 0xFF800000#32 = ⊥ := by simp [Ideal.ofBits, Ideal.ieee]

/-- The scores of a row of the two heads' queries, the queries laid over their own head's lanes only. -/
theorem pay8_at (v54 : IVec S128x128 1) (x : FVec Ideal S64x128 .f32) (kb : Vec Ideal S512x128 .bf16) (vb : Vec Ideal S1x1x512x128 .bf16)
    (bi : Vec Ideal S1x1x128x512 .f32) (ρ : Fin 128) (l : Fin 128) :
    k0_pay8 v54 x kb vb bi (ix2 ρ l)
      = att (fun κ => (∑ e : Fin 128, Scalar.select (v54 (ix2 ρ e))
            ((if h : ρ.val < 64 then x (ix2 ⟨ρ.val, h⟩ e) else x (ix2 ⟨ρ.val - 64, by omega⟩ e)) * kb (ix2 κ e)) (0 : EReal))
          + bi (ix4 (0 : Fin 1) (0 : Fin 1) ρ κ)) (fun κ => vb (ix4 (0 : Fin 1) (0 : Fin 1) κ l)) := by
  pointwise [k0_pay8]
  rw [negInf]
  rfl

theorem headOf3 (ρ e : Fin 128) : k0_pay3 (ix2 ρ e) = BitVec.ofNat 32 (ρ.val / 64) := by
  pointwise [k0_pay3]
  revert ρ
  decide +kernel

theorem V54_at (ρ e : Fin 128) : V54 (ix2 ρ e) = if ρ.val / 64 = e.val / 64 then 1#1 else 0#1 := by
  unfold V54
  pointwise [k0_pay6, k0_pay4, k0_pay5]
  rw [headOf3]
  have : ∀ (t : Fin 2) (e : Fin 128), IntOp.cmpi .eq (BitVec.ofNat 32 t.val) (BitVec.ofNat 32 (e.val / 64)) = if t.val = e.val / 64 then 1#1 else 0#1 := by
    decide +kernel
  refine Eq.trans ?_ (this ⟨ρ.val / 64, by omega⟩ e)
  congr 1
  clear this
  revert e
  decide +kernel

theorem row_at (v0 : Vec Ideal S128x128 .f32) (q : Vec Ideal S1x1x64x128 .bf16) (qw : Vec Ideal S1x128 .f32) (kb : Vec Ideal S512x128 .bf16)
    (vb : Vec Ideal S1x1x512x128 .bf16) (bi : Vec Ideal S1x1x128x512 .f32) (z : Fin 1) (c : Fin 64) (l : Fin 128) :
    rowPay v0 q qw kb vb bi (ix3 z c l)
      = k0_pay8 V54 (k0_pay7 v0 q qw) kb vb bi (ix2 (⟨l.val / 64 * 64 + c.val, by omega⟩ : Fin 128) l) := by
  unfold rowPay
  pointwise [k0_pay12, k0_pay9, k0_pay10, k0_pay11]
  have key : ∀ l : Fin 128, IntOp.cmpi CmpIPredicate.eq
        (Scalar.select
          (IntOp.andi (IntOp.cmpi CmpIPredicate.ne (IntOp.subi (BitVec.setWidth 32 (IntOp.cmpi .sgt (BitVec.ofNat 32 l.val) 0#32)) (BitVec.setWidth 32 (IntOp.cmpi .slt (BitVec.ofNat 32 l.val) 0#32))) 1#32)
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        1#32 = if l.val < 64 then 0#1 else 1#1 := by decide +kernel
  rw [key l]
  by_cases h : l.val < 64
  · rw [if_pos h]
    refine Eq.trans (ValueIdx.select_zero _ _) (congrArg _ (congrArg (fun x => ix2 x l) (Fin.ext ?_)))
    show c.val = l.val / 64 * 64 + c.val
    omega
  · rw [if_neg h]
    refine Eq.trans (ValueIdx.select_one _ _) (congrArg _ (congrArg (fun x => ix2 x l) (Fin.ext ?_)))
    show 64 + c.val = l.val / 64 * 64 + c.val
    omega

end Cert.AttnIdeal.Hand

end
-- ==== Proof.NaHost.lean ====
/- What the attention kernel's region finds in the operands the host computes. -/
module

public import proofs.«01_k».proof.Proof.NaFrame
public import proofs.«01_k».proof.Proof.NaTables
public import proofs.«01_k».proof.Proof.NaValA
public import Idealize.ShloMosaic.Lib.Pipeline.ValueKit
public import Idealize.ShloMosaic.Lib.Pointwise
public import Idealize.ShloMosaic.Lib.StableHlo.RunRead

@[expose] public section

set_option maxRecDepth 16384

noncomputable section

namespace Cert.AttnIdeal.Hand

open Cert.AttnIdeal Cert.AttnIdeal.Gen Cert.NaSpec
open Idealize.ShloMosaic Idealize.ShloMosaic.TcCoe
open scoped BigOperators

theorem toNat_of (n : Nat) (h : n < 2 ^ 31) : (BitVec.ofNat 32 n).toInt.toNat = n := by
  rw [BitVec.toInt_eq_toNat_cond, BitVec.toNat_ofNat, Nat.mod_eq_of_lt (by omega), if_pos (by omega)]
  rfl

theorem offsetRow (x : S16x15x64x64.Idx → EReal) (idx : IVec S8x8x1 32) (h : Fin 16) (r w : Fin 8) (c k : Fin 64) (n : Fin 15)
    (hn : idx (ValueIdx.ix3 r w (0 : Fin 1)) = BitVec.ofNat 32 n.val) :
    Host.gather gather_S16x15x64x64_S8x8x1_S16x8x8x64x64_034_1_n_n_1_2_1616464 x idx (ValueIdx.ix5 h r w c k) = x (ValueIdx.ix4 h n c k) := by
  unfold Host.gather
  refine congrArg x (funext fun a => Fin.ext ?_)
  set d := gather_S16x15x64x64_S8x8x1_S16x8x8x64x64_034_1_n_n_1_2_1616464 with hd
  have hsi : d.siIdx (ValueIdx.ix5 h r w c k) ⟨0, by decide⟩ = ValueIdx.ix3 r w (0 : Fin 1) := by
    funext b
    apply Fin.ext
    match b with
    | ⟨0, _⟩ => rfl
    | ⟨1, _⟩ => rfl
    | ⟨2, _⟩ => rfl
  match a with
  | ⟨0, _⟩ =>
    show d.start (ValueIdx.ix5 h r w c k) idx 0 + d.batchCoord (ValueIdx.ix5 h r w c k) 0 + d.offCoord (ValueIdx.ix5 h r w c k) 0 = h.val
    rw [d.batchCoord_eq_zero _ _ (by decide)]
    have e : d.offCoord (ValueIdx.ix5 h r w c k) 0 = h.val := rfl
    have e' : d.start (ValueIdx.ix5 h r w c k) idx 0 ≤ 0 := d.start_le _ idx 0
    rw [e]
    omega
  | ⟨1, _⟩ =>
    show d.start (ValueIdx.ix5 h r w c k) idx 1 + d.batchCoord (ValueIdx.ix5 h r w c k) 1 + d.offCoord (ValueIdx.ix5 h r w c k) 1 = n.val
    rw [d.batchCoord_eq_zero _ _ (by decide)]
    have e : d.offCoord (ValueIdx.ix5 h r w c k) 1 = 0 := rfl
    have e' : d.start (ValueIdx.ix5 h r w c k) idx 1 = min (idx (d.siIdx (ValueIdx.ix5 h r w c k) ⟨0, by decide⟩)).toInt.toNat 14 := rfl
    rw [e, e', hsi, hn, toNat_of _ (by omega)]
    omega
  | ⟨2, _⟩ =>
    show d.start (ValueIdx.ix5 h r w c k) idx 2 + d.batchCoord (ValueIdx.ix5 h r w c k) 2 + d.offCoord (ValueIdx.ix5 h r w c k) 2 = c.val
    rw [d.batchCoord_eq_zero _ _ (by decide)]
    have e : d.offCoord (ValueIdx.ix5 h r w c k) 2 = c.val := rfl
    have e' : d.start (ValueIdx.ix5 h r w c k) idx 2 ≤ 0 := d.start_le _ idx 2
    rw [e]
    omega
  | ⟨3, _⟩ =>
    show d.start (ValueIdx.ix5 h r w c k) idx 3 + d.batchCoord (ValueIdx.ix5 h r w c k) 3 + d.offCoord (ValueIdx.ix5 h r w c k) 3 = k.val
    rw [d.batchCoord_eq_zero _ _ (by decide)]
    have e : d.offCoord (ValueIdx.ix5 h r w c k) 3 = k.val := rfl
    have e' : d.start (ValueIdx.ix5 h r w c k) idx 3 ≤ 0 := d.start_le _ idx 3
    rw [e]
    omega

theorem offsetCol (x : S16x15x31.Idx → EReal) (idx : IVec S64x64x1 32) (h : Fin 16) (r : Fin 15) (c k : Fin 64) (n : Fin 31)
    (hn : idx (ValueIdx.ix3 c k (0 : Fin 1)) = BitVec.ofNat 32 n.val) :
    Host.gather gather_S16x15x31_S64x64x1_S16x15x64x64_01_2_n_n_2_2_16151 x idx (ValueIdx.ix4 h r c k) = x (ValueIdx.ix3 h r n) := by
  unfold Host.gather
  refine congrArg x (funext fun a => Fin.ext ?_)
  set d := gather_S16x15x31_S64x64x1_S16x15x64x64_01_2_n_n_2_2_16151 with hd
  have hsi : d.siIdx (ValueIdx.ix4 h r c k) ⟨0, by decide⟩ = ValueIdx.ix3 c k (0 : Fin 1) := by
    funext b
    apply Fin.ext
    match b with
    | ⟨0, _⟩ => rfl
    | ⟨1, _⟩ => rfl
    | ⟨2, _⟩ => rfl
  match a with
  | ⟨0, _⟩ =>
    show d.start (ValueIdx.ix4 h r c k) idx 0 + d.batchCoord (ValueIdx.ix4 h r c k) 0 + d.offCoord (ValueIdx.ix4 h r c k) 0 = h.val
    rw [d.batchCoord_eq_zero _ _ (by decide)]
    have e : d.offCoord (ValueIdx.ix4 h r c k) 0 = h.val := rfl
    have e' : d.start (ValueIdx.ix4 h r c k) idx 0 ≤ 0 := d.start_le _ idx 0
    rw [e]
    omega
  | ⟨1, _⟩ =>
    show d.start (ValueIdx.ix4 h r c k) idx 1 + d.batchCoord (ValueIdx.ix4 h r c k) 1 + d.offCoord (ValueIdx.ix4 h r c k) 1 = r.val
    rw [d.batchCoord_eq_zero _ _ (by decide)]
    have e : d.offCoord (ValueIdx.ix4 h r c k) 1 = r.val := rfl
    have e' : d.start (ValueIdx.ix4 h r c k) idx 1 ≤ 0 := d.start_le _ idx 1
    rw [e]
    omega
  | ⟨2, _⟩ =>
    show d.start (ValueIdx.ix4 h r c k) idx 2 + d.batchCoord (ValueIdx.ix4 h r c k) 2 + d.offCoord (ValueIdx.ix4 h r c k) 2 = n.val
    rw [d.batchCoord_eq_zero _ _ (by decide)]
    have e : d.offCoord (ValueIdx.ix4 h r c k) 2 = 0 := rfl
    have e' : d.start (ValueIdx.ix4 h r c k) idx 2 = min (idx (d.siIdx (ValueIdx.ix4 h r c k) ⟨0, by decide⟩)).toInt.toNat 30 := rfl
    rw [e, e', hsi, hn, toNat_of _ (by omega)]
    omega

/-- A gain laid twice along the lanes. -/
def tile2 (W : S64.Idx → EReal) : S1x128.Idx → EReal :=
  shapeCast S1x128 (shapeCast S128 (broadcastInDim S2x64 ![0, 1] bcast_S1x64_S2x64_0_1 (shapeCast S1x64 W shapeCasts_S64_S1x64))
    shapeCasts_S2x64_S128) shapeCasts_S128_S1x128

theorem tile2_at (W : S64.Idx → EReal) (l : Fin 128) :
    tile2 W (ValueIdx.ix2 (0 : Fin 1) l) = W (ValueIdx.ix1 (⟨l.val % 64, by omega⟩ : Fin 64)) := by
  have h := l.isLt
  have e1 : ∀ (x : S128.Idx → EReal), shapeCast S1x128 x shapeCasts_S128_S1x128 (ValueIdx.ix2 (0 : Fin 1) l) = x (ValueIdx.ix1 l) := fun x =>
    shapeCast_apply x _ _ (ValueIdx.ix1 l) (by
      rw [Shape.rowMajor_val_one, Shape.rowMajor_val_two]
      show l.val = 0 * 128 + l.val
      omega)
  have e2 : ∀ (x : S2x64.Idx → EReal), shapeCast S128 x shapeCasts_S2x64_S128 (ValueIdx.ix1 l)
      = x (ValueIdx.ix2 (⟨l.val / 64, by omega⟩ : Fin 2) (⟨l.val % 64, by omega⟩ : Fin 64)) := fun x =>
    shapeCast_apply x _ _ _ (by
      rw [Shape.rowMajor_val_one, Shape.rowMajor_val_two]
      show l.val / 64 * 64 + l.val % 64 = l.val
      omega)
  have e3 : ∀ (x : S1x64.Idx → EReal) (t : Fin 2) (d : Fin 64), broadcastInDim S2x64 ![0, 1] bcast_S1x64_S2x64_0_1 x (ValueIdx.ix2 t d)
      = x (ValueIdx.ix2 (0 : Fin 1) d) := fun x t d =>
    congrArg x (funext fun a => Fin.ext (match a with | ⟨0, _⟩ => rfl | ⟨1, _⟩ => rfl))
  have e4 : ∀ d : Fin 64, shapeCast S1x64 W shapeCasts_S64_S1x64 (ValueIdx.ix2 (0 : Fin 1) d) = W (ValueIdx.ix1 d) := fun d =>
    shapeCast_apply W _ _ (ValueIdx.ix1 d) (by
      rw [Shape.rowMajor_val_one, Shape.rowMajor_val_two]
      show d.val = 0 * 64 + d.val
      omega)
  unfold tile2
  rw [e1, e2, e3, e4]

/-- The bias laid out for the kernel: per row class and pair of heads, the two heads' columns against the window's keys. -/
def biasT (R : S16x15x31.Idx → EReal) : S8x8x128x512.Idx → EReal :=
  shapeCast S8x8x128x512
    (transpose S8x16x64x8x64 [1, 0, 3, 2, 4]
      (select
        (broadcastInDim S16x8x8x64x64 ![0, 1, 2, 3, 4] bcast_S1x1x1x64x64_S16x8x8x64x64_0_1_2_3_4
          (broadcastInDim S1x1x1x64x64 ![3, 4] bcast_S64x64_S1x1x1x64x64_3_4 fun i => lit3 (S64x64.rowMajor i)))
        (Host.gather gather_S16x15x64x64_S8x8x1_S16x8x8x64x64_034_1_n_n_1_2_1616464
          (Host.gather gather_S16x15x31_S64x64x1_S16x15x64x64_01_2_n_n_2_2_16151 R
            (broadcastInDim S64x64x1 ![0, 1] bcast_S64x64_S64x64x1_0_1
              (select (constantI S64x64 1 0#1)
                (addi (fun i => lit1 (S64x64.rowMajor i)) (broadcastInDim S64x64 ![] bcast_S_S64x64 (constantI S_ 32 31#32)))
                fun i => lit1 (S64x64.rowMajor i))))
          (broadcastInDim S8x8x1 ![0, 1] bcast_S8x8_S8x8x1_0_1
            (select (constantI S8x8 1 0#1)
              (addi (fun i => lit2 (S8x8.rowMajor i)) (broadcastInDim S8x8 ![] bcast_S_S8x8 (constantI S_ 32 15#32)))
              fun i => lit2 (S8x8.rowMajor i))))
        (broadcastInDim S16x8x8x64x64 ![] bcast_S_S16x8x8x64x64 (constant (F := Ideal) S_ FTy.f32 0xFF800000#32)))
      transposes_S16x8x8x64x64_S8x16x64x8x64_1_0_3_2_4)
    shapeCasts_S8x16x64x8x64_S8x8x128x512

theorem biasT_at (R : S16x15x31.Idx → EReal) (r p : Fin 8) (ρ : Fin 128) (κ : Fin 512) :
    biasT R (ValueIdx.ix4 r p ρ κ)
      = if vld ⟨ρ.val % 64, by omega⟩ κ then
          R (ValueIdx.ix3 (⟨2 * p.val + ρ.val / 64, by omega⟩ : Fin 16) (⟨r.val + κ.val / 64, by omega⟩ : Fin 15) (coff ⟨ρ.val % 64, by omega⟩ κ))
        else (⊥ : EReal) := by
  have hr := r.isLt
  have hp := p.isLt
  have hρ := ρ.isLt
  have hκ := κ.isLt
  set h : Fin 16 := ⟨2 * p.val + ρ.val / 64, by omega⟩ with hh
  set c : Fin 64 := ⟨ρ.val % 64, by omega⟩ with hc
  set w : Fin 8 := ⟨κ.val / 64, by omega⟩ with hw
  set k : Fin 64 := ⟨κ.val % 64, by omega⟩ with hk
  unfold biasT
  refine (shapeCast_apply _ _ _ (ValueIdx.ix5 r h c w k) ?_).trans ?_
  · rw [Shape.rowMajor_val_four, Shape.rowMajor_val_five]
    show (((r.val * 16 + (2 * p.val + ρ.val / 64)) * 64 + ρ.val % 64) * 8 + κ.val / 64) * 64 + κ.val % 64 = ((r.val * 8 + p.val) * 128 + ρ.val) * 512 + κ.val
    omega
  have hv : ∀ i : S64x64.Idx, i = ValueIdx.ix2 c k → lit3 (S64x64.rowMajor i) = if vld c κ then 1#1 else 0#1 := by
    rintro i rfl
    exact (congrArg lit3 (Fin.ext (Shape.rowMajor_val_two _))).trans (lit3_at c k)
  refine Eq.trans (b := Scalar.select (if vld c κ then 1#1 else 0#1) (R (ValueIdx.ix3 h ⟨r.val + κ.val / 64, by omega⟩ (coff c κ))) (Ideal.ofBits .f32 0xFF800000#32)) ?_ ?_
  · refine Eq.trans (b := Scalar.select (lit3 (S64x64.rowMajor (ValueIdx.ix2 c k))) (Host.gather gather_S16x15x64x64_S8x8x1_S16x8x8x64x64_034_1_n_n_1_2_1616464
          (Host.gather gather_S16x15x31_S64x64x1_S16x15x64x64_01_2_n_n_2_2_16151 R
            (fun j => lit1 (S64x64.rowMajor (ValueIdx.ix2 (j 0) (j 1)))))
          (fun j => lit2 (S8x8.rowMajor (ValueIdx.ix2 (j 0) (j 1)))) (ValueIdx.ix5 h r w c k)) (Ideal.ofBits .f32 0xFF800000#32)) ?_ ?_
    · refine congr (congr (congrArg _ ?_) (congr (congr (congrArg _ (congr (congrArg _ ?_) ?_)) ?_) ?_)) ?_
      · exact congrArg (fun i => lit3 (S64x64.rowMajor i)) (funext fun a => Fin.ext (match a with | ⟨0, _⟩ => rfl | ⟨1, _⟩ => rfl))
      · rfl
      · exact funext fun j => congrArg (fun i => lit1 (S64x64.rowMajor i)) (funext fun a => Fin.ext (match a with | ⟨0, _⟩ => rfl | ⟨1, _⟩ => rfl))
      · exact funext fun j => congrArg (fun i => lit2 (S8x8.rowMajor i)) (funext fun a => Fin.ext (match a with | ⟨0, _⟩ => rfl | ⟨1, _⟩ => rfl))
      · exact funext fun a => Fin.ext (match a with | ⟨0, _⟩ => rfl | ⟨1, _⟩ => rfl | ⟨2, _⟩ => rfl | ⟨3, _⟩ => rfl | ⟨4, _⟩ => rfl)
      · rfl
    · rw [hv _ rfl]
      refine congrArg (fun x => Scalar.select _ x _) ?_
      rw [offsetRow _ _ h r w c k ⟨r.val + κ.val / 64, by omega⟩ ((congrArg lit2 (Fin.ext (Shape.rowMajor_val_two _))).trans (lit2_at r w)),
        offsetCol _ _ h _ c k (coff c κ) ((congrArg lit1 (Fin.ext (Shape.rowMajor_val_two _))).trans (lit1_at c k))]
  · rw [negInf]
    by_cases hd : vld c κ
    · rw [if_pos hd, if_pos hd]
      rfl
    · rw [if_neg hd, if_neg hd]
      rfl

variable (m : (ℓ : Loc nD τ sig) → Buf (Elt Ideal) ℓ)

theorem V_v17 (c : Dev nD) :
    V m c main_v17 = tile2 (m ((c : Thread nD τ).loc main_arg1)) := by
  unfold V
  simp only [List.flatten_cons, List.flatten_nil, List.append_nil, List.cons_append, List.nil_append, hostOps0, hostOps0_1, hostOps0_2]
  simp only [StableHlo.after_cons, StableHlo.after_nil]
  after_results_simp
  rfl

theorem V_v21 (c : Dev nD) :
    V m c main_v21 = tile2 (m ((c : Thread nD τ).loc main_arg2)) := by
  unfold V
  simp only [List.flatten_cons, List.flatten_nil, List.append_nil, List.cons_append, List.nil_append, hostOps0, hostOps0_1, hostOps0_2]
  simp only [StableHlo.after_cons, StableHlo.after_nil]
  after_results_simp
  rfl

theorem V_v13 (c : Dev nD) :
    V m c main_v13 = biasT (m ((c : Thread nD τ).loc main_arg3)) := by
  unfold V
  simp only [List.flatten_cons, List.flatten_nil, List.append_nil, List.cons_append, List.nil_append, hostOps0, hostOps0_1, hostOps0_2]
  simp only [StableHlo.after_cons, StableHlo.after_nil]
  after_results_simp
  rfl

theorem V_cst (c : Dev nD) :
    V m c main_cst = fun i => Ideal.ofBits .f32 (lit0 (S128x128.rowMajor i)) := by
  unfold V
  simp only [List.flatten_cons, List.flatten_nil, List.append_nil, List.cons_append, List.nil_append, hostOps0, hostOps0_1, hostOps0_2]
  simp only [StableHlo.after_cons, StableHlo.after_nil]
  after_results_simp
  rfl

end Cert.AttnIdeal.Hand
-- ==== Proof.NaRow.lean ====
/- A query row of the attention kernel as the specification writes it. -/
module

public import proofs.«01_k».proof.Proof.NaHost

@[expose] public section

set_option maxRecDepth 16384

noncomputable section

namespace Cert.AttnIdeal.Hand

open Cert.AttnIdeal Cert.AttnIdeal.Gen Cert.NaSpec
open Idealize.ShloMosaic Idealize.ShloMosaic.TcCoe
open scoped BigOperators

theorem headSum (f : Fin 128 → EReal) (t : Nat) (ht : t < 2) :
    (∑ e : Fin 128, if t = e.val / 64 then f e else 0) = ∑ d : Fin 64, f ⟨t * 64 + d.val, by omega⟩ := by
  have h := Fin.sum_univ_add (a := 64) (b := 64) (fun e : Fin (64 + 64) => if t = e.val / 64 then f e else 0)
  refine h.trans ?_
  have e1 : ∀ d : Fin 64, (Fin.castAdd 64 d).val / 64 = 0 := fun d => by show d.val / 64 = 0; omega
  have e2 : ∀ d : Fin 64, (Fin.natAdd 64 d).val / 64 = 1 := fun d => by show (64 + d.val) / 64 = 1; omega
  simp only [e1, e2]
  rcases (by omega : t = 0 ∨ t = 1) with rfl | rfl
  · rw [Finset.sum_eq_zero (s := Finset.univ) (f := fun d : Fin 64 => if (0 : Nat) = 1 then f (Fin.natAdd 64 d) else 0) (fun _ _ => if_neg (by decide)), add_zero]
    refine Finset.sum_congr rfl fun d _ => (if_pos rfl).trans (congrArg f (Fin.ext ?_))
    show d.val = 0 * 64 + d.val
    omega
  · rw [Finset.sum_eq_zero (s := Finset.univ) (f := fun d : Fin 64 => if (1 : Nat) = 0 then f (Fin.castAdd 64 d) else 0) (fun _ _ => if_neg (by decide)), zero_add]
    refine Finset.sum_congr rfl fun d _ => (if_pos rfl).trans (congrArg f (Fin.ext ?_))
    show 64 + d.val = 1 * 64 + d.val
    omega

/-- Lane `d` of head `l / 64` of the pair. -/
def lane (l : Fin 128) (d : Fin 64) : Fin 128 := ⟨l.val / 64 * 64 + d.val, by omega⟩

theorem row_val (v0 : Vec Ideal S128x128 .f32) (q : Vec Ideal S1x1x64x128 .bf16) (qw : Vec Ideal S1x128 .f32) (kb : Vec Ideal S512x128 .bf16)
    (vb : Vec Ideal S1x1x512x128 .bf16) (bi : Vec Ideal S1x1x128x512 .f32) (z : Fin 1) (c : Fin 64) (l : Fin 128) :
    rowPay v0 q qw kb vb bi (ix3 z c l)
      = att (fun κ => (∑ d : Fin 64, (k0_pay7 v0 q qw (ix2 c (lane l d)) : EReal) * kb (ix2 κ (lane l d))) + bi (ix4 (0 : Fin 1) (0 : Fin 1) (lane l c) κ))
          (fun κ => vb (ix4 (0 : Fin 1) (0 : Fin 1) κ l)) := by
  rw [row_at, pay8_at]
  refine congrArg (fun s => att s _) (funext fun κ => congrArg (fun y => y + bi (ix4 (0 : Fin 1) (0 : Fin 1) (lane l c) κ)) ?_)
  have hl := l.isLt
  refine Eq.trans ?_ (headSum (fun e => (k0_pay7 v0 q qw (ix2 c e) : EReal) * kb (ix2 κ e)) (l.val / 64) (by omega))
  refine Finset.sum_congr rfl fun e _ => ?_
  rw [V54_at]
  have e1 : (l.val / 64 * 64 + c.val) / 64 = l.val / 64 := by omega
  have e3 : ∀ (hx : l.val / 64 * 64 + c.val < 128), (if h : l.val / 64 * 64 + c.val < 64 then k0_pay7 v0 q qw (ix2 ⟨l.val / 64 * 64 + c.val, h⟩ e) else k0_pay7 v0 q qw (ix2 ⟨l.val / 64 * 64 + c.val - 64, by omega⟩ e)) = k0_pay7 v0 q qw (ix2 c e) := by
    intro hx
    by_cases h : l.val / 64 * 64 + c.val < 64
    · rw [dif_pos h]
      exact congrArg (fun x => k0_pay7 v0 q qw (ix2 x e)) (Fin.ext (by show l.val / 64 * 64 + c.val = c.val; omega))
    · rw [dif_neg h]
      exact congrArg (fun x => k0_pay7 v0 q qw (ix2 x e)) (Fin.ext (by show l.val / 64 * 64 + c.val - 64 = c.val; omega))
  show Scalar.select (if (l.val / 64 * 64 + c.val) / 64 = e.val / 64 then 1#1 else 0#1) ((if h : l.val / 64 * 64 + c.val < 64 then k0_pay7 v0 q qw (ix2 ⟨l.val / 64 * 64 + c.val, h⟩ e) else k0_pay7 v0 q qw (ix2 ⟨l.val / 64 * 64 + c.val - 64, by omega⟩ e)) * kb (ix2 κ e)) (0 : EReal) = _
  rw [e1, e3 (by omega)]
  by_cases h : l.val / 64 = e.val / 64
  · rw [if_pos h, if_pos h]; rfl
  · rw [if_neg h, if_neg h]; rfl

/-- A product with the head-sum table sums a head's own lanes. -/
theorem normSum (v0 : Vec Ideal S128x128 .f32) (hv : ∀ e l, v0 (ix2 e l) = if e.val / 64 = l.val / 64 then (1 : EReal) else 0)
    (f : Fin 128 → EReal) (l : Fin 128) (d : Fin 64) :
    (∑ e : Fin 128, f e * v0 (ix2 e (lane l d))) = ∑ d' : Fin 64, f (lane l d') := by
  have hl := l.isLt
  refine Eq.trans (Finset.sum_congr rfl fun e _ => ?_) (headSum f (l.val / 64) (by omega))
  rw [hv]
  have e1 : (lane l d).val / 64 = l.val / 64 := by show (l.val / 64 * 64 + d.val) / 64 = l.val / 64; omega
  rw [e1]
  by_cases h : e.val / 64 = l.val / 64
  · rw [if_pos h, if_pos h.symm]; exact mul_one _
  · rw [if_neg h, if_neg (fun h' => h h'.symm)]; exact mul_zero _

theorem qrow (v0 : Vec Ideal S128x128 .f32) (hv : ∀ e l, v0 (ix2 e l) = if e.val / 64 = l.val / 64 then (1 : EReal) else 0)
    (q : Vec Ideal S1x1x64x128 .bf16) (qw : Vec Ideal S1x128 .f32) (W : Fin 64 → EReal) (hw : ∀ l : Fin 128, qw (ix2 (0 : Fin 1) l) = W ⟨l.val % 64, by omega⟩)
    (c : Fin 64) (l : Fin 128) (d : Fin 64) :
    (k0_pay7 v0 q qw (ix2 c (lane l d)) : EReal) = nrm (fun d => q (ix4 (0 : Fin 1) (0 : Fin 1) c (lane l d))) W d * c8i := by
  rw [pay7_at, normSum v0 hv (fun e => q (ix4 (0 : Fin 1) (0 : Fin 1) c e) * q (ix4 (0 : Fin 1) (0 : Fin 1) c e)) l d, hw]
  have : (⟨(lane l d).val % 64, by omega⟩ : Fin 64) = d := Fin.ext (by show (l.val / 64 * 64 + d.val) % 64 = d.val; omega)
  rw [this]
  rfl

theorem krow (v0 : Vec Ideal S128x128 .f32) (hv : ∀ e l, v0 (ix2 e l) = if e.val / 64 = l.val / 64 then (1 : EReal) else 0)
    (q : Vec Ideal S1x1x512x128 .bf16) (qw : Vec Ideal S1x128 .f32) (W : Fin 64 → EReal) (hw : ∀ l : Fin 128, qw (ix2 (0 : Fin 1) l) = W ⟨l.val % 64, by omega⟩)
    (c : Fin 512) (l : Fin 128) (d : Fin 64) :
    (k0_pay2 v0 q qw (ix2 c (lane l d)) : EReal) = nrm (fun d => q (ix4 (0 : Fin 1) (0 : Fin 1) c (lane l d))) W d := by
  rw [pay2_at, normSum v0 hv (fun e => q (ix4 (0 : Fin 1) (0 : Fin 1) c e) * q (ix4 (0 : Fin 1) (0 : Fin 1) c e)) l d, hw]
  have : (⟨(lane l d).val % 64, by omega⟩ : Fin 64) = d := Fin.ext (by show (l.val / 64 * 64 + d.val) % 64 = d.val; omega)
  rw [this]
  rfl

end Cert.AttnIdeal.Hand
-- ==== Proof.NaBlk.lean ====
/- The blocks of the attention kernel's windows, read at an index, and where its loads start. -/
module

public import proofs.«01_k».proof.Proof.NaHost
public import Idealize.ShloMosaic.Lib.Claim

@[expose] public section

set_option maxRecDepth 16384

noncomputable section

namespace Cert.AttnIdeal.Hand

open Cert.AttnIdeal Cert.AttnIdeal.Gen Cert.NaSpec
open Idealize.ShloMosaic Idealize.ShloMosaic.TcCoe
open scoped BigOperators

theorem idx_val : ∀ t : Fin cfg0.N, win0_0.index t = ![t.val / 64, 28 + t.val / 8 % 8, t.val % 8, 0]
    ∧ win0_1.index t = ![t.val / 64, 36 + t.val / 8 % 8, 0, 0]
    ∧ win0_2.index t = ![t.val / 64, 44 + t.val / 8 % 8, 0, 0]
    ∧ win0_3.index t = ![0, t.val / 8 % 8, 0, 0]
    ∧ win0_4.index t = ![0, 0]
    ∧ win0_5.index t = ![0, 0]
    ∧ win0_6.index t = ![0, 0]
    ∧ win0_7.index t = ![t.val / 64, t.val % 8, t.val / 8 % 8] :=
  (by decide +kernel : ∀ t : Fin grid0.N, _)

theorem off3 : ∀ (t : Fin grid0.N) (r : Fin 8), k0_off3 (grid0.coords t) (BitVec.ofNat 32 r.val) = ![rs (t.val % 8 * 8 + r.val) * 64, 0] := by
  decide +kernel

theorem off4 : ∀ (t : Fin grid0.N) (r : Fin 8), k0_off4 (grid0.coords t) (BitVec.ofNat 32 r.val) = ![0, 0, rs (t.val % 8 * 8 + r.val) * 64, 0] := by
  decide +kernel

theorem off5 : ∀ (t : Fin grid0.N) (r : Fin 8), k0_off5 (grid0.coords t) (BitVec.ofNat 32 r.val) = ![rs (t.val % 8 * 8 + r.val) + 7 - (t.val % 8 * 8 + r.val), 0, 0, 0] := by
  decide +kernel

variable (m : (ℓ : Loc nD τ sig) → Buf (Elt Ideal) ℓ)

theorem N_lt (t : Fin cfg0.N) : t.val < 256 := lt_of_lt_of_eq t.isLt N_0

theorem blk0 (c : Dev nD) (t : Fin cfg0.N) (a b : Fin 1) (s : Fin 512) (l : Fin 128) :
    (iblk m c 0 t : Vec Ideal S1x1x512x128 .bf16) (ix4 a b s l) = (m ((c : Thread nD τ).loc main_arg0) : XTy) (ValueIdx.ix4 (⟨t.val / 64, by have := N_lt t; omega⟩ : Fin 4) (⟨28 + t.val / 8 % 8, by omega⟩ : Fin 52) (⟨t.val % 8 * 512 + s.val, by omega⟩ : Fin 4096) l) := by
  have e := V_main_arg0 m c
  blk_point [iblk, e, idx_val t]

theorem blk1 (c : Dev nD) (t : Fin cfg0.N) (a b : Fin 1) (s : Fin 4096) (l : Fin 128) :
    (iblk m c 1 t : Vec Ideal S1x1x4096x128 .bf16) (ix4 a b s l) = (m ((c : Thread nD τ).loc main_arg0) : XTy) (ValueIdx.ix4 (⟨t.val / 64, by have := N_lt t; omega⟩ : Fin 4) (⟨36 + t.val / 8 % 8, by omega⟩ : Fin 52) s l) := by
  have e := V_main_arg0 m c
  blk_point [iblk, e, idx_val t]

theorem blk2 (c : Dev nD) (t : Fin cfg0.N) (a b : Fin 1) (s : Fin 4096) (l : Fin 128) :
    (iblk m c 2 t : Vec Ideal S1x1x4096x128 .bf16) (ix4 a b s l) = (m ((c : Thread nD τ).loc main_arg0) : XTy) (ValueIdx.ix4 (⟨t.val / 64, by have := N_lt t; omega⟩ : Fin 4) (⟨44 + t.val / 8 % 8, by omega⟩ : Fin 52) s l) := by
  have e := V_main_arg0 m c
  blk_point [iblk, e, idx_val t]

theorem blk3 (c : Dev nD) (t : Fin cfg0.N) (r : Fin 8) (b : Fin 1) (ρ : Fin 128) (κ : Fin 512) :
    (iblk m c 3 t : Vec Ideal S8x1x128x512 .f32) (ix4 r b ρ κ) = biasT (m ((c : Thread nD τ).loc main_arg3)) (ValueIdx.ix4 r (⟨t.val / 8 % 8, by omega⟩ : Fin 8) ρ κ) := by
  have e := V_v13 m c
  generalize biasT (m ((c : Thread nD τ).loc main_arg3)) = B at e ⊢
  blk_point [iblk, e, idx_val t]

theorem blk4 (c : Dev nD) (t : Fin cfg0.N) (l : Fin 128) :
    (iblk m c 4 t : Vec Ideal S1x128 .f32) (ix2 (0 : Fin 1) l) = tile2 (m ((c : Thread nD τ).loc main_arg1)) (ValueIdx.ix2 (0 : Fin 1) l) := by
  have e := V_v17 m c
  blk_point [iblk, e, idx_val t]

theorem blk5 (c : Dev nD) (t : Fin cfg0.N) (l : Fin 128) :
    (iblk m c 5 t : Vec Ideal S1x128 .f32) (ix2 (0 : Fin 1) l) = tile2 (m ((c : Thread nD τ).loc main_arg2)) (ValueIdx.ix2 (0 : Fin 1) l) := by
  have e := V_v21 m c
  blk_point [iblk, e, idx_val t]

theorem blk6 (c : Dev nD) (t : Fin cfg0.N) (e l : Fin 128) :
    (iblk m c 6 t : Vec Ideal S128x128 .f32) (ix2 e l) = if e.val / 64 = l.val / 64 then (1 : EReal) else 0 := by
  have h : (iblk m c 6 t : Vec Ideal S128x128 .f32) (ix2 e l) = Ideal.ofBits .f32 (lit0 (S128x128.rowMajor (ValueIdx.ix2 e l))) := by
    have e' := V_cst m c
    show _ = (fun i => Ideal.ofBits .f32 (lit0 (S128x128.rowMajor i))) (ValueIdx.ix2 e l)
    generalize (fun i => Ideal.ofBits .f32 (lit0 (S128x128.rowMajor i))) = B at e' ⊢
    blk_point [iblk, e', idx_val t]
  rw [h, show lit0 (S128x128.rowMajor (ValueIdx.ix2 e l)) = _ from (congrArg lit0 (Fin.ext (Shape.rowMajor_val_two _))).trans (lit0_at e l)]
  by_cases hx : e.val / 64 = l.val / 64
  · rw [if_pos hx, if_pos hx]; exact Ideal.ofBits_one_f32
  · rw [if_neg hx, if_neg hx]; exact Ideal.ofBits_zero_f32

end Cert.AttnIdeal.Hand
-- ==== Proof.NaValue.lean ====
/- The attention kernel's result, element by element. -/
module

public import proofs.«01_k».proof.Proof.NaRow
public import proofs.«01_k».proof.Proof.NaBlk

@[expose] public section

set_option maxRecDepth 16384

noncomputable section

namespace Cert.AttnIdeal.Hand

open Cert.AttnIdeal Cert.AttnIdeal.Gen Cert.NaSpec
open Idealize.ShloMosaic Idealize.ShloMosaic.TcCoe
open View (ld)
open scoped BigOperators

variable (m : (ℓ : Loc nD τ sig) → Buf (Elt Ideal) ℓ)

abbrev aX (c : Dev nD) : XTy := m ((c : Thread nD τ).loc main_arg0)
abbrev aQ (c : Dev nD) : GTy := m ((c : Thread nD τ).loc main_arg1)
abbrev aK (c : Dev nD) : GTy := m ((c : Thread nD τ).loc main_arg2)
abbrev aR (c : Dev nD) : BTy := m ((c : Thread nD τ).loc main_arg3)

theorem ld2 (x : Vec Ideal S128x128 .f32) (e l : Fin 128) :
    (ld x (Rect.unit (s := S128x128) ![0, 0] S128x128.size inb_S128x128_S128x128_0_0) : Vec Ideal S128x128 .f32) (ix2 e l) = x (ix2 e l) := by
  refine congrArg x (funext fun a => Fin.ext ?_)
  match a with
  | ⟨0, _⟩ => show 0 + 1 * e.val = e.val; omega
  | ⟨1, _⟩ => show 0 + 1 * l.val = l.val; omega

theorem ld1 (x : Vec Ideal S1x128 .f32) (l : Fin 128) :
    (ld x (Rect.unit (s := S1x128) ![0, 0] S1x128.size inb_S1x128_S1x128_0_0) : Vec Ideal S1x128 .f32) (ix2 (0 : Fin 1) l) = x (ix2 (0 : Fin 1) l) := by
  refine congrArg x (funext fun a => Fin.ext ?_)
  match a with
  | ⟨0, _⟩ => rfl
  | ⟨1, _⟩ => show 0 + 1 * l.val = l.val; omega

/-- The head of lane `l` of the point's pair. -/
abbrev hh (t : Fin cfg0.N) (l : Fin 128) : Fin 16 := ⟨2 * (t.val / 8 % 8) + l.val / 64, by omega⟩
abbrev bb (t : Fin cfg0.N) : Fin 4 := ⟨t.val / 64, by have := N_lt t; omega⟩

/-- The keys' scratch at a row of the head `l / 64` of the pair. -/
theorem KNs_at (c : Dev nD) (t : Fin cfg0.N) (s : Fin 4096) (l : Fin 128) (d : Fin 64) :
    (KNs m c t.val t.isLt (ix2 s (lane l d)) : EReal) = kn (aX m c) (aK m c) (bb t) (hh t l) s d := by
  have hs := s.isLt
  have hl := l.isLt
  have ht := N_lt t
  have k8 : s.val / 512 < 8 := by omega
  refine Eq.trans (b := (k0_pay2 (ld (iblk m c 6 (t8 t.val t.isLt)) (Rect.unit (s := S128x128) ![0, 0] S128x128.size inb_S128x128_S128x128_0_0))
    (ld (iblk m c 1 (t8 t.val t.isLt)) (Rect.unit (s := S1x1x4096x128) ![0, 0, 512 * (s.val / 512), 0] S1x1x512x128.size (inb_k ⟨s.val / 512, k8⟩)))
    (ld (iblk m c 5 (t8 t.val t.isLt)) (Rect.unit (s := S1x128) ![0, 0] S1x128.size inb_S1x128_S1x128_0_0)) (ix2 (⟨s.val % 512, by omega⟩ : Fin 512) (lane l d)) : EReal)) ?_ ?_
  · unfold KNs KN knRow
    refine congrArg (k0_pay2 _ _ _) (funext fun a => Fin.ext ?_)
    match a with
    | ⟨0, _⟩ => rfl
    | ⟨1, _⟩ => rfl
  rw [krow _ (fun e l => (ld2 _ e l).trans (blk6 m c _ e l)) _ _ (gain (aK m c)) (fun l => (ld1 _ l).trans ((blk5 m c _ l).trans (tile2_at _ l)))]
  unfold kn
  refine congrArg (fun x => nrm x (gain (aK m c)) d) (funext fun d' => ?_)
  have e1 : (ld (iblk m c 1 (t8 t.val t.isLt)) (Rect.unit (s := S1x1x4096x128) ![0, 0, 512 * (s.val / 512), 0] S1x1x512x128.size (inb_k ⟨s.val / 512, k8⟩)) : Vec Ideal S1x1x512x128 .bf16)
      (ix4 (0 : Fin 1) (0 : Fin 1) (⟨s.val % 512, by omega⟩ : Fin 512) (lane l d')) = (iblk m c 1 (t8 t.val t.isLt) : Vec Ideal S1x1x4096x128 .bf16) (ix4 (0 : Fin 1) (0 : Fin 1) s (lane l d')) := by
    refine congrArg (iblk m c 1 (t8 t.val t.isLt)) (funext fun a => Fin.ext ?_)
    match a with
    | ⟨0, _⟩ => rfl
    | ⟨1, _⟩ => rfl
    | ⟨2, _⟩ => show 512 * (s.val / 512) + 1 * (s.val % 512) = s.val; omega
    | ⟨3, _⟩ => show 0 + 1 * (lane l d').val = (lane l d').val; omega
  refine e1.trans ((blk1 m c _ _ _ _ _).trans ?_)
  unfold hd
  refine congrArg (aX m c) (funext fun a => Fin.ext ?_)
  match a with
  | ⟨0, _⟩ => show 8 * (t.val / 8) / 64 = t.val / 64; omega
  | ⟨1, _⟩ => show 36 + 8 * (t.val / 8) / 8 % 8 = 36 + (2 * (t.val / 8 % 8) + l.val / 64) / 2; omega
  | ⟨2, _⟩ => rfl
  | ⟨3, _⟩ => show l.val / 64 * 64 + d'.val = (2 * (t.val / 8 % 8) + l.val / 64) % 2 * 64 + d'.val; omega

/-- The query row's number. -/
abbrev ii (t : Fin cfg0.N) (r : Fin 8) : Fin 64 := ⟨t.val % 8 * 8 + r.val, by omega⟩

set_option maxHeartbeats 1000000 in
theorem rowAt_val (c : Dev nD) (t : Fin cfg0.N) (r : Fin 8) (z : Fin 1) (p : Fin 64) (l : Fin 128) :
    (rowAt (grid0.coords t) (iblk m c 0 t) (iblk m c 2 t) (iblk m c 3 t) (iblk m c 4 t) (iblk m c 6 t) (KNs m c t.val t.isLt) r (ix3 z p l) : EReal)
      = out (aX m c) (aQ m c) (aK m c) (aR m c) (bb t) (hh t l) (ii t r) p ⟨l.val % 64, by omega⟩ := by
  have hl := l.isLt
  have ht := N_lt t
  have hrs := rs_le (ii t r).val
  unfold rowAt out
  rw [row_val]
  refine congr (congrArg att (funext fun κ => ?_)) (funext fun κ => ?_)
  · have hκ := κ.isLt
    have hk : ∀ d : Fin 64, (ld (KNs m c t.val t.isLt) (Rect.unit (s := S4096x128) (k0_off3 (grid0.coords t) (BitVec.ofNat 32 r.val)) S512x128.size (k0_off3_inb (grid0.coords t) r)) : Vec Ideal S512x128 .bf16) (ix2 κ (lane l d))
        = kn (aX m c) (aK m c) (bb t) (hh t l) (key (ii t r) κ) d := fun d => by
      refine Eq.trans (congrArg (KNs m c t.val t.isLt) (funext fun a => Fin.ext ?_)) (KNs_at m c t (key (ii t r) κ) l d)
      match a with
      | ⟨0, _⟩ =>
        refine (congrArg (· + 1 * κ.val) (congrFun (off3 t r) 0)).trans ?_
        show rs (t.val % 8 * 8 + r.val) * 64 + 1 * κ.val = rs (t.val % 8 * 8 + r.val) * 64 + κ.val
        omega
      | ⟨1, _⟩ =>
        refine (congrArg (· + 1 * (lane l d).val) (congrFun (off3 t r) 1)).trans ?_
        show 0 + 1 * (lane l d).val = (lane l d).val
        omega
    have hq : ∀ d : Fin 64, (k0_pay7 (ld (iblk m c 6 t) (Rect.unit (s := S128x128) ![0, 0] S128x128.size inb_S128x128_S128x128_0_0))
          (ld (iblk m c 0 t) (Rect.unit (s := S1x1x512x128) ![0, 0, 64 * r.val, 0] S1x1x64x128.size (inb_q r)))
          (ld (iblk m c 4 t) (Rect.unit (s := S1x128) ![0, 0] S1x128.size inb_S1x128_S1x128_0_0)) (ix2 p (lane l d)) : EReal)
        = qn (aX m c) (aQ m c) (bb t) (hh t l) ⟨(ii t r).val * 64 + p.val, by omega⟩ d := fun d => by
      rw [qrow _ (fun e l => (ld2 _ e l).trans (blk6 m c _ e l)) _ _ (gain (aQ m c)) (fun l => (ld1 _ l).trans ((blk4 m c _ l).trans (tile2_at _ l)))]
      unfold qn
      refine congrArg (fun x => nrm x (gain (aQ m c)) d * c8i) (funext fun d' => ?_)
      refine Eq.trans (b := (iblk m c 0 t : Vec Ideal S1x1x512x128 .bf16) (ix4 (0 : Fin 1) (0 : Fin 1) (⟨64 * r.val + p.val, by omega⟩ : Fin 512) (lane l d'))) ?_ ((blk0 m c _ _ _ _ _).trans ?_)
      · refine congrArg (iblk m c 0 t) (funext fun a => Fin.ext ?_)
        match a with
        | ⟨0, _⟩ => rfl
        | ⟨1, _⟩ => rfl
        | ⟨2, _⟩ => show 64 * r.val + 1 * p.val = 64 * r.val + p.val; omega
        | ⟨3, _⟩ => show 0 + 1 * (lane l d').val = (lane l d').val; omega
      · unfold hd
        refine congrArg (aX m c) (funext fun a => Fin.ext ?_)
        match a with
        | ⟨0, _⟩ => rfl
        | ⟨1, _⟩ => show 28 + t.val / 8 % 8 = 28 + (2 * (t.val / 8 % 8) + l.val / 64) / 2; omega
        | ⟨2, _⟩ => show t.val % 8 * 512 + (64 * r.val + p.val) = (t.val % 8 * 8 + r.val) * 64 + p.val; omega
        | ⟨3, _⟩ => show l.val / 64 * 64 + d'.val = (2 * (t.val / 8 % 8) + l.val / 64) % 2 * 64 + d'.val; omega
    have hb : (ld (iblk m c 3 t) (Rect.unit (s := S8x1x128x512) (k0_off5 (grid0.coords t) (BitVec.ofNat 32 r.val)) S1x1x128x512.size (k0_off5_inb (grid0.coords t) r)) : Vec Ideal S1x1x128x512 .f32) (ix4 (0 : Fin 1) (0 : Fin 1) (lane l p) κ)
        = if vld p κ then aR m c (ValueIdx.ix3 (hh t l) (roff (ii t r) κ) (coff p κ)) else (⊥ : EReal) := by
      have hrel : rs (t.val % 8 * 8 + r.val) + 7 - (t.val % 8 * 8 + r.val) < 8 := by unfold rs; omega
      have hge : t.val % 8 * 8 + r.val ≤ rs (t.val % 8 * 8 + r.val) + 7 := by unfold rs; omega
      refine Eq.trans (b := (iblk m c 3 t : Vec Ideal S8x1x128x512 .f32) (ix4 (⟨rs (t.val % 8 * 8 + r.val) + 7 - (t.val % 8 * 8 + r.val), hrel⟩ : Fin 8) (0 : Fin 1) (lane l p) κ)) ?_ ((blk3 m c _ _ _ _ _).trans ((biasT_at _ _ _ _ _).trans ?_))
      · refine congrArg (iblk m c 3 t) (funext fun a => Fin.ext ?_)
        match a with
        | ⟨0, _⟩ =>
          refine (congrArg (· + 1 * 0) (congrFun (off5 t r) 0)).trans ?_
          rfl
        | ⟨1, _⟩ => rfl
        | ⟨2, _⟩ =>
          refine (congrArg (· + 1 * (lane l p).val) (congrFun (off5 t r) 2)).trans ?_
          show 0 + 1 * (lane l p).val = (lane l p).val
          omega
        | ⟨3, _⟩ =>
          refine (congrArg (· + 1 * κ.val) (congrFun (off5 t r) 3)).trans ?_
          show 0 + 1 * κ.val = κ.val
          omega
      · have ep : (⟨(lane l p).val % 64, by omega⟩ : Fin 64) = p := Fin.ext (by show (l.val / 64 * 64 + p.val) % 64 = p.val; omega)
        rw [ep]
        refine congrArg (fun x => if vld p κ then x else (⊥ : EReal)) (congrArg (aR m c) (funext fun a => Fin.ext ?_))
        match a with
        | ⟨0, _⟩ => show 2 * (t.val / 8 % 8) + (l.val / 64 * 64 + p.val) / 64 = 2 * (t.val / 8 % 8) + l.val / 64; omega
        | ⟨1, _⟩ => show rs (t.val % 8 * 8 + r.val) + 7 - (t.val % 8 * 8 + r.val) + κ.val / 64 = rs (t.val % 8 * 8 + r.val) + κ.val / 64 + 7 - (t.val % 8 * 8 + r.val); omega
        | ⟨2, _⟩ => rfl
    rw [hb]
    unfold sc score
    refine Eq.trans (b := (∑ d : Fin 64, qn (aX m c) (aQ m c) (bb t) (hh t l) ⟨(ii t r).val * 64 + p.val, by omega⟩ d * kn (aX m c) (aK m c) (bb t) (hh t l) (key (ii t r) κ) d)
        + if vld p κ then aR m c (ValueIdx.ix3 (hh t l) (roff (ii t r) κ) (coff p κ)) else (⊥ : EReal))
      (congrArg (· + (if vld p κ then aR m c (ValueIdx.ix3 (hh t l) (roff (ii t r) κ) (coff p κ)) else (⊥ : EReal))) (Finset.sum_congr rfl fun d _ => congr (congrArg HMul.hMul (hq d)) (hk d))) ?_
    by_cases hv : vld p κ
    · rw [if_pos hv, if_pos hv]
    · rw [if_neg hv, if_neg hv]
      exact EReal.add_bot _
  · have hκ := κ.isLt
    refine Eq.trans (b := (iblk m c 2 t : Vec Ideal S1x1x4096x128 .bf16) (ix4 (0 : Fin 1) (0 : Fin 1) (key (ii t r) κ) l)) ?_ ((blk2 m c _ _ _ _ _).trans ?_)
    · refine congrArg (iblk m c 2 t) (funext fun a => Fin.ext ?_)
      match a with
      | ⟨0, _⟩ => rfl
      | ⟨1, _⟩ => rfl
      | ⟨2, _⟩ =>
        refine (congrArg (· + 1 * κ.val) (congrFun (off4 t r) 2)).trans ?_
        show rs (t.val % 8 * 8 + r.val) * 64 + 1 * κ.val = rs (t.val % 8 * 8 + r.val) * 64 + κ.val
        omega
      | ⟨3, _⟩ =>
        refine (congrArg (· + 1 * l.val) (congrFun (off4 t r) 3)).trans ?_
        show 0 + 1 * l.val = l.val
        omega
    · unfold hd
      refine congrArg (aX m c) (funext fun a => Fin.ext ?_)
      match a with
      | ⟨0, _⟩ => rfl
      | ⟨1, _⟩ => show 44 + t.val / 8 % 8 = 44 + (2 * (t.val / 8 % 8) + l.val / 64) / 2; omega
      | ⟨2, _⟩ => rfl
      | ⟨3, _⟩ => show l.val = (2 * (t.val / 8 % 8) + l.val / 64) % 2 * 64 + l.val % 64; omega

/-- The point's block of the result. -/
theorem point (c : Dev nD) (t : Fin cfg0.N) (y : S1x512x128.Idx) :
    (outOf m c t (KNs m c t.val t.isLt) y : EReal)
      = out (aX m c) (aQ m c) (aK m c) (aR m c) (bb t) (hh t ⟨(y 2).val, (y 2).isLt⟩) (ii t ⟨(y 1).val / 64, Nat.div_lt_of_lt_mul (y 1).isLt⟩) ⟨(y 1).val % 64, Nat.mod_lt _ (by decide)⟩ ⟨(y 2).val % 64, Nat.mod_lt _ (by decide)⟩ := by
  have key : ∀ (r : Fin 8) (x : S1x64x128.Idx), (y 1).val = 64 * r.val + (x 1).val → (y 2).val = (x 2).val →
      (rowAt (grid0.coords t) (iblk m c 0 t) (iblk m c 2 t) (iblk m c 3 t) (iblk m c 4 t) (iblk m c 6 t) (KNs m c t.val t.isLt) r x : EReal)
        = out (aX m c) (aQ m c) (aK m c) (aR m c) (bb t) (hh t ⟨(y 2).val, (y 2).isLt⟩) (ii t ⟨(y 1).val / 64, Nat.div_lt_of_lt_mul (y 1).isLt⟩) ⟨(y 1).val % 64, Nat.mod_lt _ (by decide)⟩ ⟨(y 2).val % 64, Nat.mod_lt _ (by decide)⟩ := by
    intro r x h1 h2
    have hx1 : (x 1).val < 64 := (x 1).isLt
    have ex : x = ix3 (⟨(x 0).val, (x 0).isLt⟩ : Fin 1) (⟨(x 1).val, hx1⟩ : Fin 64) (⟨(x 2).val, (x 2).isLt⟩ : Fin 128) := by
      funext a
      match a with
      | ⟨0, _⟩ => rfl
      | ⟨1, _⟩ => rfl
      | ⟨2, _⟩ => rfl
    rw [ex, rowAt_val]
    have e1 : (⟨(y 2).val, (y 2).isLt⟩ : Fin 128) = ⟨(x 2).val, (x 2).isLt⟩ := Fin.ext h2
    have e2 : (⟨(y 1).val / 64, Nat.div_lt_of_lt_mul (y 1).isLt⟩ : Fin 8) = r := Fin.ext (by show (y 1).val / 64 = r.val; omega)
    have e3 : (⟨(y 1).val % 64, Nat.mod_lt _ (by decide)⟩ : Fin 64) = ⟨(x 1).val, hx1⟩ := Fin.ext (by show (y 1).val % 64 = (x 1).val; omega)
    have e4 : (⟨(y 2).val % 64, Nat.mod_lt _ (by decide)⟩ : Fin 64) = ⟨(x 2).val % 64, Nat.mod_lt _ (by decide)⟩ := Fin.ext (by show (y 2).val % 64 = (x 2).val % 64; rw [h2])
    rw [e1, e2, e3, e4]
  unfold outOf pcs pc
  canon_tiles x h using (cover_pcs (F := Ideal) (grid0.coords t) (iblk m c 0 t) (iblk m c 2 t) (iblk m c 3 t) (iblk m c 4 t) (iblk m c 6 t) (KNs m c t.val t.isLt) y)
  all_goals exact key _ x (h1.trans (by first | rfl | exact (Nat.zero_add _).symm)) h2

end Cert.AttnIdeal.Hand
-- ==== Proof.NaRefInt.lean ====
/- The reference's index tables and gathers, read at an index. -/
module

public import proofs.«01_k».proof.Proof.Gen.AttnRefIdeal.Read
public import proofs.«01_k».proof.Proof.NaSpec
public import Idealize.ShloMosaic.Lib.WordCmp

@[expose] public section

set_option maxRecDepth 16384

noncomputable section

namespace Cert.AttnRefIdeal.Hand

open Cert.AttnRefIdeal Cert.AttnRefIdeal.Gen Cert.AttnRefIdeal.Read Cert.NaSpec
open Idealize.ShloMosaic Idealize.ShloMosaic.TcCoe Idealize.ShloMosaic.ValueIdx
open scoped BigOperators

theorem v50_at (i : Fin 64) : val_main_v50 (F := Ideal) (ix2 i (0 : Fin 1)) = BitVec.ofNat 32 (rs i.val) := by
  rw [val_main_v50_apply, val_main_call0_v4_apply, val_main_call0_v2_apply, val_main_call0_v1_apply, val_main_v49_apply,
    val_main_v45_apply, val_main_v48_apply]
  revert i
  decide +kernel

theorem v55_at (i : Fin 64) (w : Fin 8) : val_main_v55 (F := Ideal) (ix2 i w) = BitVec.ofNat 32 (rs i.val + w.val) := by
  have h1 : idx_main_v53 (ix2 i w) = ix2 i (0 : Fin 1) := by funext a; match a with | ⟨0, _⟩ => rfl | ⟨1, _⟩ => rfl
  have h2 : val_main_v52 (F := Ideal) (idx_main_v54 (ix2 i w)) = BitVec.ofNat 32 w.val := by
    rw [val_main_v52_apply]; rfl
  rw [val_main_v55_apply, val_main_v53_apply, val_main_v54_apply, h1, v50_at, h2]
  exact (BitVec.ofNat_add ..).symm

theorem v58_at (i : Fin 64) (κ : Fin 512) : val_main_v58 (F := Ideal) (ix2 i κ) = BitVec.ofNat 32 (rs i.val + κ.val / 64) := by
  rw [val_main_v58_apply, val_main_v57_apply, val_main_v56_apply]
  have h : idx_main_v56 (idx_main_v57 (idx_main_v58 (ix2 i κ))) = ix2 i (⟨κ.val / 64, by omega⟩ : Fin 8) := by
    funext a
    match a with
    | ⟨0, _⟩ => exact Fin.ext (by show (i.val * 512 + κ.val) / 512 = i.val; omega)
    | ⟨1, _⟩ => exact Fin.ext (by show (i.val * 512 + κ.val) / 64 % 8 = κ.val / 64; omega)
  rw [h, v55_at]

theorem v62_at (κ : Fin 512) : val_main_v62 (F := Ideal) (ix1 κ) = BitVec.ofNat 32 (κ.val % 64) := by
  rw [val_main_v62_apply, val_main_v61_apply, val_main_v60_apply]
  rfl

theorem v67_at (i : Fin 64) (κ : Fin 512) : val_main_v67 (F := Ideal) (ix2 i κ) = BitVec.ofNat 32 (key i κ).val := by
  have h2 : idx_main_v65 (idx_main_v66 (ix2 i κ)) = ix1 κ := by funext a; match a with | ⟨0, _⟩ => rfl
  rw [val_main_v67_apply, val_main_v64_apply, v58_at, val_main_v63_apply, val_main_v66_apply, val_main_v65_apply, h2, v62_at]
  show BitVec.ofNat 32 (rs i.val + κ.val / 64) * BitVec.ofNat 32 64 + BitVec.ofNat 32 (κ.val % 64) = BitVec.ofNat 32 (rs i.val * 64 + κ.val)
  rw [← BitVec.ofNat_mul, ← BitVec.ofNat_add]
  congr 1
  omega

theorem slt_zero_of (n : Nat) (h : n < 2 ^ 31) : IntOp.cmpi .slt (BitVec.ofNat 32 n) 0#32 = 0#1 := by
  rw [WordCmp.cmpi_slt_zero]
  have : ¬ (2 ^ (32 - 1) ≤ (BitVec.ofNat 32 n).toNat) := by
    rw [BitVec.toNat_ofNat, Nat.mod_eq_of_lt (by omega)]; omega
  rw [decide_eq_false this]; rfl

theorem v116_at (i : Fin 64) (κ : Fin 512) : val_main_v116 (F := Ideal) (ix2 i κ) = BitVec.ofNat 32 (key i κ).val := by
  rw [val_main_v116_apply, val_main_v113_apply, v67_at]
  have : val_main_v112 (F := Ideal) (ix2 i κ) = 0#32 := by rw [val_main_v112_apply]; rfl
  rw [this, slt_zero_of _ (by have := (key i κ).isLt; omega)]
  exact select_zero _ _

theorem v139_at (i : Fin 64) (κ : Fin 512) : val_main_v139 (F := Ideal) (ix2 i κ) = BitVec.ofNat 32 (key i κ).val := by
  rw [val_main_v139_apply, val_main_v136_apply, v67_at]
  have : val_main_v135 (F := Ideal) (ix2 i κ) = 0#32 := by rw [val_main_v135_apply]; rfl
  rw [this, slt_zero_of _ (by have := (key i κ).isLt; omega)]
  exact select_zero _ _

theorem v81_at (c : Fin 64) (κ : Fin 512) : val_main_v81 (F := Ideal) (ix2 c κ) = if vld c κ then 1#1 else 0#1 := by
  have h1 : ∀ κ : Fin 512, val_main_v72 (F := Ideal) (ix2 c κ) = BitVec.ofNat 32 (κ.val % 64) := fun κ => by
    rw [val_main_v72_apply, val_main_v71_apply]
    exact v62_at κ
  have h2 : ∀ κ : Fin 512, val_main_v78 (F := Ideal) (ix2 c κ) = BitVec.ofNat 32 (κ.val % 64) := fun κ => by
    rw [val_main_v78_apply, val_main_v77_apply]
    exact v62_at κ
  rw [val_main_v81_apply, val_main_v74_apply, val_main_v80_apply, h1, h2, val_main_v73_apply, val_main_v79_apply, val_main_v76_apply,
    val_main_v75_apply]
  have h3 : idx_main_v79 (ix2 c κ) = ix2 c (0 : Fin 1) := by funext a; match a with | ⟨0, _⟩ => rfl | ⟨1, _⟩ => rfl
  have h4 : idx_main_v73 (ix2 c κ) = ix2 c (0 : Fin 1) := by funext a; match a with | ⟨0, _⟩ => rfl | ⟨1, _⟩ => rfl
  rw [h3, h4]
  have h5 : ∀ c : Fin 64, val_main_v70 (F := Ideal) (ix2 c (0 : Fin 1)) = BitVec.ofNat 32 (min (c.val - 8) 48) := by
    clear h4 h3 h2 h1 c κ
    intro c
    rw [val_main_v70_apply, val_main_call1_v4_apply, val_main_call1_v2_apply, val_main_call1_v1_apply, val_main_v69_apply,
      val_main_v47_apply, val_main_v68_apply]
    revert c
    decide +kernel
  rw [h5 c]
  have key : ∀ (c k : Fin 64), IntOp.andi (IntOp.cmpi .sge (BitVec.ofNat 32 k.val) (BitVec.ofNat 32 (min (c.val - 8) 48)))
      (IntOp.cmpi .slt (BitVec.ofNat 32 k.val) (IntOp.addi (BitVec.ofNat 32 (min (c.val - 8) 48)) 16#32))
      = if min (c.val - 8) 48 ≤ k.val ∧ k.val < min (c.val - 8) 48 + 16 then 1#1 else 0#1 := by decide +kernel
  exact key c ⟨κ.val % 64, by omega⟩

theorem v96_at (c : Fin 64) (κ : Fin 512) : val_main_v96 (F := Ideal) (ix2 c κ) = BitVec.ofNat 32 (coff c κ).val := by
  have h1 : ∀ κ : Fin 512, val_main_v89 (F := Ideal) (ix2 c κ) = BitVec.ofNat 32 (κ.val % 64) := fun κ => by
    rw [val_main_v89_apply, val_main_v88_apply]
    exact v62_at κ
  have h2 : val_main_v90 (F := Ideal) (ix2 c κ) = BitVec.ofNat 32 c.val := by
    rw [val_main_v90_apply, val_main_v47_apply]; rfl
  rw [val_main_v96_apply, val_main_call2_v4_apply, val_main_call2_v2_apply, val_main_call2_v1_apply, val_main_v95_apply,
    val_main_v93_apply, val_main_v91_apply, h1, h2, val_main_v92_apply, val_main_v94_apply]
  have key : ∀ (c k : Fin 64), IntOp.minsi 30#32 (IntOp.maxsi 0#32 (IntOp.subi (IntOp.addi (IntOp.subi (BitVec.ofNat 32 k.val)
      (BitVec.ofNat 32 c.val)) 16#32) 1#32)) = BitVec.ofNat 32 (min (k.val + 15 - c.val) 30) := by decide +kernel
  exact key c ⟨κ.val % 64, by omega⟩

theorem v87_at (i : Fin 64) (κ : Fin 512) : val_main_v87 (F := Ideal) (ix2 i κ) = BitVec.ofNat 32 (roff i κ).val := by
  have h2 : val_main_v82 (F := Ideal) (ix2 i κ) = BitVec.ofNat 32 i.val := by
    rw [val_main_v82_apply, val_main_v45_apply]; rfl
  rw [val_main_v87_apply, val_main_v85_apply, val_main_v83_apply, h2, v58_at, val_main_v84_apply, val_main_v86_apply]
  have key : ∀ (i : Fin 64) (w : Fin 8), IntOp.subi (IntOp.addi (IntOp.subi (BitVec.ofNat 32 (rs i.val + w.val))
      (BitVec.ofNat 32 i.val)) 8#32) 1#32 = BitVec.ofNat 32 (rs i.val + w.val + 7 - i.val) := by decide +kernel
  exact key i ⟨κ.val / 64, by omega⟩

theorem v109_at (i c : Fin 64) (κ : Fin 512) :
    val_main_v109 (F := Ideal) (ix3 i c κ) = BitVec.ofNat 32 ((roff i κ).val * 31 + (coff c κ).val) := by
  have h104 : val_main_v104 (F := Ideal) (ix3 i c κ) = BitVec.ofNat 32 ((roff i κ).val * 31 + (coff c κ).val) := by
    have h1 : val_main_v98 (F := Ideal) (idx_main_v102 (ix3 i c κ)) = BitVec.ofNat 32 (roff i κ).val := by
      rw [val_main_v98_apply]
      have : idx_main_v98 (idx_main_v102 (ix3 i c κ)) = ix2 i κ := by funext a; match a with | ⟨0, _⟩ => rfl | ⟨1, _⟩ => rfl
      rw [this, v87_at]
    have h2 : val_main_v101 (F := Ideal) (idx_main_v103 (ix3 i c κ)) = BitVec.ofNat 32 (coff c κ).val := by
      rw [val_main_v101_apply]
      have : idx_main_v101 (idx_main_v103 (ix3 i c κ)) = ix2 c κ := by funext a; match a with | ⟨0, _⟩ => rfl | ⟨1, _⟩ => rfl
      rw [this, v96_at]
    rw [val_main_v104_apply, val_main_v102_apply, val_main_v100_apply, h1, val_main_v99_apply, val_main_v103_apply, h2]
    show BitVec.ofNat 32 _ * BitVec.ofNat 32 31 + BitVec.ofNat 32 _ = _
    rw [← BitVec.ofNat_mul, ← BitVec.ofNat_add]
  rw [val_main_v109_apply, val_main_v106_apply, h104]
  have : val_main_v105 (F := Ideal) (ix3 i c κ) = 0#32 := by rw [val_main_v105_apply]; rfl
  rw [this, slt_zero_of _ (by have := (roff i κ).isLt; have := (coff c κ).isLt; omega)]
  exact select_zero _ _

theorem toNat_of (n : Nat) (h : n < 2 ^ 31) : (BitVec.ofNat 32 n).toInt.toNat = n := by
  rw [BitVec.toInt_eq_toNat_cond, BitVec.toNat_ofNat, Nat.mod_eq_of_lt (by omega), if_pos (by omega)]
  rfl

theorem gather_bias {α : Type} (x : S16x465.Idx → α) (idx : IVec S64x64x512x1 32) (h : Fin 16) (i c : Fin 64) (κ : Fin 512) (n : Fin 465)
    (hn : idx (ix4 i c κ (0 : Fin 1)) = BitVec.ofNat 32 n.val) :
    Host.gather gather_S16x465_S64x64x512x1_S16x64x64x512_0_1_n_n_1_3_161 x idx (ix4 h i c κ) = x (ix2 h n) := by
  unfold Host.gather
  refine congrArg x (funext fun a => Fin.ext ?_)
  set d := gather_S16x465_S64x64x512x1_S16x64x64x512_0_1_n_n_1_3_161 with hd
  have hsi : d.siIdx (ix4 h i c κ) ⟨0, by decide⟩ = ix4 i c κ (0 : Fin 1) := by
    funext b
    apply Fin.ext
    match b with
    | ⟨0, _⟩ => rfl
    | ⟨1, _⟩ => rfl
    | ⟨2, _⟩ => rfl
    | ⟨3, _⟩ => rfl
  match a with
  | ⟨0, _⟩ =>
    show d.start (ix4 h i c κ) idx 0 + d.batchCoord (ix4 h i c κ) 0 + d.offCoord (ix4 h i c κ) 0 = h.val
    rw [d.batchCoord_eq_zero _ _ (by decide)]
    have e : d.offCoord (ix4 h i c κ) 0 = h.val := rfl
    have e' : d.start (ix4 h i c κ) idx 0 ≤ 0 := d.start_le _ idx 0
    rw [e]
    omega
  | ⟨1, _⟩ =>
    show d.start (ix4 h i c κ) idx 1 + d.batchCoord (ix4 h i c κ) 1 + d.offCoord (ix4 h i c κ) 1 = n.val
    rw [d.batchCoord_eq_zero _ _ (by decide)]
    have e : d.offCoord (ix4 h i c κ) 1 = 0 := rfl
    have e' : d.start (ix4 h i c κ) idx 1 = min (idx (d.siIdx (ix4 h i c κ) ⟨0, by decide⟩)).toInt.toNat 464 := rfl
    rw [e, e', hsi, hn, toNat_of _ (by omega)]
    omega

theorem gather_key {α : Type} (x : S4x16x4096x64.Idx → α) (idx : IVec S64x512x1 32) (b : Fin 4) (h : Fin 16) (i : Fin 64) (κ : Fin 512)
    (e : Fin 64) (n : Fin 4096) (hn : idx (ix3 i κ (0 : Fin 1)) = BitVec.ofNat 32 n.val) :
    Host.gather gather_S4x16x4096x64_S64x512x1_S4x16x64x512x64_014_2_n_n_2_2_416164 x idx (ix5 b h i κ e) = x (ix4 b h n e) := by
  unfold Host.gather
  refine congrArg x (funext fun a => Fin.ext ?_)
  set d := gather_S4x16x4096x64_S64x512x1_S4x16x64x512x64_014_2_n_n_2_2_416164 with hd
  have hsi : d.siIdx (ix5 b h i κ e) ⟨0, by decide⟩ = ix3 i κ (0 : Fin 1) := by
    funext b
    apply Fin.ext
    match b with
    | ⟨0, _⟩ => rfl
    | ⟨1, _⟩ => rfl
    | ⟨2, _⟩ => rfl
  match a with
  | ⟨0, _⟩ =>
    show d.start (ix5 b h i κ e) idx 0 + d.batchCoord (ix5 b h i κ e) 0 + d.offCoord (ix5 b h i κ e) 0 = b.val
    rw [d.batchCoord_eq_zero _ _ (by decide)]
    have e1 : d.offCoord (ix5 b h i κ e) 0 = b.val := rfl
    have e' : d.start (ix5 b h i κ e) idx 0 ≤ 0 := d.start_le _ idx 0
    rw [e1]
    omega
  | ⟨1, _⟩ =>
    show d.start (ix5 b h i κ e) idx 1 + d.batchCoord (ix5 b h i κ e) 1 + d.offCoord (ix5 b h i κ e) 1 = h.val
    rw [d.batchCoord_eq_zero _ _ (by decide)]
    have e1 : d.offCoord (ix5 b h i κ e) 1 = h.val := rfl
    have e' : d.start (ix5 b h i κ e) idx 1 ≤ 0 := d.start_le _ idx 1
    rw [e1]
    omega
  | ⟨2, _⟩ =>
    show d.start (ix5 b h i κ e) idx 2 + d.batchCoord (ix5 b h i κ e) 2 + d.offCoord (ix5 b h i κ e) 2 = n.val
    rw [d.batchCoord_eq_zero _ _ (by decide)]
    have e1 : d.offCoord (ix5 b h i κ e) 2 = 0 := rfl
    have e' : d.start (ix5 b h i κ e) idx 2 = min (idx (d.siIdx (ix5 b h i κ e) ⟨0, by decide⟩)).toInt.toNat 4095 := rfl
    rw [e1, e', hsi, hn, toNat_of _ (by omega)]
    omega
  | ⟨3, _⟩ =>
    show d.start (ix5 b h i κ e) idx 3 + d.batchCoord (ix5 b h i κ e) 3 + d.offCoord (ix5 b h i κ e) 3 = e.val
    rw [d.batchCoord_eq_zero _ _ (by decide)]
    have e1 : d.offCoord (ix5 b h i κ e) 3 = e.val := rfl
    have e' : d.start (ix5 b h i κ e) idx 3 ≤ 0 := d.start_le _ idx 3
    rw [e1]
    omega

end Cert.AttnRefIdeal.Hand

end
-- ==== Proof.NaRefVal.lean ====
/- The attention's reference, read at an index: `NaSpec.out` of the head of the lane and the token's row and column. -/
module

public import proofs.«01_k».proof.Proof.NaRefInt

@[expose] public section

set_option maxRecDepth 16384

noncomputable section

namespace Cert.AttnRefIdeal.Hand

open Cert.AttnRefIdeal Cert.AttnRefIdeal.Gen Cert.AttnRefIdeal.Read Cert.NaSpec
open Idealize.ShloMosaic Idealize.ShloMosaic.TcCoe Idealize.ShloMosaic.ValueIdx
open scoped BigOperators

variable (X : XTy) (Q K : GTy) (R : BTy)

theorem idx4_at (b : Fin 4) (h : Fin 16) (s : Fin 4096) (d : Fin 64) :
    idx_main_v3 (idx_main_v4 (ix4 b h s d)) = ix5 b (⟨h.val / 2, by omega⟩ : Fin 8) s (⟨h.val % 2, by omega⟩ : Fin 2) d := by
  funext a
  match a with
  | ⟨0, _⟩ => exact Fin.ext (by show (((b.val * 16 + h.val) * 4096 + s.val) * 64 + d.val) / 4194304 = b.val; omega)
  | ⟨1, _⟩ => exact Fin.ext (by show (((b.val * 16 + h.val) * 4096 + s.val) * 64 + d.val) / 524288 % 8 = h.val / 2; omega)
  | ⟨2, _⟩ => exact Fin.ext (by show (((b.val * 16 + h.val) * 4096 + s.val) * 64 + d.val) / 64 % 4096 = s.val; omega)
  | ⟨3, _⟩ => exact Fin.ext (by show (((b.val * 16 + h.val) * 4096 + s.val) * 64 + d.val) / 262144 % 2 = h.val % 2; omega)
  | ⟨4, _⟩ => exact Fin.ext (by show (((b.val * 16 + h.val) * 4096 + s.val) * 64 + d.val) % 64 = d.val; omega)

theorem idx2_at (b : Fin 4) (g : Fin 8) (s : Fin 4096) (t : Fin 2) (d : Fin 64) :
    idx_main_v2 (ix5 b g s t d) = ix4 b g s (⟨t.val * 64 + d.val, by omega⟩ : Fin 128) := by
  funext a
  match a with
  | ⟨0, _⟩ => exact Fin.ext (by show ((((b.val * 8 + g.val) * 4096 + s.val) * 2 + t.val) * 64 + d.val) / 4194304 = b.val; omega)
  | ⟨1, _⟩ => exact Fin.ext (by show ((((b.val * 8 + g.val) * 4096 + s.val) * 2 + t.val) * 64 + d.val) / 524288 % 8 = g.val; omega)
  | ⟨2, _⟩ => exact Fin.ext (by show ((((b.val * 8 + g.val) * 4096 + s.val) * 2 + t.val) * 64 + d.val) / 128 % 4096 = s.val; omega)
  | ⟨3, _⟩ => exact Fin.ext (by show ((((b.val * 8 + g.val) * 4096 + s.val) * 2 + t.val) * 64 + d.val) % 128 = t.val * 64 + d.val; omega)

theorem v4_at (b : Fin 4) (h : Fin 16) (s : Fin 4096) (d : Fin 64) : val_main_v4 (F := Ideal) X (ix4 b h s d) = hd X 28 b h s d := by
  rw [val_main_v4_apply, val_main_v3_apply, idx4_at, val_main_v2_apply, idx2_at, val_main_v1_apply, val_main_v0_apply]
  refine congrArg X (funext fun a => ?_)
  match a with
  | ⟨0, _⟩ => exact Fin.ext rfl
  | ⟨1, _⟩ => exact Fin.ext (by show _ = 28 + h.val / 2; rfl)
  | ⟨2, _⟩ => exact Fin.ext rfl
  | ⟨3, _⟩ => exact Fin.ext rfl

theorem v24_at (b : Fin 4) (h : Fin 16) (s : Fin 4096) (d : Fin 64) : val_main_v24 (F := Ideal) X (ix4 b h s d) = hd X 36 b h s d := by
  have e1 : idx_main_v23 (idx_main_v24 (ix4 b h s d)) = ix5 b (⟨h.val / 2, by omega⟩ : Fin 8) s (⟨h.val % 2, by omega⟩ : Fin 2) d := idx4_at b h s d
  have e2 : ∀ (g : Fin 8) (t : Fin 2), idx_main_v22 (ix5 b g s t d) = ix4 b g s (⟨t.val * 64 + d.val, by omega⟩ : Fin 128) := fun g t => idx2_at b g s t d
  rw [val_main_v24_apply, val_main_v23_apply, e1, val_main_v22_apply, e2, val_main_v21_apply, val_main_v20_apply]
  refine congrArg X (funext fun a => ?_)
  match a with
  | ⟨0, _⟩ => exact Fin.ext rfl
  | ⟨1, _⟩ => exact Fin.ext (by show _ = 36 + h.val / 2; rfl)
  | ⟨2, _⟩ => exact Fin.ext rfl
  | ⟨3, _⟩ => exact Fin.ext rfl

theorem v42_at (b : Fin 4) (h : Fin 16) (s : Fin 4096) (d : Fin 64) : val_main_v42 (F := Ideal) X (ix4 b h s d) = hd X 44 b h s d := by
  have e1 : idx_main_v41 (idx_main_v42 (ix4 b h s d)) = ix5 b (⟨h.val / 2, by omega⟩ : Fin 8) s (⟨h.val % 2, by omega⟩ : Fin 2) d := idx4_at b h s d
  have e2 : ∀ (g : Fin 8) (t : Fin 2), idx_main_v40 (ix5 b g s t d) = ix4 b g s (⟨t.val * 64 + d.val, by omega⟩ : Fin 128) := fun g t => idx2_at b g s t d
  rw [val_main_v42_apply, val_main_v41_apply, e1, val_main_v40_apply, e2, val_main_v39_apply, val_main_v38_apply]
  refine congrArg X (funext fun a => ?_)
  match a with
  | ⟨0, _⟩ => exact Fin.ext rfl
  | ⟨1, _⟩ => exact Fin.ext (by show _ = 44 + h.val / 2; rfl)
  | ⟨2, _⟩ => exact Fin.ext rfl
  | ⟨3, _⟩ => exact Fin.ext rfl

theorem v17_at (b : Fin 4) (h : Fin 16) (s : Fin 4096) (d : Fin 64) :
    val_main_v17 (F := Ideal) X Q (ix4 b h s d) = nrm (hd X 28 b h s) (gain Q) d := by
  have e13 : idx_main_v7 (idx_main_v13 (ix4 b h s d)) = ix3 b h s := by funext a; match a with | ⟨0, _⟩ => rfl | ⟨1, _⟩ => rfl | ⟨2, _⟩ => rfl
  have e15 : idx_main_v15 (idx_main_v16 (ix4 b h s d)) = ix1 d := by funext a; match a with | ⟨0, _⟩ => rfl
  have e6 : ∀ k, idx_main_v6 (ix3 b h s) k = ix4 b h s k := fun k => by
    funext a; match a with | ⟨0, _⟩ => rfl | ⟨1, _⟩ => rfl | ⟨2, _⟩ => rfl | ⟨3, _⟩ => rfl
  rw [val_main_v17_apply, val_main_v14_apply, v4_at, val_main_v13_apply, val_main_v12_apply, val_main_v11_apply, val_main_v9_apply,
    val_main_v7_apply, e13, val_main_v6_apply, val_main_v16_apply, val_main_v15_apply, e15, val_main_v8_apply, val_main_v10_apply,
    val_main_cst_apply, val_main_cst_0_apply, val_main_cst_1_apply]
  simp only [e6, val_main_v5_apply, v4_at]
  show _ * Ideal.rsqrt (Ideal.div (Ideal.ofBits .f32 0x00000000#32 + ∑ k, hd X 28 b h s k * hd X 28 b h s k) c64 + eps) * _ = _
  rw [Ideal.ofBits_zero_f32, zero_add, div_c64]
  rfl

theorem v37_at (b : Fin 4) (h : Fin 16) (s : Fin 4096) (d : Fin 64) :
    val_main_v37 (F := Ideal) X K (ix4 b h s d) = kn X K b h s d := by
  have e13 : idx_main_v27 (idx_main_v33 (ix4 b h s d)) = ix3 b h s := by funext a; match a with | ⟨0, _⟩ => rfl | ⟨1, _⟩ => rfl | ⟨2, _⟩ => rfl
  have e15 : idx_main_v35 (idx_main_v36 (ix4 b h s d)) = ix1 d := by funext a; match a with | ⟨0, _⟩ => rfl
  have e6 : ∀ k, idx_main_v26 (ix3 b h s) k = ix4 b h s k := fun k => by
    funext a; match a with | ⟨0, _⟩ => rfl | ⟨1, _⟩ => rfl | ⟨2, _⟩ => rfl | ⟨3, _⟩ => rfl
  rw [val_main_v37_apply, val_main_v34_apply, v24_at, val_main_v33_apply, val_main_v32_apply, val_main_v31_apply, val_main_v29_apply,
    val_main_v27_apply, e13, val_main_v26_apply, val_main_v36_apply, val_main_v35_apply, e15, val_main_v28_apply, val_main_v30_apply,
    val_main_cst_3_apply, val_main_cst_4_apply, val_main_cst_5_apply]
  simp only [e6, val_main_v25_apply, v24_at]
  show _ * Ideal.rsqrt (Ideal.div (Ideal.ofBits .f32 0x00000000#32 + ∑ k, hd X 36 b h s k * hd X 36 b h s k) c64 + eps) * _ = _
  rw [Ideal.ofBits_zero_f32, zero_add, div_c64]
  rfl

theorem v43_at (b : Fin 4) (h : Fin 16) (i c : Fin 64) (d : Fin 64) :
    val_main_v43 (F := Ideal) X Q (ix5 b h i c d) = qn X Q b h ⟨i.val * 64 + c.val, by omega⟩ d := by
  have e : idx_main_v43 (ix5 b h i c d) = ix4 b h (⟨i.val * 64 + c.val, by omega⟩ : Fin 4096) d := by
    funext a
    match a with
    | ⟨0, _⟩ => exact Fin.ext (by show ((((b.val * 16 + h.val) * 64 + i.val) * 64 + c.val) * 64 + d.val) / 4194304 = b.val; omega)
    | ⟨1, _⟩ => exact Fin.ext (by show ((((b.val * 16 + h.val) * 64 + i.val) * 64 + c.val) * 64 + d.val) / 262144 % 16 = h.val; omega)
    | ⟨2, _⟩ => exact Fin.ext (by show ((((b.val * 16 + h.val) * 64 + i.val) * 64 + c.val) * 64 + d.val) / 64 % 4096 = i.val * 64 + c.val; omega)
    | ⟨3, _⟩ => exact Fin.ext (by show ((((b.val * 16 + h.val) * 64 + i.val) * 64 + c.val) * 64 + d.val) % 64 = d.val; omega)
  rw [val_main_v43_apply, e, val_main_v19_apply, v17_at, val_main_v18_apply]
  rfl

theorem v118_at (b : Fin 4) (h : Fin 16) (i : Fin 64) (κ : Fin 512) (d : Fin 64) :
    val_main_v118 (F := Ideal) X K (ix5 b h i κ d) = kn X K b h (key i κ) d := by
  have e : val_main_v117 (F := Ideal) (ix3 i κ (0 : Fin 1)) = BitVec.ofNat 32 (key i κ).val := by
    rw [val_main_v117_apply]; exact v116_at i κ
  unfold val_main_v118
  rw [gather_key _ _ b h i κ d (key i κ) e, v37_at]

theorem v141_at (b : Fin 4) (h : Fin 16) (i : Fin 64) (κ : Fin 512) (d : Fin 64) :
    val_main_v141 (F := Ideal) X (ix5 b h i κ d) = hd X 44 b h (key i κ) d := by
  have e : val_main_v140 (F := Ideal) (ix3 i κ (0 : Fin 1)) = BitVec.ofNat 32 (key i κ).val := by
    rw [val_main_v140_apply]; exact v139_at i κ
  unfold val_main_v141
  rw [gather_key _ _ b h i κ d (key i κ) e, v42_at]

theorem v111_at (h : Fin 16) (i c : Fin 64) (κ : Fin 512) :
    val_main_v111 (F := Ideal) R (ix4 h i c κ) = R (ix3 h (roff i κ) (coff c κ)) := by
  have hr := (roff i κ).isLt
  have hc := (coff c κ).isLt
  have e : val_main_v110 (F := Ideal) (ix4 i c κ (0 : Fin 1)) = BitVec.ofNat 32 ((roff i κ).val * 31 + (coff c κ).val) := by
    rw [val_main_v110_apply]; exact v109_at i c κ
  unfold val_main_v111
  rw [gather_bias _ _ h i c κ ⟨(roff i κ).val * 31 + (coff c κ).val, by omega⟩ e, val_main_v97_apply]
  refine congrArg R (funext fun a => ?_)
  match a with
  | ⟨0, _⟩ => exact Fin.ext (by show (h.val * 465 + ((roff i κ).val * 31 + (coff c κ).val)) / 465 = h.val; omega)
  | ⟨1, _⟩ => exact Fin.ext (by show (h.val * 465 + ((roff i κ).val * 31 + (coff c κ).val)) / 31 % 15 = (roff i κ).val; omega)
  | ⟨2, _⟩ => exact Fin.ext (by show (h.val * 465 + ((roff i κ).val * 31 + (coff c κ).val)) % 31 = (coff c κ).val; omega)

theorem v123_at (b : Fin 4) (h : Fin 16) (i c : Fin 64) (κ : Fin 512) :
    val_main_v123 (F := Ideal) X Q K R (ix5 b h i c κ) = sc X Q K R b h i c κ := by
  have e1 : val_main_call3_v1 (F := Ideal) (ix5 b h i c κ) = if vld c κ then 1#1 else 0#1 := by
    rw [val_main_call3_v1_apply]; exact v81_at c κ
  have e2 : val_main_call3_v2 (F := Ideal) (ix5 b h i c κ) = ⊥ := by
    rw [val_main_call3_v2_apply]
    show Ideal.ofBits .f32 0xFF800000#32 = ⊥
    simp [Ideal.ofBits, Ideal.ieee]
  have e3 : val_main_v121 (F := Ideal) R (ix5 b h i c κ) = R (ix3 h (roff i κ) (coff c κ)) := by
    rw [val_main_v121_apply, val_main_v120_apply]
    have : idx_main_v120 (idx_main_v121 (ix5 b h i c κ)) = ix4 h i c κ := by
      funext a; match a with | ⟨0, _⟩ => rfl | ⟨1, _⟩ => rfl | ⟨2, _⟩ => rfl | ⟨3, _⟩ => rfl
    rw [this, v111_at]
  have e4 : ∀ k, lidx_main_v119 (ix5 b h i c κ) k = ix5 b h i c k := fun k => by
    funext a; match a with | ⟨0, _⟩ => rfl | ⟨1, _⟩ => rfl | ⟨2, _⟩ => rfl | ⟨3, _⟩ => rfl | ⟨4, _⟩ => rfl
  have e5 : ∀ k, ridx_main_v119 (ix5 b h i c κ) k = ix5 b h i κ k := fun k => by
    funext a; match a with | ⟨0, _⟩ => rfl | ⟨1, _⟩ => rfl | ⟨2, _⟩ => rfl | ⟨3, _⟩ => rfl | ⟨4, _⟩ => rfl
  rw [val_main_v123_apply, e1, e2, val_main_v122_apply, val_main_v119_apply, e3]
  simp only [e4, e5, v43_at, v118_at]
  unfold sc score
  split
  · exact select_one _ _
  · exact select_zero _ _

theorem v126_at (b : Fin 4) (h : Fin 16) (i c : Fin 64) :
    val_main_v126 (F := Ideal) X Q K R (ix4 b h i c) = top (sc X Q K R b h i c) := by
  have e1 : val_main_v125 (F := Ideal) (ix4 b h i c) = (⊥ : EReal) := by
    rw [val_main_v125_apply]
    show Ideal.ofBits .f32 0xFF800000#32 = ⊥
    simp [Ideal.ofBits, Ideal.ieee]
  have e2 : val_main_v124 (F := Ideal) X Q K R (ix4 b h i c) = top (sc X Q K R b h i c) := by
    unfold val_main_v124
    have hred : S4x16x64x64x512.Reduces [4] S4x16x64x64 := by decide
    rw [Host.reduce_eq_fold_single _ _ _ reducesTo_S4x16x64x64x512_S4x16x64x64_d4 hred]
    have e3 : (val_main_v123 (F := Ideal) X Q K R ∘ hred.lift (ix4 b h i c)) = sc X Q K R b h i c := by
      funext κ
      have e0 : hred.lift (ix4 b h i c) κ = ix5 b h i c κ := by
        funext a; match a with | ⟨0, _⟩ => rfl | ⟨1, _⟩ => rfl | ⟨2, _⟩ => rfl | ⟨3, _⟩ => rfl | ⟨4, _⟩ => rfl
      exact (congrArg (val_main_v123 (F := Ideal) X Q K R) e0).trans (v123_at X Q K R b h i c κ)
    rw [e3]
    have e4 : val_main_cst_25 (F := Ideal) (Shape.Idx.first h_S_) = (⊥ : EReal) := by
      show Ideal.ofBits .f32 0xFF800000#32 = ⊥
      simp [Ideal.ofBits, Ideal.ieee]
    rw [e4]
    rfl
  rw [val_main_v126_apply, e1, e2]
  exact max_eq_right bot_le

theorem v130_at (b : Fin 4) (h : Fin 16) (i c : Fin 64) (κ : Fin 512) :
    val_main_v130 (F := Ideal) X Q K R (ix5 b h i c κ) = wt (sc X Q K R b h i c) κ := by
  have e : idx_main_v127 (idx_main_v128 (ix5 b h i c κ)) = ix4 b h i c := by
    funext a; match a with | ⟨0, _⟩ => rfl | ⟨1, _⟩ => rfl | ⟨2, _⟩ => rfl | ⟨3, _⟩ => rfl
  rw [val_main_v130_apply, val_main_v129_apply, v123_at, val_main_v128_apply, val_main_v127_apply, e, v126_at]
  rfl

theorem v142_at (b : Fin 4) (h : Fin 16) (i c d : Fin 64) :
    val_main_v142 (F := Ideal) X Q K R (ix5 b h i c d)
      = ∑ κ, Ideal.div (wt (sc X Q K R b h i c) κ) (∑ κ', wt (sc X Q K R b h i c) κ') * hd X 44 b h (key i κ) d := by
  have e1 : ∀ κ, lidx_main_v142 (ix5 b h i c d) κ = ix5 b h i c κ := fun κ => by
    funext a; match a with | ⟨0, _⟩ => rfl | ⟨1, _⟩ => rfl | ⟨2, _⟩ => rfl | ⟨3, _⟩ => rfl | ⟨4, _⟩ => rfl
  have e2 : ∀ κ, ridx_main_v142 (ix5 b h i c d) κ = ix5 b h i κ d := fun κ => by
    funext a; match a with | ⟨0, _⟩ => rfl | ⟨1, _⟩ => rfl | ⟨2, _⟩ => rfl | ⟨3, _⟩ => rfl | ⟨4, _⟩ => rfl
  have e3 : ∀ κ, val_main_v133 (F := Ideal) X Q K R (ix5 b h i c κ) = ∑ κ', wt (sc X Q K R b h i c) κ' := fun κ => by
    have e : idx_main_v132 (idx_main_v133 (ix5 b h i c κ)) = ix4 b h i c := by
      funext a; match a with | ⟨0, _⟩ => rfl | ⟨1, _⟩ => rfl | ⟨2, _⟩ => rfl | ⟨3, _⟩ => rfl
    have e' : ∀ k, idx_main_v131 (ix4 b h i c) k = ix5 b h i c k := fun k => by
      funext a; match a with | ⟨0, _⟩ => rfl | ⟨1, _⟩ => rfl | ⟨2, _⟩ => rfl | ⟨3, _⟩ => rfl | ⟨4, _⟩ => rfl
    rw [val_main_v133_apply, val_main_v132_apply, e, val_main_v131_apply, val_main_cst_27_apply]
    simp only [e', v130_at]
    show Ideal.ofBits .f32 0x00000000#32 + _ = _
    rw [Ideal.ofBits_zero_f32, zero_add]
  rw [val_main_v142_apply]
  simp only [e1, e2, val_main_v134_apply, v130_at, e3, v141_at]
  rfl

/-- The reference's element. -/
theorem v145_at (hQ : ∀ j, IsReal (Q j)) (hK : ∀ j, IsReal (K j)) (hR : ∀ j, IsReal (R j)) (b : Fin 4) (s : Fin 4096) (l : Fin 1024) :
    val_main_v145 (F := Ideal) X Q K R (ix3 b s l)
      = out X Q K R b ⟨l.val / 64, by omega⟩ ⟨s.val / 64, by omega⟩ ⟨s.val % 64, by omega⟩ ⟨l.val % 64, by omega⟩ := by
  have e : idx_main_v143 (idx_main_v144 (ix3 b s l))
      = ix5 b (⟨l.val / 64, by omega⟩ : Fin 16) (⟨s.val / 64, by omega⟩ : Fin 64) (⟨s.val % 64, by omega⟩ : Fin 64) (⟨l.val % 64, by omega⟩ : Fin 64) := by
    funext a
    match a with
    | ⟨0, _⟩ => exact Fin.ext (by show ((b.val * 4096 + s.val) * 1024 + l.val) / 4194304 = b.val; omega)
    | ⟨1, _⟩ => exact Fin.ext (by show ((b.val * 4096 + s.val) * 1024 + l.val) / 64 % 16 = l.val / 64; omega)
    | ⟨2, _⟩ => exact Fin.ext (by show ((b.val * 4096 + s.val) * 1024 + l.val) / 65536 % 64 = s.val / 64; omega)
    | ⟨3, _⟩ => exact Fin.ext (by show ((b.val * 4096 + s.val) * 1024 + l.val) / 1024 % 64 = s.val % 64; omega)
    | ⟨4, _⟩ => exact Fin.ext (by show ((b.val * 4096 + s.val) * 1024 + l.val) % 64 = l.val % 64; omega)
  rw [val_main_v145_apply, val_main_v144_apply, val_main_v143_apply, e, v142_at, ← out_eq X Q K R hQ hK hR]
  rfl

end Cert.AttnRefIdeal.Hand

end
-- ==== Proof.NaClaims.lean ====
/- The claims about the neighbourhood attention. -/
module

public import proofs.«01_k».proof.Defs
public import proofs.«01_k».proof.Proof.NbFrame
public import proofs.«01_k».proof.Proof.NaValue
public import proofs.«01_k».proof.Proof.NaRefVal
public import proofs.«01_k».proof.Proof.Gen.AttnRefIdeal.Run
public import proofs.«01_k».proof.Proof.Gen.Pre_pre_na
public import Idealize.ShloMosaic.Lib.ReduceAll

@[expose] public section

set_option maxRecDepth 16384

noncomputable section

namespace Cert.AttnIdeal.Hand

open Cert.AttnIdeal Cert.AttnIdeal.Gen Cert.NaSpec
open Idealize.ShloMosaic Idealize.ShloMosaic.TcCoe

variable (m : (ℓ : Loc nD τ sig) → Buf (Elt Ideal) ℓ)

/-- The result array after the launch is the reference's. -/
theorem final (c : Dev nD) (hQ : ∀ j, IsReal (aQ m c j)) (hK : ∀ j, IsReal (aK m c j)) (hR : ∀ j, IsReal (aR m c j)) :
    (dats m 0 c).arrAt 7 (cfgs 0).N = Cert.AttnRefIdeal.Read.val_main_v145 (F := Ideal) (aX m c) (aQ m c) (aK m c) (aR m c) := by
  refine (dats m 0 c).arrAt_eq_of_covers 7 _ (by decide +kernel) fun t hf y => ?_
  blk_simp
  rw [after0_7]
  refine (point m c t y).trans ?_
  have ht := N_lt t
  have hy1 : (y 1).val < 512 := (y 1).isLt
  have hy2 : (y 2).val < 128 := (y 2).isLt
  have e : ((cfg0.win 7).blk t).view.emb y = ValueIdx.ix3 (⟨t.val / 64, by omega⟩ : Fin 4) (⟨t.val % 8 * 512 + (y 1).val, by omega⟩ : Fin 4096) (⟨t.val / 8 % 8 * 128 + (y 2).val, by omega⟩ : Fin 1024) := by
    blk_ext [idx_val t]
  refine Eq.trans ?_ (congrArg (Cert.AttnRefIdeal.Read.val_main_v145 (F := Ideal) (aX m c) (aQ m c) (aK m c) (aR m c)) e).symm
  refine Eq.trans ?_ (Cert.AttnRefIdeal.Hand.v145_at (aX m c) (aQ m c) (aK m c) (aR m c) hQ hK hR _ _ _).symm
  have e1 : hh t ⟨(y 2).val, (y 2).isLt⟩ = (⟨(t.val / 8 % 8 * 128 + (y 2).val) / 64, by omega⟩ : Fin 16) := Fin.ext (by show 2 * (t.val / 8 % 8) + (y 2).val / 64 = (t.val / 8 % 8 * 128 + (y 2).val) / 64; omega)
  have e2 : ii t ⟨(y 1).val / 64, Nat.div_lt_of_lt_mul (y 1).isLt⟩ = (⟨(t.val % 8 * 512 + (y 1).val) / 64, by omega⟩ : Fin 64) := Fin.ext (by show t.val % 8 * 8 + (y 1).val / 64 = (t.val % 8 * 512 + (y 1).val) / 64; omega)
  have e3 : (⟨(y 1).val % 64, Nat.mod_lt _ (by decide)⟩ : Fin 64) = ⟨(t.val % 8 * 512 + (y 1).val) % 64, Nat.mod_lt _ (by decide)⟩ := Fin.ext (by show (y 1).val % 64 = (t.val % 8 * 512 + (y 1).val) % 64; omega)
  have e4 : (⟨(y 2).val % 64, Nat.mod_lt _ (by decide)⟩ : Fin 64) = ⟨(t.val / 8 % 8 * 128 + (y 2).val) % 64, Nat.mod_lt _ (by decide)⟩ := Fin.ext (by show (y 2).val % 64 = (t.val / 8 % 8 * 128 + (y 2).val) % 64; omega)
  rw [e1, e2, e3, e4]

end Cert.AttnIdeal.Hand

namespace Cert.Proof.Na

open Idealize.ShloMosaic Idealize.ShloMosaic.TcCoe Idealize.SL.Sem
open Cert.NaSpec

instance : Subsingleton Cert.Pre_pre_na.S_.Idx := ⟨fun a b => funext fun x => x.elim0⟩

theorem posInf : Ideal.ofBits .f32 0x7F800000#32 = ⊤ := by simp [Ideal.ofBits, Ideal.ieee]

/-- A value whose magnitude is below infinity is a real. -/
theorem real_of_abs (x : EReal) (h : Ideal.cmp .olt (max x (-x)) (Ideal.ofBits .f32 0x7F800000#32) = 1#1) : IsReal x := by
  rw [posInf] at h
  have hlt : max x (-x) < ⊤ := by
    by_contra hn
    have : Ideal.cmp .olt (max x (-x)) ⊤ = 0#1 := by simp [Ideal.cmp, hn]
    rw [this] at h
    exact absurd h (by decide)
  have h1 : x < ⊤ := lt_of_le_of_lt (le_max_left _ _) hlt
  have h2 : -x < ⊤ := lt_of_le_of_lt (le_max_right _ _) hlt
  refine ⟨x.toReal, (EReal.coe_toReal h1.ne ?_).symm⟩
  rintro rfl
  exact absurd h2 (by simp)

theorem real_of_pre (x0 : FVec Ideal Cert.Pre_pre_na.S4x52x4096x128 .bf16) (x1 x2 : FVec Ideal Cert.Pre_pre_na.S64 .f32) (x3 : FVec Ideal Cert.Pre_pre_na.S16x15x31 .f32)
    (h : Cert.Pre_pre_na.fn (F := Ideal) x0 x1 x2 x3 = fun _ => 1#1) :
    (∀ j, IsReal (x1 j)) ∧ (∀ j, IsReal (x2 j)) ∧ ∀ j, IsReal (x3 j) := by
  have h0 := congrFun h (fun x => x.elim0)
  unfold Cert.Pre_pre_na.fn at h0
  obtain ⟨hab, hc⟩ := IntOp.andi_eq_one.1 h0
  obtain ⟨ha, hb⟩ := IntOp.andi_eq_one.1 hab
  exact ⟨fun j => real_of_abs _ (Host.reduce_andi_all _ _ _ _ _ ha j), fun j => real_of_abs _ (Host.reduce_andi_all _ _ _ _ _ hb j),
    fun j => real_of_abs _ (Host.reduce_andi_all _ _ _ _ _ hc j)⟩

theorem frame_attn : Cert.quiescent_Attn (hAttn := Cert.Attn.Gen.facts) := fun m g _ => Cert.Attn.Hand.frame m g

theorem frame_attn_ideal : Cert.quiescent_AttnIdeal (hAttnIdeal := Cert.AttnIdeal.Gen.facts) := fun m g _ => Cert.AttnIdeal.Hand.frame m g

theorem frame_attn_ideal_pre : Cert.quiescent_AttnIdeal_pre_pre_na (hAttnIdeal := Cert.AttnIdeal.Gen.facts) (hPre_pre_na := Cert.Pre_pre_na.Gen.facts) := fun m g _ =>
  Cert.AttnIdeal.Hand.frame m g

theorem frame_attn_ref : Cert.quiescent_AttnRefIdeal (hAttnRefIdeal := Cert.AttnRefIdeal.Gen.facts) := fun m g _ =>
  (θ_run Cert.AttnRefIdeal.defs _ _).mono (fun r h => ⟨fun c => (h c).2, Idealize.ShloMosaic.sem_eq_zero_of_no_sems (by decide) r.2⟩)
    (Cert.AttnRefIdeal.Value.run (F := Ideal) m g)

theorem frame_attn_ref_pre : Cert.quiescent_AttnRefIdeal_pre_pre_na (hAttnRefIdeal := Cert.AttnRefIdeal.Gen.facts) (hPre_pre_na := Cert.Pre_pre_na.Gen.facts) := fun m g _ =>
  (θ_run Cert.AttnRefIdeal.defs _ _).mono (fun r h => ⟨fun c => (h c).2, Idealize.ShloMosaic.sem_eq_zero_of_no_sems (by decide) r.2⟩)
    (Cert.AttnRefIdeal.Value.run (F := Ideal) m g)

/-- The neighbourhood attention: the kernel's launch computes the reference's array. -/
theorem algebraic_attn : Cert.algebraic_AttnIdeal_AttnRefIdeal_pre_pre_na (hAttnIdeal := Cert.AttnIdeal.Gen.facts) (hAttnRefIdeal := Cert.AttnRefIdeal.Gen.facts) (hPre_pre_na := Cert.Pre_pre_na.Gen.facts) := by
  intro m g m' g' hp hagree
  refine ⟨fun c => Cert.AttnRefIdeal.Read.val_main_v145 (F := Ideal) (Cert.AttnIdeal.Hand.aX m c) (Cert.AttnIdeal.Hand.aQ m c) (Cert.AttnIdeal.Hand.aK m c) (Cert.AttnIdeal.Hand.aR m c), ?_, ?_⟩
  · refine (θ_run Cert.AttnIdeal.defs _ _).mono (fun r h c => ⟨((h.1.1 c).1 (7 : Fin 8)).trans ?_, h.2 c⟩)
      (θ_run_and (Cert.AttnIdeal.Hand.run_main_quiescent m g) (Cert.AttnIdeal.Hand.unchanged m g))
    obtain ⟨hQ, hK, hR⟩ := real_of_pre _ _ _ _ (hp c)
    exact Cert.AttnIdeal.Hand.final m c hQ hK hR
  · refine (θ_run Cert.AttnRefIdeal.defs _ _).mono (fun r h c => ?_) (Cert.AttnRefIdeal.Value.run (F := Ideal) m' g')
    obtain ⟨a0, a1, a2, a3⟩ := hagree c
    obtain ⟨h0, hr⟩ := h c
    rw [Cert.AttnRefIdeal.Read.val_main_v145_eq] at h0
    refine ⟨h0.trans ?_, hr⟩
    show Cert.AttnRefIdeal.Read.val_main_v145 (F := Ideal) (m' ((c.tc : Thread Cert.AttnRefIdeal.nD Cert.AttnRefIdeal.τ).loc Cert.AttnRefIdeal.main_arg0))
        (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2))
        (m' ((c.tc : Thread Cert.AttnRefIdeal.nD Cert.AttnRefIdeal.τ).loc Cert.AttnRefIdeal.main_arg3))
      = Cert.AttnRefIdeal.Read.val_main_v145 (F := Ideal) (Cert.AttnIdeal.Hand.aX m c) (Cert.AttnIdeal.Hand.aQ m c) (Cert.AttnIdeal.Hand.aK m c) (Cert.AttnIdeal.Hand.aR m c)
    rw [a0, a1, a2, a3]

end Cert.Proof.Na

end
-- ==== Proof.ModulValue.lean ====
module

public import proofs.«01_k».proof.Defs
public import proofs.«01_k».proof.Proof.Gen.Modul.Frame
public import proofs.«01_k».proof.Proof.Gen.ModulIdeal.Value
public import proofs.«01_k».proof.Proof.Gen.ModulRefIdeal.Read
public import proofs.«01_k».proof.Proof.Gen.ModulRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModulIdeal.Value

open Cert.ModulIdeal Cert.ModulIdeal.Gen
open Cert.ModulRefIdeal.Read

variable (m : (ℓ : Loc nD τ sig) → Buf (Elt Ideal) ℓ)

theorem idx_val : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The modulation, as the reference computes it. -/
abbrev OUT (c : Dev nD) := val_main_v5 (F := Ideal) (m ((c : Thread nD τ).loc main_arg0)) (m ((c : Thread nD τ).loc main_arg1)) (m ((c : Thread nD τ).loc main_arg2))

/-- A point's block of columns is the reference's. -/
theorem point (c : Dev nD) (t : Fin cfg0.N) (y) :
    k0_pay1 (F := Ideal) (iblk m c 0 t) (iblk m c 1 t) (iblk m c 2 t) y = OUT m c (((cfg0.win 3).blk t).view.emb y) := by
  unfold OUT
  pointwise [k0_pay1, val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  blk_point [iblk, V, idx_val t]
  rw [zero_sub]
  blk_point [V, idx_val t]

theorem final (c : Dev nD) : (dats m 0 c).arrAt 3 (cfgs 0).N = OUT m c := by
  refine (dats m 0 c).arrAt_eq_of_covers 3 _ (by decide +kernel) fun t hf y => ?_
  blk_simp; rw [after0_3]
  frame_out
  exact point m c t y

end Cert.ModulIdeal.Value

namespace Cert.Proof.Modul

theorem frame_modul : Cert.quiescent_Modul (hModul := Cert.Modul.Gen.facts) := fun m g _ => Cert.Modul.Gen.frame m g
theorem frame_modul_ideal : Cert.quiescent_ModulIdeal (hModulIdeal := Cert.ModulIdeal.Gen.facts) := fun m g _ => Cert.ModulIdeal.Gen.frame m g
theorem frame_modul_ref : Cert.quiescent_ModulRefIdeal (hModulRefIdeal := Cert.ModulRefIdeal.Gen.facts) := fun m g _ =>
  (θ_run Cert.ModulRefIdeal.defs _ _).mono (fun r h => ⟨fun c => (h c).2, Idealize.ShloMosaic.sem_eq_zero_of_no_sems (by decide) r.2⟩)
    (Cert.ModulRefIdeal.Value.run (F := Ideal) m g)

theorem algebraic_modul : Cert.algebraic_ModulIdeal_ModulRefIdeal (hModulIdeal := Cert.ModulIdeal.Gen.facts) (hModulRefIdeal := Cert.ModulRefIdeal.Gen.facts) := by
  pair_intro
  · run_from Cert.ModulIdeal.Value.run_blocks m g
  · run_from Cert.ModulRefIdeal.Value.run m' g'
    rw [Cert.ModulRefIdeal.Read.val_main_v5_eq]
    exact (Cert.ModulIdeal.Value.final m c).symm

end Cert.Proof.Modul

end
-- ==== Proof.lean ====
/- The proof of the claims about the neighbourhood attention, the routed experts, the input projection, the output projection and the modulation. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpRefIdeal
public import proofs.«01_k».proof.Proof.Gen.ProjIdeal.Value
public import proofs.«01_k».proof.Proof.Gen.OutpIdeal.Value
public import proofs.«01_k».proof.Proof.Gen.ProjRefIdeal.Run
public import proofs.«01_k».proof.Proof.Gen.OutpRefIdeal.Run
public import proofs.«01_k».proof.Proof.Gen.ExpertsRefIdeal.Run
public import proofs.«01_k».proof.Proof.Gen.AttnRefIdeal.Run
public import proofs.«01_k».proof.Proof.Gen.ProjRefIdeal.Read
public import proofs.«01_k».proof.Proof.Gen.OutpRefIdeal.Read
public import proofs.«01_k».proof.Proof.Gen.ExpertsRefIdeal.Read
public import proofs.«01_k».proof.Proof.Gen.AttnRefIdeal.Read
public import proofs.«01_k».proof.Proof.Gen.Pre_pre_na
public import proofs.«01_k».proof.Proof.Gen.Pre_pre_ex
public import proofs.«01_k».proof.Proof.Gen.Modul
public import proofs.«01_k».proof.Proof.Gen.Modul.Skeleton
public import proofs.«01_k».proof.Proof.Gen.Modul.Launch
public import proofs.«01_k».proof.Proof.Gen.Modul.Points
public import proofs.«01_k».proof.Proof.Gen.Modul.Frame
public import proofs.«01_k».proof.Proof.Gen.ModulIdeal
public import proofs.«01_k».proof.Proof.Gen.ModulIdeal.Skeleton
public import proofs.«01_k».proof.Proof.Gen.ModulIdeal.Launch
public import proofs.«01_k».proof.Proof.Gen.ModulIdeal.Points
public import proofs.«01_k».proof.Proof.Gen.ModulIdeal.Frame
public import proofs.«01_k».proof.Proof.Gen.ModulRefIdeal
public import proofs.«01_k».proof.Proof.Gen.ModulIdeal.Value
public import proofs.«01_k».proof.Proof.Gen.ModulRefIdeal.Run
public import proofs.«01_k».proof.Proof.Gen.ModulRefIdeal.Read
public import proofs.«01_k».proof.Proof.DenseClaims
public import proofs.«01_k».proof.Proof.ExpertsClaims
public import proofs.«01_k».proof.Proof.NaClaims
public import proofs.«01_k».proof.Proof.ModulValue
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Experts.Gen.facts, Cert.ExpertsIdeal.Gen.facts, Cert.ExpertsRefIdeal.Gen.facts, Cert.Proj.Gen.facts, Cert.ProjIdeal.Gen.facts, Cert.ProjRefIdeal.Gen.facts, Cert.Outp.Gen.facts, Cert.OutpIdeal.Gen.facts, Cert.OutpRefIdeal.Gen.facts, Cert.Modul.Gen.facts, Cert.ModulIdeal.Gen.facts, Cert.ModulRefIdeal.Gen.facts, Cert.Pre_pre_na.Gen.facts, Cert.Pre_pre_ex.Gen.facts,
  Na.frame_attn, Na.frame_attn_ideal, Na.frame_attn_ideal_pre, Na.frame_attn_ref, Na.frame_attn_ref_pre,
  Exp.frame_experts, Exp.frame_experts_ideal, Exp.frame_experts_ref, Exp.frame_experts_ref_pre,
  Dense.frame_proj, Dense.frame_proj_ideal, Dense.frame_proj_ref, Dense.frame_outp, Dense.frame_outp_ideal, Dense.frame_outp_ref,
  Modul.frame_modul, Modul.frame_modul_ideal, Modul.frame_modul_ref,
  trivial, Na.algebraic_attn, trivial, Exp.algebraic_experts, trivial, Dense.algebraic_proj, trivial, Dense.algebraic_outp,
  trivial, Modul.algebraic_modul⟩

end Cert.Proof

end
